-- ==== Defs.lean ====
def Pre_Conf (m : (ℓ : Loc Cert.Conf.nD Cert.Conf.τ Cert.Conf.sig) → Buf (Elt Bits) ℓ) : Prop :=
  True

def Pre_ConfIdeal (m : (ℓ : Loc Cert.ConfIdeal.nD Cert.ConfIdeal.τ Cert.ConfIdeal.sig) → Buf (Elt Ideal) ℓ) : Prop :=
  True

def Pre_ConfRefIdeal (m : (ℓ : Loc Cert.ConfRefIdeal.nD Cert.ConfRefIdeal.τ Cert.ConfRefIdeal.sig) → Buf (Elt Ideal) ℓ) : Prop :=
  True

def Pre_Scan (m : (ℓ : Loc Cert.Scan.nD Cert.Scan.τ Cert.Scan.sig) → Buf (Elt Bits) ℓ) : Prop :=
  True

def Pre_ScanIdeal (m : (ℓ : Loc Cert.ScanIdeal.nD Cert.ScanIdeal.τ Cert.ScanIdeal.sig) → Buf (Elt Ideal) ℓ) : Prop :=
  True

def Pre_ScanRefIdeal (m : (ℓ : Loc Cert.ScanRefIdeal.nD Cert.ScanRefIdeal.τ Cert.ScanRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def quiescent_Conf [hConf : Cert.Conf.Facts] : Prop :=
  ∀ (m : (ℓ : Loc Cert.Conf.nD Cert.Conf.τ Cert.Conf.sig) → Buf (Elt Bits) ℓ) (g : Dev Cert.Conf.nD → PrngReg), Pre_Conf m →
    θ_run (Cert.Conf.defs (F := Bits)) (onTc (τ := Cert.Conf.τ) (Cert.Conf.main (F := Bits))) ⟨m, fun _ => 0, g⟩ (fun r => (∀ c : Dev Cert.Conf.nD,
      r.2.mem ((c.tc : Thread Cert.Conf.nD Cert.Conf.τ).loc Cert.Conf.main_arg0) = m ((c.tc : Thread Cert.Conf.nD Cert.Conf.τ).loc Cert.Conf.main_arg0)
      ∧ r.2.mem ((c.tc : Thread Cert.Conf.nD Cert.Conf.τ).loc Cert.Conf.main_arg1) = m ((c.tc : Thread Cert.Conf.nD Cert.Conf.τ).loc Cert.Conf.main_arg1)
      ∧ r.2.mem ((c.tc : Thread Cert.Conf.nD Cert.Conf.τ).loc Cert.Conf.main_arg2) = m ((c.tc : Thread Cert.Conf.nD Cert.Conf.τ).loc Cert.Conf.main_arg2)
      ∧ r.2.mem ((c.tc : Thread Cert.Conf.nD Cert.Conf.τ).loc Cert.Conf.main_arg3) = m ((c.tc : Thread Cert.Conf.nD Cert.Conf.τ).loc Cert.Conf.main_arg3)
      ∧ r.2.mem ((c.tc : Thread Cert.Conf.nD Cert.Conf.τ).loc Cert.Conf.main_arg4) = m ((c.tc : Thread Cert.Conf.nD Cert.Conf.τ).loc Cert.Conf.main_arg4)
      ∧ r.2.mem ((c.tc : Thread Cert.Conf.nD Cert.Conf.τ).loc Cert.Conf.main_arg5) = m ((c.tc : Thread Cert.Conf.nD Cert.Conf.τ).loc Cert.Conf.main_arg5)
      ∧ r.2.mem ((c.tc : Thread Cert.Conf.nD Cert.Conf.τ).loc Cert.Conf.main_arg6) = m ((c.tc : Thread Cert.Conf.nD Cert.Conf.τ).loc Cert.Conf.main_arg6)
      ∧ r.2.mem ((c.tc : Thread Cert.Conf.nD Cert.Conf.τ).loc Cert.Conf.main_arg7) = m ((c.tc : Thread Cert.Conf.nD Cert.Conf.τ).loc Cert.Conf.main_arg7)
      ∧ r.2.mem ((c.tc : Thread Cert.Conf.nD Cert.Conf.τ).loc Cert.Conf.main_arg8) = m ((c.tc : Thread Cert.Conf.nD Cert.Conf.τ).loc Cert.Conf.main_arg8)
      ∧ r.2.mem ((c.tc : Thread Cert.Conf.nD Cert.Conf.τ).loc Cert.Conf.main_arg9) = m ((c.tc : Thread Cert.Conf.nD Cert.Conf.τ).loc Cert.Conf.main_arg9)
      ∧ r.2.mem ((c.tc : Thread Cert.Conf.nD Cert.Conf.τ).loc Cert.Conf.main_arg10) = m ((c.tc : Thread Cert.Conf.nD Cert.Conf.τ).loc Cert.Conf.main_arg10)
      ∧ r.2.mem ((c.tc : Thread Cert.Conf.nD Cert.Conf.τ).loc Cert.Conf.main_arg11) = m ((c.tc : Thread Cert.Conf.nD Cert.Conf.τ).loc Cert.Conf.main_arg11)
      ∧ r.2.mem ((c.tc : Thread Cert.Conf.nD Cert.Conf.τ).loc Cert.Conf.main_arg12) = m ((c.tc : Thread Cert.Conf.nD Cert.Conf.τ).loc Cert.Conf.main_arg12)
      ∧ r.2.mem ((c.tc : Thread Cert.Conf.nD Cert.Conf.τ).loc Cert.Conf.main_arg13) = m ((c.tc : Thread Cert.Conf.nD Cert.Conf.τ).loc Cert.Conf.main_arg13)
      ∧ r.2.mem ((c.tc : Thread Cert.Conf.nD Cert.Conf.τ).loc Cert.Conf.main_arg14) = m ((c.tc : Thread Cert.Conf.nD Cert.Conf.τ).loc Cert.Conf.main_arg14))
      ∧ r.2.sem = fun _ => 0)

def quiescent_ConfIdeal [hConfIdeal : Cert.ConfIdeal.Facts] : Prop :=
  ∀ (m : (ℓ : Loc Cert.ConfIdeal.nD Cert.ConfIdeal.τ Cert.ConfIdeal.sig) → Buf (Elt Ideal) ℓ) (g : Dev Cert.ConfIdeal.nD → PrngReg), Pre_ConfIdeal m →
    θ_run (Cert.ConfIdeal.defs (F := Ideal)) (onTc (τ := Cert.ConfIdeal.τ) (Cert.ConfIdeal.main (F := Ideal))) ⟨m, fun _ => 0, g⟩ (fun r => (∀ c : Dev Cert.ConfIdeal.nD,
      r.2.mem ((c.tc : Thread Cert.ConfIdeal.nD Cert.ConfIdeal.τ).loc Cert.ConfIdeal.main_arg0) = m ((c.tc : Thread Cert.ConfIdeal.nD Cert.ConfIdeal.τ).loc Cert.ConfIdeal.main_arg0)
      ∧ r.2.mem ((c.tc : Thread Cert.ConfIdeal.nD Cert.ConfIdeal.τ).loc Cert.ConfIdeal.main_arg1) = m ((c.tc : Thread Cert.ConfIdeal.nD Cert.ConfIdeal.τ).loc Cert.ConfIdeal.main_arg1)
      ∧ r.2.mem ((c.tc : Thread Cert.ConfIdeal.nD Cert.ConfIdeal.τ).loc Cert.ConfIdeal.main_arg2) = m ((c.tc : Thread Cert.ConfIdeal.nD Cert.ConfIdeal.τ).loc Cert.ConfIdeal.main_arg2)
      ∧ r.2.mem ((c.tc : Thread Cert.ConfIdeal.nD Cert.ConfIdeal.τ).loc Cert.ConfIdeal.main_arg3) = m ((c.tc : Thread Cert.ConfIdeal.nD Cert.ConfIdeal.τ).loc Cert.ConfIdeal.main_arg3)
      ∧ r.2.mem ((c.tc : Thread Cert.ConfIdeal.nD Cert.ConfIdeal.τ).loc Cert.ConfIdeal.main_arg4) = m ((c.tc : Thread Cert.ConfIdeal.nD Cert.ConfIdeal.τ).loc Cert.ConfIdeal.main_arg4)
      ∧ r.2.mem ((c.tc : Thread Cert.ConfIdeal.nD Cert.ConfIdeal.τ).loc Cert.ConfIdeal.main_arg5) = m ((c.tc : Thread Cert.ConfIdeal.nD Cert.ConfIdeal.τ).loc Cert.ConfIdeal.main_arg5)
      ∧ r.2.mem ((c.tc : Thread Cert.ConfIdeal.nD Cert.ConfIdeal.τ).loc Cert.ConfIdeal.main_arg6) = m ((c.tc : Thread Cert.ConfIdeal.nD Cert.ConfIdeal.τ).loc Cert.ConfIdeal.main_arg6)
      ∧ r.2.mem ((c.tc : Thread Cert.ConfIdeal.nD Cert.ConfIdeal.τ).loc Cert.ConfIdeal.main_arg7) = m ((c.tc : Thread Cert.ConfIdeal.nD Cert.ConfIdeal.τ).loc Cert.ConfIdeal.main_arg7)
      ∧ r.2.mem ((c.tc : Thread Cert.ConfIdeal.nD Cert.ConfIdeal.τ).loc Cert.ConfIdeal.main_arg8) = m ((c.tc : Thread Cert.ConfIdeal.nD Cert.ConfIdeal.τ).loc Cert.ConfIdeal.main_arg8)
      ∧ r.2.mem ((c.tc : Thread Cert.ConfIdeal.nD Cert.ConfIdeal.τ).loc Cert.ConfIdeal.main_arg9) = m ((c.tc : Thread Cert.ConfIdeal.nD Cert.ConfIdeal.τ).loc Cert.ConfIdeal.main_arg9)
      ∧ r.2.mem ((c.tc : Thread Cert.ConfIdeal.nD Cert.ConfIdeal.τ).loc Cert.ConfIdeal.main_arg10) = m ((c.tc : Thread Cert.ConfIdeal.nD Cert.ConfIdeal.τ).loc Cert.ConfIdeal.main_arg10)
      ∧ r.2.mem ((c.tc : Thread Cert.ConfIdeal.nD Cert.ConfIdeal.τ).loc Cert.ConfIdeal.main_arg11) = m ((c.tc : Thread Cert.ConfIdeal.nD Cert.ConfIdeal.τ).loc Cert.ConfIdeal.main_arg11)
      ∧ r.2.mem ((c.tc : Thread Cert.ConfIdeal.nD Cert.ConfIdeal.τ).loc Cert.ConfIdeal.main_arg12) = m ((c.tc : Thread Cert.ConfIdeal.nD Cert.ConfIdeal.τ).loc Cert.ConfIdeal.main_arg12)
      ∧ r.2.mem ((c.tc : Thread Cert.ConfIdeal.nD Cert.ConfIdeal.τ).loc Cert.ConfIdeal.main_arg13) = m ((c.tc : Thread Cert.ConfIdeal.nD Cert.ConfIdeal.τ).loc Cert.ConfIdeal.main_arg13)
      ∧ r.2.mem ((c.tc : Thread Cert.ConfIdeal.nD Cert.ConfIdeal.τ).loc Cert.ConfIdeal.main_arg14) = m ((c.tc : Thread Cert.ConfIdeal.nD Cert.ConfIdeal.τ).loc Cert.ConfIdeal.main_arg14))
      ∧ r.2.sem = fun _ => 0)

def quiescent_ConfRefIdeal [hConfRefIdeal : Cert.ConfRefIdeal.Facts] : Prop :=
  ∀ (m : (ℓ : Loc Cert.ConfRefIdeal.nD Cert.ConfRefIdeal.τ Cert.ConfRefIdeal.sig) → Buf (Elt Ideal) ℓ) (g : Dev Cert.ConfRefIdeal.nD → PrngReg), Pre_ConfRefIdeal m →
    θ_run (Cert.ConfRefIdeal.defs (F := Ideal)) (onTc (τ := Cert.ConfRefIdeal.τ) (Cert.ConfRefIdeal.main (F := Ideal))) ⟨m, fun _ => 0, g⟩ (fun r => (∀ c : Dev Cert.ConfRefIdeal.nD,
      r.2.mem ((c.tc : Thread Cert.ConfRefIdeal.nD Cert.ConfRefIdeal.τ).loc Cert.ConfRefIdeal.main_arg0) = m ((c.tc : Thread Cert.ConfRefIdeal.nD Cert.ConfRefIdeal.τ).loc Cert.ConfRefIdeal.main_arg0)
      ∧ r.2.mem ((c.tc : Thread Cert.ConfRefIdeal.nD Cert.ConfRefIdeal.τ).loc Cert.ConfRefIdeal.main_arg1) = m ((c.tc : Thread Cert.ConfRefIdeal.nD Cert.ConfRefIdeal.τ).loc Cert.ConfRefIdeal.main_arg1)
      ∧ r.2.mem ((c.tc : Thread Cert.ConfRefIdeal.nD Cert.ConfRefIdeal.τ).loc Cert.ConfRefIdeal.main_arg2) = m ((c.tc : Thread Cert.ConfRefIdeal.nD Cert.ConfRefIdeal.τ).loc Cert.ConfRefIdeal.main_arg2)
      ∧ r.2.mem ((c.tc : Thread Cert.ConfRefIdeal.nD Cert.ConfRefIdeal.τ).loc Cert.ConfRefIdeal.main_arg3) = m ((c.tc : Thread Cert.ConfRefIdeal.nD Cert.ConfRefIdeal.τ).loc Cert.ConfRefIdeal.main_arg3)
      ∧ r.2.mem ((c.tc : Thread Cert.ConfRefIdeal.nD Cert.ConfRefIdeal.τ).loc Cert.ConfRefIdeal.main_arg4) = m ((c.tc : Thread Cert.ConfRefIdeal.nD Cert.ConfRefIdeal.τ).loc Cert.ConfRefIdeal.main_arg4)
      ∧ r.2.mem ((c.tc : Thread Cert.ConfRefIdeal.nD Cert.ConfRefIdeal.τ).loc Cert.ConfRefIdeal.main_arg5) = m ((c.tc : Thread Cert.ConfRefIdeal.nD Cert.ConfRefIdeal.τ).loc Cert.ConfRefIdeal.main_arg5)
      ∧ r.2.mem ((c.tc : Thread Cert.ConfRefIdeal.nD Cert.ConfRefIdeal.τ).loc Cert.ConfRefIdeal.main_arg6) = m ((c.tc : Thread Cert.ConfRefIdeal.nD Cert.ConfRefIdeal.τ).loc Cert.ConfRefIdeal.main_arg6)
      ∧ r.2.mem ((c.tc : Thread Cert.ConfRefIdeal.nD Cert.ConfRefIdeal.τ).loc Cert.ConfRefIdeal.main_arg7) = m ((c.tc : Thread Cert.ConfRefIdeal.nD Cert.ConfRefIdeal.τ).loc Cert.ConfRefIdeal.main_arg7)
      ∧ r.2.mem ((c.tc : Thread Cert.ConfRefIdeal.nD Cert.ConfRefIdeal.τ).loc Cert.ConfRefIdeal.main_arg8) = m ((c.tc : Thread Cert.ConfRefIdeal.nD Cert.ConfRefIdeal.τ).loc Cert.ConfRefIdeal.main_arg8)
      ∧ r.2.mem ((c.tc : Thread Cert.ConfRefIdeal.nD Cert.ConfRefIdeal.τ).loc Cert.ConfRefIdeal.main_arg9) = m ((c.tc : Thread Cert.ConfRefIdeal.nD Cert.ConfRefIdeal.τ).loc Cert.ConfRefIdeal.main_arg9)
      ∧ r.2.mem ((c.tc : Thread Cert.ConfRefIdeal.nD Cert.ConfRefIdeal.τ).loc Cert.ConfRefIdeal.main_arg10) = m ((c.tc : Thread Cert.ConfRefIdeal.nD Cert.ConfRefIdeal.τ).loc Cert.ConfRefIdeal.main_arg10)
      ∧ r.2.mem ((c.tc : Thread Cert.ConfRefIdeal.nD Cert.ConfRefIdeal.τ).loc Cert.ConfRefIdeal.main_arg11) = m ((c.tc : Thread Cert.ConfRefIdeal.nD Cert.ConfRefIdeal.τ).loc Cert.ConfRefIdeal.main_arg11)
      ∧ r.2.mem ((c.tc : Thread Cert.ConfRefIdeal.nD Cert.ConfRefIdeal.τ).loc Cert.ConfRefIdeal.main_arg12) = m ((c.tc : Thread Cert.ConfRefIdeal.nD Cert.ConfRefIdeal.τ).loc Cert.ConfRefIdeal.main_arg12)
      ∧ r.2.mem ((c.tc : Thread Cert.ConfRefIdeal.nD Cert.ConfRefIdeal.τ).loc Cert.ConfRefIdeal.main_arg13) = m ((c.tc : Thread Cert.ConfRefIdeal.nD Cert.ConfRefIdeal.τ).loc Cert.ConfRefIdeal.main_arg13)
      ∧ r.2.mem ((c.tc : Thread Cert.ConfRefIdeal.nD Cert.ConfRefIdeal.τ).loc Cert.ConfRefIdeal.main_arg14) = m ((c.tc : Thread Cert.ConfRefIdeal.nD Cert.ConfRefIdeal.τ).loc Cert.ConfRefIdeal.main_arg14))
      ∧ r.2.sem = fun _ => 0)

def quiescent_Scan [hScan : Cert.Scan.Facts] : Prop :=
  ∀ (m : (ℓ : Loc Cert.Scan.nD Cert.Scan.τ Cert.Scan.sig) → Buf (Elt Bits) ℓ) (g : Dev Cert.Scan.nD → PrngReg), Pre_Scan m →
    θ_run (Cert.Scan.defs (F := Bits)) (onTc (τ := Cert.Scan.τ) (Cert.Scan.main (F := Bits))) ⟨m, fun _ => 0, g⟩ (fun r => (∀ c : Dev Cert.Scan.nD,
      r.2.mem ((c.tc : Thread Cert.Scan.nD Cert.Scan.τ).loc Cert.Scan.main_arg0) = m ((c.tc : Thread Cert.Scan.nD Cert.Scan.τ).loc Cert.Scan.main_arg0)
      ∧ r.2.mem ((c.tc : Thread Cert.Scan.nD Cert.Scan.τ).loc Cert.Scan.main_arg1) = m ((c.tc : Thread Cert.Scan.nD Cert.Scan.τ).loc Cert.Scan.main_arg1)
      ∧ r.2.mem ((c.tc : Thread Cert.Scan.nD Cert.Scan.τ).loc Cert.Scan.main_arg2) = m ((c.tc : Thread Cert.Scan.nD Cert.Scan.τ).loc Cert.Scan.main_arg2)
      ∧ r.2.mem ((c.tc : Thread Cert.Scan.nD Cert.Scan.τ).loc Cert.Scan.main_arg3) = m ((c.tc : Thread Cert.Scan.nD Cert.Scan.τ).loc Cert.Scan.main_arg3)
      ∧ r.2.mem ((c.tc : Thread Cert.Scan.nD Cert.Scan.τ).loc Cert.Scan.main_arg4) = m ((c.tc : Thread Cert.Scan.nD Cert.Scan.τ).loc Cert.Scan.main_arg4))
      ∧ r.2.sem = fun _ => 0)

def quiescent_ScanIdeal [hScanIdeal : Cert.ScanIdeal.Facts] : Prop :=
  ∀ (m : (ℓ : Loc Cert.ScanIdeal.nD Cert.ScanIdeal.τ Cert.ScanIdeal.sig) → Buf (Elt Ideal) ℓ) (g : Dev Cert.ScanIdeal.nD → PrngReg), Pre_ScanIdeal m →
    θ_run (Cert.ScanIdeal.defs (F := Ideal)) (onTc (τ := Cert.ScanIdeal.τ) (Cert.ScanIdeal.main (F := Ideal))) ⟨m, fun _ => 0, g⟩ (fun r => (∀ c : Dev Cert.ScanIdeal.nD,
      r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
      ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
      ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
      ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4))
      ∧ r.2.sem = fun _ => 0)

def quiescent_ScanRefIdeal [hScanRefIdeal : Cert.ScanRefIdeal.Facts] : Prop :=
  ∀ (m : (ℓ : Loc Cert.ScanRefIdeal.nD Cert.ScanRefIdeal.τ Cert.ScanRefIdeal.sig) → Buf (Elt Ideal) ℓ) (g : Dev Cert.ScanRefIdeal.nD → PrngReg), Pre_ScanRefIdeal m →
    θ_run (Cert.ScanRefIdeal.defs (F := Ideal)) (onTc (τ := Cert.ScanRefIdeal.τ) (Cert.ScanRefIdeal.main (F := Ideal))) ⟨m, fun _ => 0, g⟩ (fun r => (∀ c : Dev Cert.ScanRefIdeal.nD,
      r.2.mem ((c.tc : Thread Cert.ScanRefIdeal.nD Cert.ScanRefIdeal.τ).loc Cert.ScanRefIdeal.main_arg0) = m ((c.tc : Thread Cert.ScanRefIdeal.nD Cert.ScanRefIdeal.τ).loc Cert.ScanRefIdeal.main_arg0)
      ∧ r.2.mem ((c.tc : Thread Cert.ScanRefIdeal.nD Cert.ScanRefIdeal.τ).loc Cert.ScanRefIdeal.main_arg1) = m ((c.tc : Thread Cert.ScanRefIdeal.nD Cert.ScanRefIdeal.τ).loc Cert.ScanRefIdeal.main_arg1)
      ∧ r.2.mem ((c.tc : Thread Cert.ScanRefIdeal.nD Cert.ScanRefIdeal.τ).loc Cert.ScanRefIdeal.main_arg2) = m ((c.tc : Thread Cert.ScanRefIdeal.nD Cert.ScanRefIdeal.τ).loc Cert.ScanRefIdeal.main_arg2)
      ∧ r.2.mem ((c.tc : Thread Cert.ScanRefIdeal.nD Cert.ScanRefIdeal.τ).loc Cert.ScanRefIdeal.main_arg3) = m ((c.tc : Thread Cert.ScanRefIdeal.nD Cert.ScanRefIdeal.τ).loc Cert.ScanRefIdeal.main_arg3)
      ∧ r.2.mem ((c.tc : Thread Cert.ScanRefIdeal.nD Cert.ScanRefIdeal.τ).loc Cert.ScanRefIdeal.main_arg4) = m ((c.tc : Thread Cert.ScanRefIdeal.nD Cert.ScanRefIdeal.τ).loc Cert.ScanRefIdeal.main_arg4))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7)
      ∧ r.2.mem ((c.tc : Thread Cert.Proj.nD Cert.Proj.τ).loc Cert.Proj.main_arg8) = m ((c.tc : Thread Cert.Proj.nD Cert.Proj.τ).loc Cert.Proj.main_arg8))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6)
      ∧ r.2.mem ((c.tc : Thread Cert.ProjRefIdeal.nD Cert.ProjRefIdeal.τ).loc Cert.ProjRefIdeal.main_arg7) = m ((c.tc : Thread Cert.ProjRefIdeal.nD Cert.ProjRefIdeal.τ).loc Cert.ProjRefIdeal.main_arg7)
      ∧ r.2.mem ((c.tc : Thread Cert.ProjRefIdeal.nD Cert.ProjRefIdeal.τ).loc Cert.ProjRefIdeal.main_arg8) = m ((c.tc : Thread Cert.ProjRefIdeal.nD Cert.ProjRefIdeal.τ).loc Cert.ProjRefIdeal.main_arg8))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2)
      ∧ r.2.mem ((c.tc : Thread Cert.Ada.nD Cert.Ada.τ).loc Cert.Ada.main_arg3) = m ((c.tc : Thread Cert.Ada.nD Cert.Ada.τ).loc Cert.Ada.main_arg3))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
      ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2)
      ∧ r.2.mem ((c.tc : Thread Cert.AdaRefIdeal.nD Cert.AdaRefIdeal.τ).loc Cert.AdaRefIdeal.main_arg3) = m ((c.tc : Thread Cert.AdaRefIdeal.nD Cert.AdaRefIdeal.τ).loc Cert.AdaRefIdeal.main_arg3))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5))
      ∧ r.2.sem = fun _ => 0)

def preserves_Conf_ConfIdeal : Prop :=
  True

def algebraic_ConfIdeal_ConfRefIdeal [hConfIdeal : Cert.ConfIdeal.Facts] [hConfRefIdeal : Cert.ConfRefIdeal.Facts] : Prop :=
  ∀ (m : (ℓ : Loc Cert.ConfIdeal.nD Cert.ConfIdeal.τ Cert.ConfIdeal.sig) → Buf (Elt Ideal) ℓ) (g : Dev Cert.ConfIdeal.nD → PrngReg)
    (m' : (ℓ : Loc Cert.ConfRefIdeal.nD Cert.ConfRefIdeal.τ Cert.ConfRefIdeal.sig) → Buf (Elt Ideal) ℓ) (g' : Dev Cert.ConfRefIdeal.nD → PrngReg), Pre_ConfIdeal m →
    (∀ c : Dev Cert.ConfIdeal.nD,
      m' ((c.tc : Thread Cert.ConfRefIdeal.nD Cert.ConfRefIdeal.τ).loc Cert.ConfRefIdeal.main_arg0) = m ((c.tc : Thread Cert.ConfIdeal.nD Cert.ConfIdeal.τ).loc Cert.ConfIdeal.main_arg0)
      ∧ m' ((c.tc : Thread Cert.ConfRefIdeal.nD Cert.ConfRefIdeal.τ).loc Cert.ConfRefIdeal.main_arg1) = m ((c.tc : Thread Cert.ConfIdeal.nD Cert.ConfIdeal.τ).loc Cert.ConfIdeal.main_arg1)
      ∧ m' ((c.tc : Thread Cert.ConfRefIdeal.nD Cert.ConfRefIdeal.τ).loc Cert.ConfRefIdeal.main_arg2) = m ((c.tc : Thread Cert.ConfIdeal.nD Cert.ConfIdeal.τ).loc Cert.ConfIdeal.main_arg2)
      ∧ m' ((c.tc : Thread Cert.ConfRefIdeal.nD Cert.ConfRefIdeal.τ).loc Cert.ConfRefIdeal.main_arg3) = m ((c.tc : Thread Cert.ConfIdeal.nD Cert.ConfIdeal.τ).loc Cert.ConfIdeal.main_arg3)
      ∧ m' ((c.tc : Thread Cert.ConfRefIdeal.nD Cert.ConfRefIdeal.τ).loc Cert.ConfRefIdeal.main_arg4) = m ((c.tc : Thread Cert.ConfIdeal.nD Cert.ConfIdeal.τ).loc Cert.ConfIdeal.main_arg4)
      ∧ m' ((c.tc : Thread Cert.ConfRefIdeal.nD Cert.ConfRefIdeal.τ).loc Cert.ConfRefIdeal.main_arg5) = m ((c.tc : Thread Cert.ConfIdeal.nD Cert.ConfIdeal.τ).loc Cert.ConfIdeal.main_arg5)
      ∧ m' ((c.tc : Thread Cert.ConfRefIdeal.nD Cert.ConfRefIdeal.τ).loc Cert.ConfRefIdeal.main_arg6) = m ((c.tc : Thread Cert.ConfIdeal.nD Cert.ConfIdeal.τ).loc Cert.ConfIdeal.main_arg6)
      ∧ m' ((c.tc : Thread Cert.ConfRefIdeal.nD Cert.ConfRefIdeal.τ).loc Cert.ConfRefIdeal.main_arg7) = m ((c.tc : Thread Cert.ConfIdeal.nD Cert.ConfIdeal.τ).loc Cert.ConfIdeal.main_arg7)
      ∧ m' ((c.tc : Thread Cert.ConfRefIdeal.nD Cert.ConfRefIdeal.τ).loc Cert.ConfRefIdeal.main_arg8) = m ((c.tc : Thread Cert.ConfIdeal.nD Cert.ConfIdeal.τ).loc Cert.ConfIdeal.main_arg8)
      ∧ m' ((c.tc : Thread Cert.ConfRefIdeal.nD Cert.ConfRefIdeal.τ).loc Cert.ConfRefIdeal.main_arg9) = m ((c.tc : Thread Cert.ConfIdeal.nD Cert.ConfIdeal.τ).loc Cert.ConfIdeal.main_arg9)
      ∧ m' ((c.tc : Thread Cert.ConfRefIdeal.nD Cert.ConfRefIdeal.τ).loc Cert.ConfRefIdeal.main_arg10) = m ((c.tc : Thread Cert.ConfIdeal.nD Cert.ConfIdeal.τ).loc Cert.ConfIdeal.main_arg10)
      ∧ m' ((c.tc : Thread Cert.ConfRefIdeal.nD Cert.ConfRefIdeal.τ).loc Cert.ConfRefIdeal.main_arg11) = m ((c.tc : Thread Cert.ConfIdeal.nD Cert.ConfIdeal.τ).loc Cert.ConfIdeal.main_arg11)
      ∧ m' ((c.tc : Thread Cert.ConfRefIdeal.nD Cert.ConfRefIdeal.τ).loc Cert.ConfRefIdeal.main_arg12) = m ((c.tc : Thread Cert.ConfIdeal.nD Cert.ConfIdeal.τ).loc Cert.ConfIdeal.main_arg12)
      ∧ m' ((c.tc : Thread Cert.ConfRefIdeal.nD Cert.ConfRefIdeal.τ).loc Cert.ConfRefIdeal.main_arg13) = m ((c.tc : Thread Cert.ConfIdeal.nD Cert.ConfIdeal.τ).loc Cert.ConfIdeal.main_arg13)
      ∧ m' ((c.tc : Thread Cert.ConfRefIdeal.nD Cert.ConfRefIdeal.τ).loc Cert.ConfRefIdeal.main_arg14) = m ((c.tc : Thread Cert.ConfIdeal.nD Cert.ConfIdeal.τ).loc Cert.ConfIdeal.main_arg14)) →
    ∃ (v0 : (c : Dev Cert.ConfIdeal.nD) → Buf (Elt Ideal) ((c.tc : Thread Cert.ConfIdeal.nD Cert.ConfIdeal.τ).loc Cert.ConfIdeal.main_v29)),
      θ_run (Cert.ConfIdeal.defs (F := Ideal)) (onTc (τ := Cert.ConfIdeal.τ) (Cert.ConfIdeal.main (F := Ideal))) ⟨m, fun _ => 0, g⟩ (fun r => ∀ c : Dev Cert.ConfIdeal.nD,
          r.2.mem ((c.tc : Thread Cert.ConfIdeal.nD Cert.ConfIdeal.τ).loc Cert.ConfIdeal.main_v29) = v0 c
          ∧ r.2.mem ((c.tc : Thread Cert.ConfIdeal.nD Cert.ConfIdeal.τ).loc Cert.ConfIdeal.main_arg0) = m ((c.tc : Thread Cert.ConfIdeal.nD Cert.ConfIdeal.τ).loc Cert.ConfIdeal.main_arg0)
          ∧ r.2.mem ((c.tc : Thread Cert.ConfIdeal.nD Cert.ConfIdeal.τ).loc Cert.ConfIdeal.main_arg1) = m ((c.tc : Thread Cert.ConfIdeal.nD Cert.ConfIdeal.τ).loc Cert.ConfIdeal.main_arg1)
          ∧ r.2.mem ((c.tc : Thread Cert.ConfIdeal.nD Cert.ConfIdeal.τ).loc Cert.ConfIdeal.main_arg2) = m ((c.tc : Thread Cert.ConfIdeal.nD Cert.ConfIdeal.τ).loc Cert.ConfIdeal.main_arg2)
          ∧ r.2.mem ((c.tc : Thread Cert.ConfIdeal.nD Cert.ConfIdeal.τ).loc Cert.ConfIdeal.main_arg3) = m ((c.tc : Thread Cert.ConfIdeal.nD Cert.ConfIdeal.τ).loc Cert.ConfIdeal.main_arg3)
          ∧ r.2.mem ((c.tc : Thread Cert.ConfIdeal.nD Cert.ConfIdeal.τ).loc Cert.ConfIdeal.main_arg4) = m ((c.tc : Thread Cert.ConfIdeal.nD Cert.ConfIdeal.τ).loc Cert.ConfIdeal.main_arg4)
          ∧ r.2.mem ((c.tc : Thread Cert.ConfIdeal.nD Cert.ConfIdeal.τ).loc Cert.ConfIdeal.main_arg5) = m ((c.tc : Thread Cert.ConfIdeal.nD Cert.ConfIdeal.τ).loc Cert.ConfIdeal.main_arg5)
          ∧ r.2.mem ((c.tc : Thread Cert.ConfIdeal.nD Cert.ConfIdeal.τ).loc Cert.ConfIdeal.main_arg6) = m ((c.tc : Thread Cert.ConfIdeal.nD Cert.ConfIdeal.τ).loc Cert.ConfIdeal.main_arg6)
          ∧ r.2.mem ((c.tc : Thread Cert.ConfIdeal.nD Cert.ConfIdeal.τ).loc Cert.ConfIdeal.main_arg7) = m ((c.tc : Thread Cert.ConfIdeal.nD Cert.ConfIdeal.τ).loc Cert.ConfIdeal.main_arg7)
          ∧ r.2.mem ((c.tc : Thread Cert.ConfIdeal.nD Cert.ConfIdeal.τ).loc Cert.ConfIdeal.main_arg8) = m ((c.tc : Thread Cert.ConfIdeal.nD Cert.ConfIdeal.τ).loc Cert.ConfIdeal.main_arg8)
          ∧ r.2.mem ((c.tc : Thread Cert.ConfIdeal.nD Cert.ConfIdeal.τ).loc Cert.ConfIdeal.main_arg9) = m ((c.tc : Thread Cert.ConfIdeal.nD Cert.ConfIdeal.τ).loc Cert.ConfIdeal.main_arg9)
          ∧ r.2.mem ((c.tc : Thread Cert.ConfIdeal.nD Cert.ConfIdeal.τ).loc Cert.ConfIdeal.main_arg10) = m ((c.tc : Thread Cert.ConfIdeal.nD Cert.ConfIdeal.τ).loc Cert.ConfIdeal.main_arg10)
          ∧ r.2.mem ((c.tc : Thread Cert.ConfIdeal.nD Cert.ConfIdeal.τ).loc Cert.ConfIdeal.main_arg11) = m ((c.tc : Thread Cert.ConfIdeal.nD Cert.ConfIdeal.τ).loc Cert.ConfIdeal.main_arg11)
          ∧ r.2.mem ((c.tc : Thread Cert.ConfIdeal.nD Cert.ConfIdeal.τ).loc Cert.ConfIdeal.main_arg12) = m ((c.tc : Thread Cert.ConfIdeal.nD Cert.ConfIdeal.τ).loc Cert.ConfIdeal.main_arg12)
          ∧ r.2.mem ((c.tc : Thread Cert.ConfIdeal.nD Cert.ConfIdeal.τ).loc Cert.ConfIdeal.main_arg13) = m ((c.tc : Thread Cert.ConfIdeal.nD Cert.ConfIdeal.τ).loc Cert.ConfIdeal.main_arg13)
          ∧ r.2.mem ((c.tc : Thread Cert.ConfIdeal.nD Cert.ConfIdeal.τ).loc Cert.ConfIdeal.main_arg14) = m ((c.tc : Thread Cert.ConfIdeal.nD Cert.ConfIdeal.τ).loc Cert.ConfIdeal.main_arg14))
      ∧ θ_run (Cert.ConfRefIdeal.defs (F := Ideal)) (onTc (τ := Cert.ConfRefIdeal.τ) (Cert.ConfRefIdeal.main (F := Ideal))) ⟨m', fun _ => 0, g'⟩ (fun r => ∀ c : Dev Cert.ConfRefIdeal.nD,
          r.2.mem ((c.tc : Thread Cert.ConfRefIdeal.nD Cert.ConfRefIdeal.τ).loc Cert.ConfRefIdeal.main_v343) = v0 c
          ∧ r.2.mem ((c.tc : Thread Cert.ConfRefIdeal.nD Cert.ConfRefIdeal.τ).loc Cert.ConfRefIdeal.main_arg0) = m' ((c.tc : Thread Cert.ConfRefIdeal.nD Cert.ConfRefIdeal.τ).loc Cert.ConfRefIdeal.main_arg0)
          ∧ r.2.mem ((c.tc : Thread Cert.ConfRefIdeal.nD Cert.ConfRefIdeal.τ).loc Cert.ConfRefIdeal.main_arg1) = m' ((c.tc : Thread Cert.ConfRefIdeal.nD Cert.ConfRefIdeal.τ).loc Cert.ConfRefIdeal.main_arg1)
          ∧ r.2.mem ((c.tc : Thread Cert.ConfRefIdeal.nD Cert.ConfRefIdeal.τ).loc Cert.ConfRefIdeal.main_arg2) = m' ((c.tc : Thread Cert.ConfRefIdeal.nD Cert.ConfRefIdeal.τ).loc Cert.ConfRefIdeal.main_arg2)
          ∧ r.2.mem ((c.tc : Thread Cert.ConfRefIdeal.nD Cert.ConfRefIdeal.τ).loc Cert.ConfRefIdeal.main_arg3) = m' ((c.tc : Thread Cert.ConfRefIdeal.nD Cert.ConfRefIdeal.τ).loc Cert.ConfRefIdeal.main_arg3)
          ∧ r.2.mem ((c.tc : Thread Cert.ConfRefIdeal.nD Cert.ConfRefIdeal.τ).loc Cert.ConfRefIdeal.main_arg4) = m' ((c.tc : Thread Cert.ConfRefIdeal.nD Cert.ConfRefIdeal.τ).loc Cert.ConfRefIdeal.main_arg4)
          ∧ r.2.mem ((c.tc : Thread Cert.ConfRefIdeal.nD Cert.ConfRefIdeal.τ).loc Cert.ConfRefIdeal.main_arg5) = m' ((c.tc : Thread Cert.ConfRefIdeal.nD Cert.ConfRefIdeal.τ).loc Cert.ConfRefIdeal.main_arg5)
          ∧ r.2.mem ((c.tc : Thread Cert.ConfRefIdeal.nD Cert.ConfRefIdeal.τ).loc Cert.ConfRefIdeal.main_arg6) = m' ((c.tc : Thread Cert.ConfRefIdeal.nD Cert.ConfRefIdeal.τ).loc Cert.ConfRefIdeal.main_arg6)
          ∧ r.2.mem ((c.tc : Thread Cert.ConfRefIdeal.nD Cert.ConfRefIdeal.τ).loc Cert.ConfRefIdeal.main_arg7) = m' ((c.tc : Thread Cert.ConfRefIdeal.nD Cert.ConfRefIdeal.τ).loc Cert.ConfRefIdeal.main_arg7)
          ∧ r.2.mem ((c.tc : Thread Cert.ConfRefIdeal.nD Cert.ConfRefIdeal.τ).loc Cert.ConfRefIdeal.main_arg8) = m' ((c.tc : Thread Cert.ConfRefIdeal.nD Cert.ConfRefIdeal.τ).loc Cert.ConfRefIdeal.main_arg8)
          ∧ r.2.mem ((c.tc : Thread Cert.ConfRefIdeal.nD Cert.ConfRefIdeal.τ).loc Cert.ConfRefIdeal.main_arg9) = m' ((c.tc : Thread Cert.ConfRefIdeal.nD Cert.ConfRefIdeal.τ).loc Cert.ConfRefIdeal.main_arg9)
          ∧ r.2.mem ((c.tc : Thread Cert.ConfRefIdeal.nD Cert.ConfRefIdeal.τ).loc Cert.ConfRefIdeal.main_arg10) = m' ((c.tc : Thread Cert.ConfRefIdeal.nD Cert.ConfRefIdeal.τ).loc Cert.ConfRefIdeal.main_arg10)
          ∧ r.2.mem ((c.tc : Thread Cert.ConfRefIdeal.nD Cert.ConfRefIdeal.τ).loc Cert.ConfRefIdeal.main_arg11) = m' ((c.tc : Thread Cert.ConfRefIdeal.nD Cert.ConfRefIdeal.τ).loc Cert.ConfRefIdeal.main_arg11)
          ∧ r.2.mem ((c.tc : Thread Cert.ConfRefIdeal.nD Cert.ConfRefIdeal.τ).loc Cert.ConfRefIdeal.main_arg12) = m' ((c.tc : Thread Cert.ConfRefIdeal.nD Cert.ConfRefIdeal.τ).loc Cert.ConfRefIdeal.main_arg12)
          ∧ r.2.mem ((c.tc : Thread Cert.ConfRefIdeal.nD Cert.ConfRefIdeal.τ).loc Cert.ConfRefIdeal.main_arg13) = m' ((c.tc : Thread Cert.ConfRefIdeal.nD Cert.ConfRefIdeal.τ).loc Cert.ConfRefIdeal.main_arg13)
          ∧ r.2.mem ((c.tc : Thread Cert.ConfRefIdeal.nD Cert.ConfRefIdeal.τ).loc Cert.ConfRefIdeal.main_arg14) = m' ((c.tc : Thread Cert.ConfRefIdeal.nD Cert.ConfRefIdeal.τ).loc Cert.ConfRefIdeal.main_arg14))

def preserves_Scan_ScanIdeal : Prop :=
  True

def preserves_Proj_ProjIdeal : Prop :=
  IdealRules.named_const.Statement Cert.ProjIdeal.κ "gelu_cubed" .f32 0x3D122279#32 ((80338380498831 / 2251799813685248 : ℝ) : EReal)

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)
      ∧ m' ((c.tc : Thread Cert.ProjRefIdeal.nD Cert.ProjRefIdeal.τ).loc Cert.ProjRefIdeal.main_arg7) = m ((c.tc : Thread Cert.ProjIdeal.nD Cert.ProjIdeal.τ).loc Cert.ProjIdeal.main_arg7)
      ∧ m' ((c.tc : Thread Cert.ProjRefIdeal.nD Cert.ProjRefIdeal.τ).loc Cert.ProjRefIdeal.main_arg8) = m ((c.tc : Thread Cert.ProjIdeal.nD Cert.ProjIdeal.τ).loc Cert.ProjIdeal.main_arg8)) →
    ∃ (v0 : (c : Dev Cert.ProjIdeal.nD) → Buf (Elt Ideal) ((c.tc : Thread Cert.ProjIdeal.nD Cert.ProjIdeal.τ).loc Cert.ProjIdeal.main_v21_0)) (v1 : (c : Dev Cert.ProjIdeal.nD) → Buf (Elt Ideal) ((c.tc : Thread Cert.ProjIdeal.nD Cert.ProjIdeal.τ).loc Cert.ProjIdeal.main_v21_1)) (v2 : (c : Dev Cert.ProjIdeal.nD) → Buf (Elt Ideal) ((c.tc : Thread Cert.ProjIdeal.nD Cert.ProjIdeal.τ).loc Cert.ProjIdeal.main_v21_2)) (v3 : (c : Dev Cert.ProjIdeal.nD) → Buf (Elt Ideal) ((c.tc : Thread Cert.ProjIdeal.nD Cert.ProjIdeal.τ).loc Cert.ProjIdeal.main_v21_3)) (v4 : (c : Dev Cert.ProjIdeal.nD) → Buf (Elt Ideal) ((c.tc : Thread Cert.ProjIdeal.nD Cert.ProjIdeal.τ).loc Cert.ProjIdeal.main_v21_4)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v21_0) = v0 c
          ∧ r.2.mem ((c.tc : Thread Cert.ProjIdeal.nD Cert.ProjIdeal.τ).loc Cert.ProjIdeal.main_v21_1) = v1 c
          ∧ r.2.mem ((c.tc : Thread Cert.ProjIdeal.nD Cert.ProjIdeal.τ).loc Cert.ProjIdeal.main_v21_2) = v2 c
          ∧ r.2.mem ((c.tc : Thread Cert.ProjIdeal.nD Cert.ProjIdeal.τ).loc Cert.ProjIdeal.main_v21_3) = v3 c
          ∧ r.2.mem ((c.tc : Thread Cert.ProjIdeal.nD Cert.ProjIdeal.τ).loc Cert.ProjIdeal.main_v21_4) = v4 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
          ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v123) = v0 c
          ∧ r.2.mem ((c.tc : Thread Cert.ProjRefIdeal.nD Cert.ProjRefIdeal.τ).loc Cert.ProjRefIdeal.main_v124) = v1 c
          ∧ r.2.mem ((c.tc : Thread Cert.ProjRefIdeal.nD Cert.ProjRefIdeal.τ).loc Cert.ProjRefIdeal.main_v121) = v2 c
          ∧ r.2.mem ((c.tc : Thread Cert.ProjRefIdeal.nD Cert.ProjRefIdeal.τ).loc Cert.ProjRefIdeal.main_v138) = v3 c
          ∧ r.2.mem ((c.tc : Thread Cert.ProjRefIdeal.nD Cert.ProjRefIdeal.τ).loc Cert.ProjRefIdeal.main_v139) = v4 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6)
          ∧ r.2.mem ((c.tc : Thread Cert.ProjRefIdeal.nD Cert.ProjRefIdeal.τ).loc Cert.ProjRefIdeal.main_arg7) = m' ((c.tc : Thread Cert.ProjRefIdeal.nD Cert.ProjRefIdeal.τ).loc Cert.ProjRefIdeal.main_arg7)
          ∧ r.2.mem ((c.tc : Thread Cert.ProjRefIdeal.nD Cert.ProjRefIdeal.τ).loc Cert.ProjRefIdeal.main_arg8) = m' ((c.tc : Thread Cert.ProjRefIdeal.nD Cert.ProjRefIdeal.τ).loc Cert.ProjRefIdeal.main_arg8))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)
      ∧ m' ((c.tc : Thread Cert.AdaRefIdeal.nD Cert.AdaRefIdeal.τ).loc Cert.AdaRefIdeal.main_arg3) = m ((c.tc : Thread Cert.AdaIdeal.nD Cert.AdaIdeal.τ).loc Cert.AdaIdeal.main_arg3)) →
    ∃ (v0 : (c : Dev Cert.AdaIdeal.nD) → Buf (Elt Ideal) ((c.tc : Thread Cert.AdaIdeal.nD Cert.AdaIdeal.τ).loc Cert.AdaIdeal.main_v4)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v4) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
          ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v23) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2)
          ∧ r.2.mem ((c.tc : Thread Cert.AdaRefIdeal.nD Cert.AdaRefIdeal.τ).loc Cert.AdaRefIdeal.main_arg3) = m' ((c.tc : Thread Cert.AdaRefIdeal.nD Cert.AdaRefIdeal.τ).loc Cert.AdaRefIdeal.main_arg3))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)) →
    ∃ (v0 : (c : Dev Cert.MlpIdeal.nD) → Buf (Elt Ideal) ((c.tc : Thread Cert.MlpIdeal.nD Cert.MlpIdeal.τ).loc Cert.MlpIdeal.main_v10)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v10) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v42) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5))

def Claim : Prop :=
  ∃ (hConf : Cert.Conf.Facts) (hConfIdeal : Cert.ConfIdeal.Facts) (hConfRefIdeal : Cert.ConfRefIdeal.Facts) (hScan : Cert.Scan.Facts) (hScanIdeal : Cert.ScanIdeal.Facts) (hScanRefIdeal : Cert.ScanRefIdeal.Facts) (hProj : Cert.Proj.Facts) (hProjIdeal : Cert.ProjIdeal.Facts) (hProjRefIdeal : Cert.ProjRefIdeal.Facts) (hAda : Cert.Ada.Facts) (hAdaIdeal : Cert.AdaIdeal.Facts) (hAdaRefIdeal : Cert.AdaRefIdeal.Facts) (hMlp : Cert.Mlp.Facts) (hMlpIdeal : Cert.MlpIdeal.Facts) (hMlpRefIdeal : Cert.MlpRefIdeal.Facts),
    quiescent_Conf (hConf := hConf)
    ∧ quiescent_ConfIdeal (hConfIdeal := hConfIdeal)
    ∧ quiescent_ConfRefIdeal (hConfRefIdeal := hConfRefIdeal)
    ∧ quiescent_Scan (hScan := hScan)
    ∧ quiescent_ScanIdeal (hScanIdeal := hScanIdeal)
    ∧ quiescent_ScanRefIdeal (hScanRefIdeal := hScanRefIdeal)
    ∧ quiescent_Proj (hProj := hProj)
    ∧ quiescent_ProjIdeal (hProjIdeal := hProjIdeal)
    ∧ quiescent_ProjRefIdeal (hProjRefIdeal := hProjRefIdeal)
    ∧ quiescent_Ada (hAda := hAda)
    ∧ quiescent_AdaIdeal (hAdaIdeal := hAdaIdeal)
    ∧ quiescent_AdaRefIdeal (hAdaRefIdeal := hAdaRefIdeal)
    ∧ quiescent_Mlp (hMlp := hMlp)
    ∧ quiescent_MlpIdeal (hMlpIdeal := hMlpIdeal)
    ∧ quiescent_MlpRefIdeal (hMlpRefIdeal := hMlpRefIdeal)
    ∧ preserves_Conf_ConfIdeal
    ∧ algebraic_ConfIdeal_ConfRefIdeal (hConfIdeal := hConfIdeal) (hConfRefIdeal := hConfRefIdeal)
    ∧ preserves_Scan_ScanIdeal
    ∧ preserves_Proj_ProjIdeal
    ∧ algebraic_ProjIdeal_ProjRefIdeal (hProjIdeal := hProjIdeal) (hProjRefIdeal := hProjRefIdeal)
    ∧ preserves_Ada_AdaIdeal
    ∧ algebraic_AdaIdeal_AdaRefIdeal (hAdaIdeal := hAdaIdeal) (hAdaRefIdeal := hAdaRefIdeal)
    ∧ preserves_Mlp_MlpIdeal
    ∧ algebraic_MlpIdeal_MlpRefIdeal (hMlpIdeal := hMlpIdeal) (hMlpRefIdeal := hMlpRefIdeal)
-- ==== Conf.lean ====
abbrev S4x8192x1024 : Shape := ⟨3, ![4, 8192, 1024]⟩
abbrev S16x1x6144 : Shape := ⟨3, ![16, 1, 6144]⟩
abbrev S2x1024 : Shape := ⟨2, ![2, 1024]⟩
abbrev S1x1024x2048 : Shape := ⟨3, ![1, 1024, 2048]⟩
abbrev S1x2048 : Shape := ⟨2, ![1, 2048]⟩
abbrev S1x31x1024 : Shape := ⟨3, ![1, 31, 1024]⟩
abbrev S1x1024 : Shape := ⟨2, ![1, 1024]⟩
abbrev S1x1024x1024 : Shape := ⟨3, ![1, 1024, 1024]⟩
abbrev S2x1024x4096 : Shape := ⟨3, ![2, 1024, 4096]⟩
abbrev S2x4096x1024 : Shape := ⟨3, ![2, 4096, 1024]⟩
abbrev S1024 : Shape := ⟨1, ![1024]⟩
abbrev S1024x2048 : Shape := ⟨2, ![1024, 2048]⟩
abbrev S2048 : Shape := ⟨1, ![2048]⟩
abbrev S31x1024 : Shape := ⟨2, ![31, 1024]⟩
abbrev S1024x1024 : Shape := ⟨2, ![1024, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S4x512x16x1024 : Shape := ⟨4, ![4, 512, 16, 1024]⟩
abbrev S1x1x16x1024 : Shape := ⟨4, ![1, 1, 16, 1024]⟩
abbrev S1x512x1024 : Shape := ⟨3, ![1, 512, 1024]⟩
abbrev S1x1x6144 : Shape := ⟨3, ![1, 1, 6144]⟩
abbrev S2x512x1024 : Shape := ⟨3, ![2, 512, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S16x1024 : Shape := ⟨2, ![16, 1024]⟩
abbrev S544x1024 : Shape := ⟨2, ![544, 1024]⟩
abbrev S544 : Shape := ⟨1, ![544]⟩
abbrev S544x1 : Shape := ⟨2, ![544, 1]⟩
abbrev S1024x256 : Shape := ⟨2, ![1024, 256]⟩
abbrev S544x256 : Shape := ⟨2, ![544, 256]⟩
abbrev S1x256 : Shape := ⟨2, ![1, 256]⟩
abbrev S512x256 : Shape := ⟨2, ![512, 256]⟩

abbrev nBuf : Space → Nat
  | .hbm => 45
  | .vmem => 26
  | .smem => 0
  | _ => 0

abbrev bufTy : (tb : Table) → Fin (tcTables nBuf tb) → BufTy
  | .hbm, ⟨0, _⟩ => ⟨S4x8192x1024, .f32⟩
  | .hbm, ⟨1, _⟩ => ⟨S16x1x6144, .f32⟩
  | .hbm, ⟨2, _⟩ => ⟨S2x1024, .f32⟩
  | .hbm, ⟨3, _⟩ => ⟨S1x1024x2048, .f32⟩
  | .hbm, ⟨4, _⟩ => ⟨S1x2048, .f32⟩
  | .hbm, ⟨5, _⟩ => ⟨S1x31x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024x1024, .f32⟩
  | .hbm, ⟨10, _⟩ => ⟨S1x1024, .f32⟩
  | .hbm, ⟨11, _⟩ => ⟨S2x1024, .f32⟩
  | .hbm, ⟨12, _⟩ => ⟨S2x1024x4096, .f32⟩
  | .hbm, ⟨13, _⟩ => ⟨S2x4096x1024, .f32⟩
  | .hbm, ⟨14, _⟩ => ⟨S1024, .f32⟩
  | .hbm, ⟨15, _⟩ => ⟨S1x1024, .f32⟩
  | .hbm, ⟨16, _⟩ => ⟨S1024, .f32⟩
  | .hbm, ⟨17, _⟩ => ⟨S1024x2048, .f32⟩
  | .hbm, ⟨18, _⟩ => ⟨S1024x2048, .bf16⟩
  | .hbm, ⟨19, _⟩ => ⟨S2048, .f32⟩
  | .hbm, ⟨20, _⟩ => ⟨S31x1024, .f32⟩
  | .hbm, ⟨21, _⟩ => ⟨S1024, .f32⟩
  | .hbm, ⟨22, _⟩ => ⟨S1024, .f32⟩
  | .hbm, ⟨23, _⟩ => ⟨S1024, .f32⟩
  | .hbm, ⟨24, _⟩ => ⟨S1024x1024, .f32⟩
  | .hbm, ⟨25, _⟩ => ⟨S1024x1024, .bf16⟩
  | .hbm, ⟨26, _⟩ => ⟨S1024, .f32⟩
  | .hbm, ⟨27, _⟩ => ⟨S1x1024, .f32⟩
  | .hbm, ⟨28, _⟩ => ⟨S1024, .f32⟩
  | .hbm, ⟨29, _⟩ => ⟨S1x1024x4096, .f32⟩
  | .hbm, ⟨30, _⟩ => ⟨S1024x4096, .f32⟩
  | .hbm, ⟨31, _⟩ => ⟨S1024x4096, .bf16⟩
  | .hbm, ⟨32, _⟩ => ⟨S1x4096x1024, .f32⟩
  | .hbm, ⟨33, _⟩ => ⟨S4096x1024, .f32⟩
  | .hbm, ⟨34, _⟩ => ⟨S4096x1024, .bf16⟩
  | .hbm, ⟨35, _⟩ => ⟨S4x512x16x1024, .f32⟩
  | .hbm, ⟨36, _⟩ => ⟨S1x1024, .f32⟩
  | .hbm, ⟨37, _⟩ => ⟨S1x2048, .f32⟩
  | .hbm, ⟨38, _⟩ => ⟨S1x1024, .f32⟩
  | .hbm, ⟨39, _⟩ => ⟨S1x1024, .f32⟩
  | .hbm, ⟨40, _⟩ => ⟨S1x1024, .f32⟩
  | .hbm, ⟨41, _⟩ => ⟨S1x1024, .f32⟩
  | .hbm, ⟨42, _⟩ => ⟨S1x1024, .f32⟩
  | .hbm, ⟨43, _⟩ => ⟨S1x1024, .f32⟩
  | .hbm, ⟨44, _⟩ => ⟨S4x8192x1024, .f32⟩
  | .local _ .vmem, ⟨0, _⟩ => ⟨S1x1x16x1024, .f32⟩
  | .local _ .vmem, ⟨1, _⟩ => ⟨S1x1x16x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x1x16x1024, .f32⟩
  | .local _ .vmem, ⟨5, _⟩ => ⟨S1x1x16x1024, .f32⟩
  | .local _ .vmem, ⟨6, _⟩ => ⟨S1x1x6144, .f32⟩
  | .local _ .vmem, ⟨7, _⟩ => ⟨S1x1x6144, .f32⟩
  | .local _ .vmem, ⟨8, _⟩ => ⟨S1x1x6144, .f32⟩
  | .local _ .vmem, ⟨9, _⟩ => ⟨S1x1x6144, .f32⟩
  | .local _ .vmem, ⟨10, _⟩ => ⟨S1x1024, .f32⟩
  | .local _ .vmem, ⟨11, _⟩ => ⟨S1024x2048, .bf16⟩
  | .local _ .vmem, ⟨12, _⟩ => ⟨S1x2048, .f32⟩
  | .local _ .vmem, ⟨13, _⟩ => ⟨S31x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1024x1024, .bf16⟩
  | .local _ .vmem, ⟨18, _⟩ => ⟨S1x1024, .f32⟩
  | .local _ .vmem, ⟨19, _⟩ => ⟨S1x1024, .f32⟩
  | .local _ .vmem, ⟨20, _⟩ => ⟨S1024x4096, .bf16⟩
  | .local _ .vmem, ⟨21, _⟩ => ⟨S4096x1024, .bf16⟩
  | .local _ .vmem, ⟨22, _⟩ => ⟨S1x1024, .f32⟩
  | .local _ .vmem, ⟨23, _⟩ => ⟨S1x512x1024, .f32⟩
  | .local _ .vmem, ⟨24, _⟩ => ⟨S1x512x1024, .f32⟩
  | .local _ .vmem, ⟨25, _⟩ => ⟨S2x512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg18_0 : Ref sig .tc := ⟨.vmem, 23, rfl⟩
abbrev cc0_stg18_1 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem18_0 : DmaSem sig := 23
abbrev cc0_sem18_1 : DmaSem sig := 24

abbrev nD : Nat := 1
abbrev τ : Topo := Topo.v7x

variable {F : FTy → Type} [FloatOps F]

abbrev grid0 : Pipeline.Grid := ⟨1, ![65], ![false]⟩

def k0_off1 (i : grid0.Coords) : Fin 3 → Nat :=
  let arg0 : BitVec 32 := BitVec.ofNat 32 (i 0).val
  let c1_i32 : BitVec 32 := 1#32
  let v0 : BitVec 32 := Scalar.addi arg0 c1_i32
  let c2_i32 : BitVec 32 := 2#32
  let v1 : BitVec 32 := Scalar.remsi v0 c2_i32
  let v5 : Index := Scalar.indexCast v1
  let c0 : Index := 0#32
  let c0_1 : Index := 0#32
  ![v5.toNat, 0, 0]
def k0_off2 (i : grid0.Coords) : Fin 3 → Nat :=
  let arg0 : BitVec 32 := BitVec.ofNat 32 (i 0).val
  let c2_i32_392 : BitVec 32 := 2#32
  let v1078 : BitVec 32 := Scalar.remsi arg0 c2_i32_392
  let v1079 : Index := Scalar.indexCast v1078
  let c0_393 : Index := 0#32
  let c0_394 : Index := 0#32
  ![v1079.toNat, 0, 0]
def cc0_transform_0 (i : grid0.Coords) : Fin 4 → Nat :=
  let arg0 : BitVec 32 := BitVec.ofNat 32 (i 0).val
  let c63_i32 : BitVec 32 := 63#32
  let v0 : BitVec 32 := Scalar.minsi arg0 c63_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c63_i32_4 : BitVec 32 := 63#32
  let v18 : BitVec 32 := Scalar.minsi arg0 c63_i32_4
  let c16_i32_5 : BitVec 32 := 16#32
  let c0_i32_6 : BitVec 32 := 0#32
  let v19 : BitVec 1 := Scalar.cmpi .eq c16_i32_5 c0_i32_6
  let c1_i32_7 : BitVec 32 := 1#32
  let v20 : BitVec 32 := Scalar.select v19 c1_i32_7 c16_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c32_i32 : BitVec 32 := 32#32
  let v29 : BitVec 32 := Scalar.muli v28 c32_i32
  let c1_i32_11 : BitVec 32 := 1#32
  let v30 : BitVec 32 := Scalar.subi v29 c1_i32_11
  let c0_i32_12 : BitVec 32 := 0#32
  let v31 : BitVec 32 := Scalar.maxsi v30 c0_i32_12
  let c0_i32_13 : BitVec 32 := 0#32
  let c0_i32_14 : BitVec 32 := 0#32
  let c0_i32_15 : BitVec 32 := 0#32
  ![v17.toNat, v31.toNat, c0_i32_13.toNat, c0_i32_14.toNat]

def cc0_transform_1 (i : grid0.Coords) : Fin 3 → Nat :=
  let arg0 : BitVec 32 := BitVec.ofNat 32 (i 0).val
  let c63_i32 : BitVec 32 := 63#32
  let v0 : BitVec 32 := Scalar.minsi arg0 c63_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c63_i32_4 : BitVec 32 := 63#32
  let v18 : BitVec 32 := Scalar.minsi arg0 c63_i32_4
  let c16_i32_5 : BitVec 32 := 16#32
  let c0_i32_6 : BitVec 32 := 0#32
  let v19 : BitVec 1 := Scalar.cmpi .eq c16_i32_5 c0_i32_6
  let c1_i32_7 : BitVec 32 := 1#32
  let v20 : BitVec 32 := Scalar.select v19 c1_i32_7 c16_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, v28.toNat, c0_i32_11.toNat]

def cc0_transform_2 (i : grid0.Coords) : Fin 4 → Nat :=
  let arg0 : BitVec 32 := BitVec.ofNat 32 (i 0).val
  let c63_i32 : BitVec 32 := 63#32
  let v0 : BitVec 32 := Scalar.minsi arg0 c63_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c63_i32_4 : BitVec 32 := 63#32
  let v18 : BitVec 32 := Scalar.minsi arg0 c63_i32_4
  let c16_i32_5 : BitVec 32 := 16#32
  let c0_i32_6 : BitVec 32 := 0#32
  let v19 : BitVec 1 := Scalar.cmpi .eq c16_i32_5 c0_i32_6
  let c1_i32_7 : BitVec 32 := 1#32
  let v20 : BitVec 32 := Scalar.select v19 c1_i32_7 c16_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c1_i32_11 : BitVec 32 := 1#32
  let v29 : BitVec 32 := Scalar.addi v28 c1_i32_11
  let c32_i32 : BitVec 32 := 32#32
  let v30 : BitVec 32 := Scalar.muli v29 c32_i32
  let c511_i32 : BitVec 32 := 511#32
  let v31 : BitVec 32 := Scalar.minsi v30 c511_i32
  let c0_i32_12 : BitVec 32 := 0#32
  let c0_i32_13 : BitVec 32 := 0#32
  let c0_i32_14 : BitVec 32 := 0#32
  ![v17.toNat, v31.toNat, c0_i32_12.toNat, c0_i32_13.toNat]

def cc0_transform_3 (i : grid0.Coords) : Fin 3 → Nat :=
  let arg0 : BitVec 32 := BitVec.ofNat 32 (i 0).val
  let c63_i32 : BitVec 32 := 63#32
  let v0 : BitVec 32 := Scalar.minsi arg0 c63_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32 : BitVec 32 := 8#32
  let v18 : BitVec 32 := Scalar.addi c8_i32 v17
  let c0_i32_4 : BitVec 32 := 0#32
  let c0_i32_5 : BitVec 32 := 0#32
  let c0_i32_6 : BitVec 32 := 0#32
  ![v18.toNat, c0_i32_4.toNat, c0_i32_5.toNat]

def cc0_transform_4 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let v2 : BitVec 32 := Scalar.divsi v1 c16_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c8_i32 : BitVec 32 := 8#32
  let v19 : BitVec 32 := Scalar.addi c8_i32 v18
  let c0_i32_6 : BitVec 32 := 0#32
  let c0_i32_7 : BitVec 32 := 0#32
  let c0_i32_8 : BitVec 32 := 0#32
  ![v19.toNat, c0_i32_6.toNat, c0_i32_7.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let v2 : BitVec 32 := Scalar.divsi v1 c16_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c16_i32_8 : BitVec 32 := 16#32
  let c0_i32_9 : BitVec 32 := 0#32
  let v21 : BitVec 1 := Scalar.cmpi .eq c16_i32_8 c0_i32_9
  let c1_i32_10 : BitVec 32 := 1#32
  let v22 : BitVec 32 := Scalar.select v21 c1_i32_10 c16_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let c0_i32_15 : BitVec 32 := 0#32
  ![v18.toNat, v30.toNat, c0_i32_14.toNat]

abbrev stage0_0 : Fin 2 → Memref sig .tc .vmem S1x1x16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x6144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x6144 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S31x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x4096 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S4096x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S1x512x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== ConfRefIdeal.lean ====
abbrev S4x8192x1024 : Shape := ⟨3, ![4, 8192, 1024]⟩
abbrev S16x1x6144 : Shape := ⟨3, ![16, 1, 6144]⟩
abbrev S2x1024 : Shape := ⟨2, ![2, 1024]⟩
abbrev S1x1024x2048 : Shape := ⟨3, ![1, 1024, 2048]⟩
abbrev S1x2048 : Shape := ⟨2, ![1, 2048]⟩
abbrev S1x31x1024 : Shape := ⟨3, ![1, 31, 1024]⟩
abbrev S1x1024 : Shape := ⟨2, ![1, 1024]⟩
abbrev S1x1024x1024 : Shape := ⟨3, ![1, 1024, 1024]⟩
abbrev S2x1024x4096 : Shape := ⟨3, ![2, 1024, 4096]⟩
abbrev S2x4096x1024 : Shape := ⟨3, ![2, 4096, 1024]⟩
abbrev S1024 : Shape := ⟨1, ![1024]⟩
abbrev S4x1x6144 : Shape := ⟨3, ![4, 1, 6144]⟩
abbrev S4x1x1024 : Shape := ⟨3, ![4, 1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1024x2048 : Shape := ⟨2, ![1024, 2048]⟩
abbrev S2048 : Shape := ⟨1, ![2048]⟩
abbrev S31x1024 : Shape := ⟨2, ![31, 1024]⟩
abbrev S1024x1024 : Shape := ⟨2, ![1024, 1024]⟩
abbrev S4x8192x2048 : Shape := ⟨3, ![4, 8192, 2048]⟩
abbrev S1x1x2048 : Shape := ⟨3, ![1, 1, 2048]⟩
abbrev S4x8222x1024 : Shape := ⟨3, ![4, 8222, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S4x8192x4096 : Shape := ⟨3, ![4, 8192, 4096]⟩

abbrev nBuf : Space → Nat
  | .hbm => 389
  | .vmem => 0
  | .smem => 0
  | _ => 0

abbrev hbmTy0_0 (i : Nat) : BufTy := match i % 128 with
  | 0 => ⟨S4x8192x1024, .f32⟩
  | 1 => ⟨S16x1x6144, .f32⟩
  | 2 => ⟨S2x1024, .f32⟩
  | 3 => ⟨S1x1024x2048, .f32⟩
  | 4 => ⟨S1x2048, .f32⟩
  | 5 => ⟨S1x31x1024, .f32⟩
  | 6 => ⟨S1x1024, .f32⟩
  | 7 => ⟨S1x1024, .f32⟩
  | 8 => ⟨S1x1024, .f32⟩
  | 9 => ⟨S1x1024x1024, .f32⟩
  | 10 => ⟨S1x1024, .f32⟩
  | 11 => ⟨S2x1024, .f32⟩
  | 12 => ⟨S2x1024x4096, .f32⟩
  | 13 => ⟨S2x4096x1024, .f32⟩
  | 14 => ⟨S1024, .f32⟩
  | 15 => ⟨S4x1x6144, .f32⟩
  | 16 => ⟨S4x1x1024, .f32⟩
  | 17 => ⟨S4x1x1024, .f32⟩
  | 18 => ⟨S4x1x1024, .f32⟩
  | 19 => ⟨S4x1x1024, .f32⟩
  | 20 => ⟨S4x1x1024, .f32⟩
  | 21 => ⟨S4x1x1024, .f32⟩
  | 22 => ⟨S1x1024, .f32⟩
  | 23 => ⟨S1024, .f32⟩
  | 24 => ⟨S4x8192x1024, .f32⟩
  | 25 => ⟨S_, .f32⟩
  | 26 => ⟨S4x8192, .f32⟩
  | 27 => ⟨S4x8192x1, .f32⟩
  | 28 => ⟨S_, .f32⟩
  | 29 => ⟨S4x8192x1, .f32⟩
  | 30 => ⟨S4x8192x1, .f32⟩
  | 31 => ⟨S_, .f32⟩
  | 32 => ⟨S4x8192x1, .f32⟩
  | 33 => ⟨S4x8192x1, .f32⟩
  | 34 => ⟨S4x8192x1, .f32⟩
  | 35 => ⟨S4x8192x1024, .f32⟩
  | 36 => ⟨S4x8192x1024, .f32⟩
  | 37 => ⟨S1x1x1024, .f32⟩
  | 38 => ⟨S4x8192x1024, .f32⟩
  | 39 => ⟨S4x8192x1024, .f32⟩
  | 40 => ⟨S_, .f32⟩
  | 41 => ⟨S4x1x1024, .f32⟩
  | 42 => ⟨S4x1x1024, .f32⟩
  | 43 => ⟨S4x8192x1024, .f32⟩
  | 44 => ⟨S4x8192x1024, .f32⟩
  | 45 => ⟨S4x8192x1024, .f32⟩
  | 46 => ⟨S4x8192x1024, .f32⟩
  | 47 => ⟨S1024x2048, .f32⟩
  | 48 => ⟨S2048, .f32⟩
  | 49 => ⟨S31x1024, .f32⟩
  | 50 => ⟨S1024, .f32⟩
  | 51 => ⟨S1024, .f32⟩
  | 52 => ⟨S1024, .f32⟩
  | 53 => ⟨S1024x1024, .f32⟩
  | 54 => ⟨S1024, .f32⟩
  | 55 => ⟨S4x8192x2048, .f32⟩
  | 56 => ⟨S1x1x2048, .f32⟩
  | 57 => ⟨S4x8192x2048, .f32⟩
  | 58 => ⟨S4x8192x2048, .f32⟩
  | 59 => ⟨S4x8192x1024, .f32⟩
  | 60 => ⟨S4x8192x1024, .f32⟩
  | 61 => ⟨S4x8192x1024, .f32⟩
  | 62 => ⟨S4x8192x1024, .f32⟩
  | 63 => ⟨S_, .f32⟩
  | 64 => ⟨S4x8192x1024, .f32⟩
  | 65 => ⟨S4x8192x1024, .f32⟩
  | 66 => ⟨S_, .f32⟩
  | 67 => ⟨S4x8192x1024, .f32⟩
  | 68 => ⟨S4x8192x1024, .f32⟩
  | 69 => ⟨S4x8192x1024, .f32⟩
  | 70 => ⟨S_, .i32⟩
  | 71 => ⟨S_, .f32⟩
  | 72 => ⟨S4x8222x1024, .f32⟩
  | 73 => ⟨S4x8192x1024, .f32⟩
  | 74 => ⟨S1x1024, .f32⟩
  | 75 => ⟨S1024, .f32⟩
  | 76 => ⟨S1x1x1024, .f32⟩
  | 77 => ⟨S4x8192x1024, .f32⟩
  | 78 => ⟨S4x8192x1024, .f32⟩
  | 79 => ⟨S4x8192x1024, .f32⟩
  | 80 => ⟨S1x1024, .f32⟩
  | 81 => ⟨S1024, .f32⟩
  | 82 => ⟨S1x1x1024, .f32⟩
  | 83 => ⟨S4x8192x1024, .f32⟩
  | 84 => ⟨S4x8192x1024, .f32⟩
  | 85 => ⟨S4x8192x1024, .f32⟩
  | 86 => ⟨S4x8192x1024, .f32⟩
  | 87 => ⟨S1x1024, .f32⟩
  | 88 => ⟨S1024, .f32⟩
  | 89 => ⟨S1x1x1024, .f32⟩
  | 90 => ⟨S4x8192x1024, .f32⟩
  | 91 => ⟨S4x8192x1024, .f32⟩
  | 92 => ⟨S4x8192x1024, .f32⟩
  | 93 => ⟨S4x8192x1024, .f32⟩
  | 94 => ⟨S1x1024, .f32⟩
  | 95 => ⟨S1024, .f32⟩
  | 96 => ⟨S1x1x1024, .f32⟩
  | 97 => ⟨S4x8192x1024, .f32⟩
  | 98 => ⟨S4x8192x1024, .f32⟩
  | 99 => ⟨S4x8192x1024, .f32⟩
  | 100 => ⟨S4x8192x1024, .f32⟩
  | 101 => ⟨S1x1024, .f32⟩
  | 102 => ⟨S1024, .f32⟩
  | 103 => ⟨S1x1x1024, .f32⟩
  | 104 => ⟨S4x8192x1024, .f32⟩
  | 105 => ⟨S4x8192x1024, .f32⟩
  | 106 => ⟨S4x8192x1024, .f32⟩
  | 107 => ⟨S4x8192x1024, .f32⟩
  | 108 => ⟨S1x1024, .f32⟩
  | 109 => ⟨S1024, .f32⟩
  | 110 => ⟨S1x1x1024, .f32⟩
  | 111 => ⟨S4x8192x1024, .f32⟩
  | 112 => ⟨S4x8192x1024, .f32⟩
  | 113 => ⟨S4x8192x1024, .f32⟩
  | 114 => ⟨S4x8192x1024, .f32⟩
  | 115 => ⟨S1x1024, .f32⟩
  | 116 => ⟨S1024, .f32⟩
  | 117 => ⟨S1x1x1024, .f32⟩
  | 118 => ⟨S4x8192x1024, .f32⟩
  | 119 => ⟨S4x8192x1024, .f32⟩
  | 120 => ⟨S4x8192x1024, .f32⟩
  | 121 => ⟨S4x8192x1024, .f32⟩
  | 122 => ⟨S1x1024, .f32⟩
  | 123 => ⟨S1024, .f32⟩
  | 124 => ⟨S1x1x1024, .f32⟩
  | 125 => ⟨S4x8192x1024, .f32⟩
  | 126 => ⟨S4x8192x1024, .f32⟩
  | 127 => ⟨S4x8192x1024, .f32⟩
  | _ => ⟨S4x8192x1024, .f32⟩

abbrev hbmTy0_1 (i : Nat) : BufTy := match i % 128 with
  | 0 => ⟨S4x8192x1024, .f32⟩
  | 1 => ⟨S1x1024, .f32⟩
  | 2 => ⟨S1024, .f32⟩
  | 3 => ⟨S1x1x1024, .f32⟩
  | 4 => ⟨S4x8192x1024, .f32⟩
  | 5 => ⟨S4x8192x1024, .f32⟩
  | 6 => ⟨S4x8192x1024, .f32⟩
  | 7 => ⟨S4x8192x1024, .f32⟩
  | 8 => ⟨S1x1024, .f32⟩
  | 9 => ⟨S1024, .f32⟩
  | 10 => ⟨S1x1x1024, .f32⟩
  | 11 => ⟨S4x8192x1024, .f32⟩
  | 12 => ⟨S4x8192x1024, .f32⟩
  | 13 => ⟨S4x8192x1024, .f32⟩
  | 14 => ⟨S4x8192x1024, .f32⟩
  | 15 => ⟨S1x1024, .f32⟩
  | 16 => ⟨S1024, .f32⟩
  | 17 => ⟨S1x1x1024, .f32⟩
  | 18 => ⟨S4x8192x1024, .f32⟩
  | 19 => ⟨S4x8192x1024, .f32⟩
  | 20 => ⟨S4x8192x1024, .f32⟩
  | 21 => ⟨S4x8192x1024, .f32⟩
  | 22 => ⟨S1x1024, .f32⟩
  | 23 => ⟨S1024, .f32⟩
  | 24 => ⟨S1x1x1024, .f32⟩
  | 25 => ⟨S4x8192x1024, .f32⟩
  | 26 => ⟨S4x8192x1024, .f32⟩
  | 27 => ⟨S4x8192x1024, .f32⟩
  | 28 => ⟨S4x8192x1024, .f32⟩
  | 29 => ⟨S1x1024, .f32⟩
  | 30 => ⟨S1024, .f32⟩
  | 31 => ⟨S1x1x1024, .f32⟩
  | 32 => ⟨S4x8192x1024, .f32⟩
  | 33 => ⟨S4x8192x1024, .f32⟩
  | 34 => ⟨S4x8192x1024, .f32⟩
  | 35 => ⟨S4x8192x1024, .f32⟩
  | 36 => ⟨S1x1024, .f32⟩
  | 37 => ⟨S1024, .f32⟩
  | 38 => ⟨S1x1x1024, .f32⟩
  | 39 => ⟨S4x8192x1024, .f32⟩
  | 40 => ⟨S4x8192x1024, .f32⟩
  | 41 => ⟨S4x8192x1024, .f32⟩
  | 42 => ⟨S4x8192x1024, .f32⟩
  | 43 => ⟨S1x1024, .f32⟩
  | 44 => ⟨S1024, .f32⟩
  | 45 => ⟨S1x1x1024, .f32⟩
  | 46 => ⟨S4x8192x1024, .f32⟩
  | 47 => ⟨S4x8192x1024, .f32⟩
  | 48 => ⟨S4x8192x1024, .f32⟩
  | 49 => ⟨S4x8192x1024, .f32⟩
  | 50 => ⟨S1x1024, .f32⟩
  | 51 => ⟨S1024, .f32⟩
  | 52 => ⟨S1x1x1024, .f32⟩
  | 53 => ⟨S4x8192x1024, .f32⟩
  | 54 => ⟨S4x8192x1024, .f32⟩
  | 55 => ⟨S4x8192x1024, .f32⟩
  | 56 => ⟨S4x8192x1024, .f32⟩
  | 57 => ⟨S1x1024, .f32⟩
  | 58 => ⟨S1024, .f32⟩
  | 59 => ⟨S1x1x1024, .f32⟩
  | 60 => ⟨S4x8192x1024, .f32⟩
  | 61 => ⟨S4x8192x1024, .f32⟩
  | 62 => ⟨S4x8192x1024, .f32⟩
  | 63 => ⟨S4x8192x1024, .f32⟩
  | 64 => ⟨S1x1024, .f32⟩
  | 65 => ⟨S1024, .f32⟩
  | 66 => ⟨S1x1x1024, .f32⟩
  | 67 => ⟨S4x8192x1024, .f32⟩
  | 68 => ⟨S4x8192x1024, .f32⟩
  | 69 => ⟨S4x8192x1024, .f32⟩
  | 70 => ⟨S4x8192x1024, .f32⟩
  | 71 => ⟨S1x1024, .f32⟩
  | 72 => ⟨S1024, .f32⟩
  | 73 => ⟨S1x1x1024, .f32⟩
  | 74 => ⟨S4x8192x1024, .f32⟩
  | 75 => ⟨S4x8192x1024, .f32⟩
  | 76 => ⟨S4x8192x1024, .f32⟩
  | 77 => ⟨S4x8192x1024, .f32⟩
  | 78 => ⟨S1x1024, .f32⟩
  | 79 => ⟨S1024, .f32⟩
  | 80 => ⟨S1x1x1024, .f32⟩
  | 81 => ⟨S4x8192x1024, .f32⟩
  | 82 => ⟨S4x8192x1024, .f32⟩
  | 83 => ⟨S4x8192x1024, .f32⟩
  | 84 => ⟨S4x8192x1024, .f32⟩
  | 85 => ⟨S1x1024, .f32⟩
  | 86 => ⟨S1024, .f32⟩
  | 87 => ⟨S1x1x1024, .f32⟩
  | 88 => ⟨S4x8192x1024, .f32⟩
  | 89 => ⟨S4x8192x1024, .f32⟩
  | 90 => ⟨S4x8192x1024, .f32⟩
  | 91 => ⟨S4x8192x1024, .f32⟩
  | 92 => ⟨S1x1024, .f32⟩
  | 93 => ⟨S1024, .f32⟩
  | 94 => ⟨S1x1x1024, .f32⟩
  | 95 => ⟨S4x8192x1024, .f32⟩
  | 96 => ⟨S4x8192x1024, .f32⟩
  | 97 => ⟨S4x8192x1024, .f32⟩
  | 98 => ⟨S4x8192x1024, .f32⟩
  | 99 => ⟨S1x1024, .f32⟩
  | 100 => ⟨S1024, .f32⟩
  | 101 => ⟨S1x1x1024, .f32⟩
  | 102 => ⟨S4x8192x1024, .f32⟩
  | 103 => ⟨S4x8192x1024, .f32⟩
  | 104 => ⟨S4x8192x1024, .f32⟩
  | 105 => ⟨S4x8192x1024, .f32⟩
  | 106 => ⟨S1x1024, .f32⟩
  | 107 => ⟨S1024, .f32⟩
  | 108 => ⟨S1x1x1024, .f32⟩
  | 109 => ⟨S4x8192x1024, .f32⟩
  | 110 => ⟨S4x8192x1024, .f32⟩
  | 111 => ⟨S4x8192x1024, .f32⟩
  | 112 => ⟨S4x8192x1024, .f32⟩
  | 113 => ⟨S1x1024, .f32⟩
  | 114 => ⟨S1024, .f32⟩
  | 115 => ⟨S1x1x1024, .f32⟩
  | 116 => ⟨S4x8192x1024, .f32⟩
  | 117 => ⟨S4x8192x1024, .f32⟩
  | 118 => ⟨S4x8192x1024, .f32⟩
  | 119 => ⟨S4x8192x1024, .f32⟩
  | 120 => ⟨S1x1024, .f32⟩
  | 121 => ⟨S1024, .f32⟩
  | 122 => ⟨S1x1x1024, .f32⟩
  | 123 => ⟨S4x8192x1024, .f32⟩
  | 124 => ⟨S4x8192x1024, .f32⟩
  | 125 => ⟨S4x8192x1024, .f32⟩
  | 126 => ⟨S4x8192x1024, .f32⟩
  | 127 => ⟨S1x1024, .f32⟩
  | _ => ⟨S4x8192x1024, .f32⟩

abbrev hbmTy0_2 (i : Nat) : BufTy := match i % 128 with
  | 0 => ⟨S1024, .f32⟩
  | 1 => ⟨S1x1x1024, .f32⟩
  | 2 => ⟨S4x8192x1024, .f32⟩
  | 3 => ⟨S4x8192x1024, .f32⟩
  | 4 => ⟨S4x8192x1024, .f32⟩
  | 5 => ⟨S4x8192x1024, .f32⟩
  | 6 => ⟨S1x1024, .f32⟩
  | 7 => ⟨S1024, .f32⟩
  | 8 => ⟨S1x1x1024, .f32⟩
  | 9 => ⟨S4x8192x1024, .f32⟩
  | 10 => ⟨S4x8192x1024, .f32⟩
  | 11 => ⟨S4x8192x1024, .f32⟩
  | 12 => ⟨S4x8192x1024, .f32⟩
  | 13 => ⟨S1x1024, .f32⟩
  | 14 => ⟨S1024, .f32⟩
  | 15 => ⟨S1x1x1024, .f32⟩
  | 16 => ⟨S4x8192x1024, .f32⟩
  | 17 => ⟨S4x8192x1024, .f32⟩
  | 18 => ⟨S4x8192x1024, .f32⟩
  | 19 => ⟨S4x8192x1024, .f32⟩
  | 20 => ⟨S1x1024, .f32⟩
  | 21 => ⟨S1024, .f32⟩
  | 22 => ⟨S1x1x1024, .f32⟩
  | 23 => ⟨S4x8192x1024, .f32⟩
  | 24 => ⟨S4x8192x1024, .f32⟩
  | 25 => ⟨S4x8192x1024, .f32⟩
  | 26 => ⟨S4x8192x1024, .f32⟩
  | 27 => ⟨S1x1024, .f32⟩
  | 28 => ⟨S1024, .f32⟩
  | 29 => ⟨S1x1x1024, .f32⟩
  | 30 => ⟨S4x8192x1024, .f32⟩
  | 31 => ⟨S4x8192x1024, .f32⟩
  | 32 => ⟨S4x8192x1024, .f32⟩
  | 33 => ⟨S1x1x1024, .f32⟩
  | 34 => ⟨S4x8192x1024, .f32⟩
  | 35 => ⟨S4x8192x1024, .f32⟩
  | 36 => ⟨S_, .f32⟩
  | 37 => ⟨S4x8192, .f32⟩
  | 38 => ⟨S4x8192x1, .f32⟩
  | 39 => ⟨S_, .f32⟩
  | 40 => ⟨S4x8192x1, .f32⟩
  | 41 => ⟨S4x8192x1, .f32⟩
  | 42 => ⟨S4x8192x1024, .f32⟩
  | 43 => ⟨S4x8192x1024, .f32⟩
  | 44 => ⟨S4x8192x1024, .f32⟩
  | 45 => ⟨S_, .f32⟩
  | 46 => ⟨S4x8192, .f32⟩
  | 47 => ⟨S4x8192x1, .f32⟩
  | 48 => ⟨S_, .f32⟩
  | 49 => ⟨S4x8192x1, .f32⟩
  | 50 => ⟨S4x8192x1, .f32⟩
  | 51 => ⟨S_, .f32⟩
  | 52 => ⟨S4x8192x1, .f32⟩
  | 53 => ⟨S4x8192x1, .f32⟩
  | 54 => ⟨S4x8192x1, .f32⟩
  | 55 => ⟨S4x8192x1024, .f32⟩
  | 56 => ⟨S4x8192x1024, .f32⟩
  | 57 => ⟨S1x1x1024, .f32⟩
  | 58 => ⟨S4x8192x1024, .f32⟩
  | 59 => ⟨S4x8192x1024, .f32⟩
  | 60 => ⟨S1x1x1024, .f32⟩
  | 61 => ⟨S4x8192x1024, .f32⟩
  | 62 => ⟨S4x8192x1024, .f32⟩
  | 63 => ⟨S4x8192x1024, .f32⟩
  | 64 => ⟨S4x8192x1024, .f32⟩
  | 65 => ⟨S_, .f32⟩
  | 66 => ⟨S4x8192x1024, .f32⟩
  | 67 => ⟨S4x8192x1024, .f32⟩
  | 68 => ⟨S_, .f32⟩
  | 69 => ⟨S4x8192x1024, .f32⟩
  | 70 => ⟨S4x8192x1024, .f32⟩
  | 71 => ⟨S4x8192x1024, .f32⟩
  | 72 => ⟨S4x8192x1024, .f32⟩
  | 73 => ⟨S1x1x1024, .f32⟩
  | 74 => ⟨S4x8192x1024, .f32⟩
  | 75 => ⟨S4x8192x1024, .f32⟩
  | 76 => ⟨S4x8192x1024, .f32⟩
  | 77 => ⟨S4x8192x1024, .f32⟩
  | 78 => ⟨S4x8192x1024, .f32⟩
  | 79 => ⟨S1x1024, .f32⟩
  | 80 => ⟨S1024, .f32⟩
  | 81 => ⟨S4x8192x1024, .f32⟩
  | 82 => ⟨S_, .f32⟩
  | 83 => ⟨S4x8192, .f32⟩
  | 84 => ⟨S4x8192x1, .f32⟩
  | 85 => ⟨S_, .f32⟩
  | 86 => ⟨S4x8192x1, .f32⟩
  | 87 => ⟨S4x8192x1, .f32⟩
  | 88 => ⟨S_, .f32⟩
  | 89 => ⟨S4x8192x1, .f32⟩
  | 90 => ⟨S4x8192x1, .f32⟩
  | 91 => ⟨S4x8192x1, .f32⟩
  | 92 => ⟨S4x8192x1024, .f32⟩
  | 93 => ⟨S4x8192x1024, .f32⟩
  | 94 => ⟨S1x1x1024, .f32⟩
  | 95 => ⟨S4x8192x1024, .f32⟩
  | 96 => ⟨S4x8192x1024, .f32⟩
  | 97 => ⟨S_, .f32⟩
  | 98 => ⟨S4x1x1024, .f32⟩
  | 99 => ⟨S4x1x1024, .f32⟩
  | 100 => ⟨S4x8192x1024, .f32⟩
  | 101 => ⟨S4x8192x1024, .f32⟩
  | 102 => ⟨S4x8192x1024, .f32⟩
  | 103 => ⟨S4x8192x1024, .f32⟩
  | 104 => ⟨S1x1024x4096, .f32⟩
  | 105 => ⟨S1024x4096, .f32⟩
  | 106 => ⟨S1x4096x1024, .f32⟩
  | 107 => ⟨S4096x1024, .f32⟩
  | 108 => ⟨S4x8192x4096, .f32⟩
  | 109 => ⟨S_, .f32⟩
  | 110 => ⟨S4x8192x4096, .f32⟩
  | 111 => ⟨S4x8192x4096, .f32⟩
  | 112 => ⟨S4x8192x4096, .f32⟩
  | 113 => ⟨S4x8192x1024, .f32⟩
  | 114 => ⟨S4x8192x1024, .f32⟩
  | 115 => ⟨S4x8192x1024, .f32⟩
  | 116 => ⟨S4x8192x1024, .f32⟩
  | 117 => ⟨S4x8192x1024, .f32⟩
  | 118 => ⟨S_, .f32⟩
  | 119 => ⟨S4x8192, .f32⟩
  | 120 => ⟨S4x8192x1, .f32⟩
  | 121 => ⟨S_, .f32⟩
  | 122 => ⟨S4x8192x1, .f32⟩
  | 123 => ⟨S4x8192x1, .f32⟩
  | 124 => ⟨S_, .f32⟩
  | 125 => ⟨S4x8192x1, .f32⟩
  | 126 => ⟨S4x8192x1, .f32⟩
  | 127 => ⟨S4x8192x1, .f32⟩
  | _ => ⟨S4x8192x1024, .f32⟩

abbrev hbmTy0_3 (i : Nat) : BufTy := match i % 128 with
  | 0 => ⟨S4x8192x1024, .f32⟩
  | 1 => ⟨S4x8192x1024, .f32⟩
  | 2 => ⟨S1x1x1024, .f32⟩
  | 3 => ⟨S4x8192x1024, .f32⟩
  | 4 => ⟨S4x8192x1024, .f32⟩
  | _ => ⟨S4x8192x1024, .f32⟩

abbrev hbmTy (i : Nat) : BufTy := match i / 128 with
  | 0 => hbmTy0_0 i
  | 1 => hbmTy0_1 i
  | 2 => hbmTy0_2 i
  | 3 => hbmTy0_3 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_v11 : Ref sig .tc := ⟨.hbm, 27, rfl⟩
abbrev main_cst_0 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_2 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_3 : Ref sig .tc := ⟨.hbm, 63, rfl⟩
abbrev main_v44 : Ref sig .tc := ⟨.hbm, 64, rfl⟩
abbrev main_v45 : Ref sig .tc := ⟨.hbm, 65, rfl⟩
abbrev main_cst_4 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_c : Ref sig .tc := ⟨.hbm, 70, rfl⟩
abbrev main_call0_v0 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩
abbrev main_v147 : Ref sig .tc := ⟨.hbm, 170, rfl⟩
abbrev main_v148 : Ref sig .tc := ⟨.hbm, 171, rfl⟩
abbrev main_v149 : Ref sig .tc := ⟨.hbm, 172, rfl⟩
abbrev main_v150 : Ref sig .tc := ⟨.hbm, 173, rfl⟩
abbrev main_v151 : Ref sig .tc := ⟨.hbm, 174, rfl⟩
abbrev main_v152 : Ref sig .tc := ⟨.hbm, 175, rfl⟩
abbrev main_v153 : Ref sig .tc := ⟨.hbm, 176, rfl⟩
abbrev main_v154 : Ref sig .tc := ⟨.hbm, 177, rfl⟩
abbrev main_v155 : Ref sig .tc := ⟨.hbm, 178, rfl⟩
abbrev main_v156 : Ref sig .tc := ⟨.hbm, 179, rfl⟩
abbrev main_v157 : Ref sig .tc := ⟨.hbm, 180, rfl⟩
abbrev main_v158 : Ref sig .tc := ⟨.hbm, 181, rfl⟩
abbrev main_v159 : Ref sig .tc := ⟨.hbm, 182, rfl⟩
abbrev main_v160 : Ref sig .tc := ⟨.hbm, 183, rfl⟩
abbrev main_v161 : Ref sig .tc := ⟨.hbm, 184, rfl⟩
abbrev main_v162 : Ref sig .tc := ⟨.hbm, 185, rfl⟩
abbrev main_v163 : Ref sig .tc := ⟨.hbm, 186, rfl⟩
abbrev main_v164 : Ref sig .tc := ⟨.hbm, 187, rfl⟩
abbrev main_v165 : Ref sig .tc := ⟨.hbm, 188, rfl⟩
abbrev main_v166 : Ref sig .tc := ⟨.hbm, 189, rfl⟩
abbrev main_v167 : Ref sig .tc := ⟨.hbm, 190, rfl⟩
abbrev main_v168 : Ref sig .tc := ⟨.hbm, 191, rfl⟩
abbrev main_v169 : Ref sig .tc := ⟨.hbm, 192, rfl⟩
abbrev main_v170 : Ref sig .tc := ⟨.hbm, 193, rfl⟩
abbrev main_v171 : Ref sig .tc := ⟨.hbm, 194, rfl⟩
abbrev main_v172 : Ref sig .tc := ⟨.hbm, 195, rfl⟩
abbrev main_v173 : Ref sig .tc := ⟨.hbm, 196, rfl⟩
abbrev main_v174 : Ref sig .tc := ⟨.hbm, 197, rfl⟩
abbrev main_v175 : Ref sig .tc := ⟨.hbm, 198, rfl⟩
abbrev main_v176 : Ref sig .tc := ⟨.hbm, 199, rfl⟩
abbrev main_v177 : Ref sig .tc := ⟨.hbm, 200, rfl⟩
abbrev main_v178 : Ref sig .tc := ⟨.hbm, 201, rfl⟩
abbrev main_v179 : Ref sig .tc := ⟨.hbm, 202, rfl⟩
abbrev main_v180 : Ref sig .tc := ⟨.hbm, 203, rfl⟩
abbrev main_v181 : Ref sig .tc := ⟨.hbm, 204, rfl⟩
abbrev main_v182 : Ref sig .tc := ⟨.hbm, 205, rfl⟩
abbrev main_v183 : Ref sig .tc := ⟨.hbm, 206, rfl⟩
abbrev main_v184 : Ref sig .tc := ⟨.hbm, 207, rfl⟩
abbrev main_v185 : Ref sig .tc := ⟨.hbm, 208, rfl⟩
abbrev main_v186 : Ref sig .tc := ⟨.hbm, 209, rfl⟩
abbrev main_v187 : Ref sig .tc := ⟨.hbm, 210, rfl⟩
abbrev main_v188 : Ref sig .tc := ⟨.hbm, 211, rfl⟩
abbrev main_v189 : Ref sig .tc := ⟨.hbm, 212, rfl⟩
abbrev main_v190 : Ref sig .tc := ⟨.hbm, 213, rfl⟩
abbrev main_v191 : Ref sig .tc := ⟨.hbm, 214, rfl⟩
abbrev main_v192 : Ref sig .tc := ⟨.hbm, 215, rfl⟩
abbrev main_v193 : Ref sig .tc := ⟨.hbm, 216, rfl⟩
abbrev main_v194 : Ref sig .tc := ⟨.hbm, 217, rfl⟩
abbrev main_v195 : Ref sig .tc := ⟨.hbm, 218, rfl⟩
abbrev main_v196 : Ref sig .tc := ⟨.hbm, 219, rfl⟩
abbrev main_v197 : Ref sig .tc := ⟨.hbm, 220, rfl⟩
abbrev main_v198 : Ref sig .tc := ⟨.hbm, 221, rfl⟩
abbrev main_v199 : Ref sig .tc := ⟨.hbm, 222, rfl⟩
abbrev main_v200 : Ref sig .tc := ⟨.hbm, 223, rfl⟩
abbrev main_v201 : Ref sig .tc := ⟨.hbm, 224, rfl⟩
abbrev main_v202 : Ref sig .tc := ⟨.hbm, 225, rfl⟩
abbrev main_v203 : Ref sig .tc := ⟨.hbm, 226, rfl⟩
abbrev main_v204 : Ref sig .tc := ⟨.hbm, 227, rfl⟩
abbrev main_v205 : Ref sig .tc := ⟨.hbm, 228, rfl⟩
abbrev main_v206 : Ref sig .tc := ⟨.hbm, 229, rfl⟩
abbrev main_v207 : Ref sig .tc := ⟨.hbm, 230, rfl⟩
abbrev main_v208 : Ref sig .tc := ⟨.hbm, 231, rfl⟩
abbrev main_v209 : Ref sig .tc := ⟨.hbm, 232, rfl⟩
abbrev main_v210 : Ref sig .tc := ⟨.hbm, 233, rfl⟩
abbrev main_v211 : Ref sig .tc := ⟨.hbm, 234, rfl⟩
abbrev main_v212 : Ref sig .tc := ⟨.hbm, 235, rfl⟩
abbrev main_v213 : Ref sig .tc := ⟨.hbm, 236, rfl⟩
abbrev main_v214 : Ref sig .tc := ⟨.hbm, 237, rfl⟩
abbrev main_v215 : Ref sig .tc := ⟨.hbm, 238, rfl⟩
abbrev main_v216 : Ref sig .tc := ⟨.hbm, 239, rfl⟩
abbrev main_v217 : Ref sig .tc := ⟨.hbm, 240, rfl⟩
abbrev main_v218 : Ref sig .tc := ⟨.hbm, 241, rfl⟩
abbrev main_v219 : Ref sig .tc := ⟨.hbm, 242, rfl⟩
abbrev main_v220 : Ref sig .tc := ⟨.hbm, 243, rfl⟩
abbrev main_v221 : Ref sig .tc := ⟨.hbm, 244, rfl⟩
abbrev main_v222 : Ref sig .tc := ⟨.hbm, 245, rfl⟩
abbrev main_v223 : Ref sig .tc := ⟨.hbm, 246, rfl⟩
abbrev main_v224 : Ref sig .tc := ⟨.hbm, 247, rfl⟩
abbrev main_v225 : Ref sig .tc := ⟨.hbm, 248, rfl⟩
abbrev main_v226 : Ref sig .tc := ⟨.hbm, 249, rfl⟩
abbrev main_v227 : Ref sig .tc := ⟨.hbm, 250, rfl⟩
abbrev main_v228 : Ref sig .tc := ⟨.hbm, 251, rfl⟩
abbrev main_v229 : Ref sig .tc := ⟨.hbm, 252, rfl⟩
abbrev main_v230 : Ref sig .tc := ⟨.hbm, 253, rfl⟩
abbrev main_v231 : Ref sig .tc := ⟨.hbm, 254, rfl⟩
abbrev main_v232 : Ref sig .tc := ⟨.hbm, 255, rfl⟩
abbrev main_v233 : Ref sig .tc := ⟨.hbm, 256, rfl⟩
abbrev main_v234 : Ref sig .tc := ⟨.hbm, 257, rfl⟩
abbrev main_v235 : Ref sig .tc := ⟨.hbm, 258, rfl⟩
abbrev main_v236 : Ref sig .tc := ⟨.hbm, 259, rfl⟩
abbrev main_v237 : Ref sig .tc := ⟨.hbm, 260, rfl⟩
abbrev main_v238 : Ref sig .tc := ⟨.hbm, 261, rfl⟩
abbrev main_v239 : Ref sig .tc := ⟨.hbm, 262, rfl⟩
abbrev main_v240 : Ref sig .tc := ⟨.hbm, 263, rfl⟩
abbrev main_v241 : Ref sig .tc := ⟨.hbm, 264, rfl⟩
abbrev main_v242 : Ref sig .tc := ⟨.hbm, 265, rfl⟩
abbrev main_v243 : Ref sig .tc := ⟨.hbm, 266, rfl⟩
abbrev main_v244 : Ref sig .tc := ⟨.hbm, 267, rfl⟩
abbrev main_v245 : Ref sig .tc := ⟨.hbm, 268, rfl⟩
abbrev main_v246 : Ref sig .tc := ⟨.hbm, 269, rfl⟩
abbrev main_v247 : Ref sig .tc := ⟨.hbm, 270, rfl⟩
abbrev main_v248 : Ref sig .tc := ⟨.hbm, 271, rfl⟩
abbrev main_v249 : Ref sig .tc := ⟨.hbm, 272, rfl⟩
abbrev main_v250 : Ref sig .tc := ⟨.hbm, 273, rfl⟩
abbrev main_v251 : Ref sig .tc := ⟨.hbm, 274, rfl⟩
abbrev main_v252 : Ref sig .tc := ⟨.hbm, 275, rfl⟩
abbrev main_v253 : Ref sig .tc := ⟨.hbm, 276, rfl⟩
abbrev main_v254 : Ref sig .tc := ⟨.hbm, 277, rfl⟩
abbrev main_v255 : Ref sig .tc := ⟨.hbm, 278, rfl⟩
abbrev main_v256 : Ref sig .tc := ⟨.hbm, 279, rfl⟩
abbrev main_v257 : Ref sig .tc := ⟨.hbm, 280, rfl⟩
abbrev main_v258 : Ref sig .tc := ⟨.hbm, 281, rfl⟩
abbrev main_v259 : Ref sig .tc := ⟨.hbm, 282, rfl⟩
abbrev main_v260 : Ref sig .tc := ⟨.hbm, 283, rfl⟩
abbrev main_v261 : Ref sig .tc := ⟨.hbm, 284, rfl⟩
abbrev main_v262 : Ref sig .tc := ⟨.hbm, 285, rfl⟩
abbrev main_v263 : Ref sig .tc := ⟨.hbm, 286, rfl⟩
abbrev main_v264 : Ref sig .tc := ⟨.hbm, 287, rfl⟩
abbrev main_v265 : Ref sig .tc := ⟨.hbm, 288, rfl⟩
abbrev main_v266 : Ref sig .tc := ⟨.hbm, 289, rfl⟩
abbrev main_v267 : Ref sig .tc := ⟨.hbm, 290, rfl⟩
abbrev main_v268 : Ref sig .tc := ⟨.hbm, 291, rfl⟩
abbrev main_cst_5 : Ref sig .tc := ⟨.hbm, 292, rfl⟩
abbrev main_v269 : Ref sig .tc := ⟨.hbm, 293, rfl⟩
abbrev main_v270 : Ref sig .tc := ⟨.hbm, 294, rfl⟩
abbrev main_cst_6 : Ref sig .tc := ⟨.hbm, 295, rfl⟩
abbrev main_v271 : Ref sig .tc := ⟨.hbm, 296, rfl⟩
abbrev main_v272 : Ref sig .tc := ⟨.hbm, 297, rfl⟩
abbrev main_v273 : Ref sig .tc := ⟨.hbm, 298, rfl⟩
abbrev main_v274 : Ref sig .tc := ⟨.hbm, 299, rfl⟩
abbrev main_v275 : Ref sig .tc := ⟨.hbm, 300, rfl⟩
abbrev main_cst_7 : Ref sig .tc := ⟨.hbm, 301, rfl⟩
abbrev main_v276 : Ref sig .tc := ⟨.hbm, 302, rfl⟩
abbrev main_v277 : Ref sig .tc := ⟨.hbm, 303, rfl⟩
abbrev main_cst_8 : Ref sig .tc := ⟨.hbm, 304, rfl⟩
abbrev main_v278 : Ref sig .tc := ⟨.hbm, 305, rfl⟩
abbrev main_v279 : Ref sig .tc := ⟨.hbm, 306, rfl⟩
abbrev main_cst_9 : Ref sig .tc := ⟨.hbm, 307, rfl⟩
abbrev main_v280 : Ref sig .tc := ⟨.hbm, 308, rfl⟩
abbrev main_v281 : Ref sig .tc := ⟨.hbm, 309, rfl⟩
abbrev main_v282 : Ref sig .tc := ⟨.hbm, 310, rfl⟩
abbrev main_v283 : Ref sig .tc := ⟨.hbm, 311, rfl⟩
abbrev main_v284 : Ref sig .tc := ⟨.hbm, 312, rfl⟩
abbrev main_v285 : Ref sig .tc := ⟨.hbm, 313, rfl⟩
abbrev main_v286 : Ref sig .tc := ⟨.hbm, 314, rfl⟩
abbrev main_v287 : Ref sig .tc := ⟨.hbm, 315, rfl⟩
abbrev main_v288 : Ref sig .tc := ⟨.hbm, 316, rfl⟩
abbrev main_v289 : Ref sig .tc := ⟨.hbm, 317, rfl⟩
abbrev main_v290 : Ref sig .tc := ⟨.hbm, 318, rfl⟩
abbrev main_call1_v0 : Ref sig .tc := ⟨.hbm, 319, rfl⟩
abbrev main_call1_v1 : Ref sig .tc := ⟨.hbm, 320, rfl⟩
abbrev main_call1_cst : Ref sig .tc := ⟨.hbm, 321, rfl⟩
abbrev main_call1_v2 : Ref sig .tc := ⟨.hbm, 322, rfl⟩
abbrev main_call1_v3 : Ref sig .tc := ⟨.hbm, 323, rfl⟩
abbrev main_call1_cst_0 : Ref sig .tc := ⟨.hbm, 324, rfl⟩
abbrev main_call1_v4 : Ref sig .tc := ⟨.hbm, 325, rfl⟩
abbrev main_call1_v5 : Ref sig .tc := ⟨.hbm, 326, rfl⟩
abbrev main_v291 : Ref sig .tc := ⟨.hbm, 327, rfl⟩
abbrev main_v292 : Ref sig .tc := ⟨.hbm, 328, rfl⟩
abbrev main_v293 : Ref sig .tc := ⟨.hbm, 329, rfl⟩
abbrev main_v294 : Ref sig .tc := ⟨.hbm, 330, rfl⟩
abbrev main_v295 : Ref sig .tc := ⟨.hbm, 331, rfl⟩
abbrev main_v296 : Ref sig .tc := ⟨.hbm, 332, rfl⟩
abbrev main_v297 : Ref sig .tc := ⟨.hbm, 333, rfl⟩
abbrev main_v298 : Ref sig .tc := ⟨.hbm, 334, rfl⟩
abbrev main_v299 : Ref sig .tc := ⟨.hbm, 335, rfl⟩
abbrev main_v300 : Ref sig .tc := ⟨.hbm, 336, rfl⟩
abbrev main_v301 : Ref sig .tc := ⟨.hbm, 337, rfl⟩
abbrev main_cst_10 : Ref sig .tc := ⟨.hbm, 338, rfl⟩
abbrev main_v302 : Ref sig .tc := ⟨.hbm, 339, rfl⟩
abbrev main_v303 : Ref sig .tc := ⟨.hbm, 340, rfl⟩
abbrev main_cst_11 : Ref sig .tc := ⟨.hbm, 341, rfl⟩
abbrev main_v304 : Ref sig .tc := ⟨.hbm, 342, rfl⟩
abbrev main_v305 : Ref sig .tc := ⟨.hbm, 343, rfl⟩
abbrev main_cst_12 : Ref sig .tc := ⟨.hbm, 344, rfl⟩
abbrev main_v306 : Ref sig .tc := ⟨.hbm, 345, rfl⟩
abbrev main_v307 : Ref sig .tc := ⟨.hbm, 346, rfl⟩
abbrev main_v308 : Ref sig .tc := ⟨.hbm, 347, rfl⟩
abbrev main_v309 : Ref sig .tc := ⟨.hbm, 348, rfl⟩
abbrev main_v310 : Ref sig .tc := ⟨.hbm, 349, rfl⟩
abbrev main_v311 : Ref sig .tc := ⟨.hbm, 350, rfl⟩
abbrev main_v312 : Ref sig .tc := ⟨.hbm, 351, rfl⟩
abbrev main_v313 : Ref sig .tc := ⟨.hbm, 352, rfl⟩
abbrev main_cst_13 : Ref sig .tc := ⟨.hbm, 353, rfl⟩
abbrev main_v314 : Ref sig .tc := ⟨.hbm, 354, rfl⟩
abbrev main_v315 : Ref sig .tc := ⟨.hbm, 355, rfl⟩
abbrev main_v316 : Ref sig .tc := ⟨.hbm, 356, rfl⟩
abbrev main_v317 : Ref sig .tc := ⟨.hbm, 357, rfl⟩
abbrev main_v318 : Ref sig .tc := ⟨.hbm, 358, rfl⟩
abbrev main_v319 : Ref sig .tc := ⟨.hbm, 359, rfl⟩
abbrev main_v320 : Ref sig .tc := ⟨.hbm, 360, rfl⟩
abbrev main_v321 : Ref sig .tc := ⟨.hbm, 361, rfl⟩
abbrev main_v322 : Ref sig .tc := ⟨.hbm, 362, rfl⟩
abbrev main_v323 : Ref sig .tc := ⟨.hbm, 363, rfl⟩
abbrev main_v324 : Ref sig .tc := ⟨.hbm, 364, rfl⟩
abbrev main_call2_cst : Ref sig .tc := ⟨.hbm, 365, rfl⟩
abbrev main_call2_v0 : Ref sig .tc := ⟨.hbm, 366, rfl⟩
abbrev main_v325 : Ref sig .tc := ⟨.hbm, 367, rfl⟩
abbrev main_v326 : Ref sig .tc := ⟨.hbm, 368, rfl⟩
abbrev main_v327 : Ref sig .tc := ⟨.hbm, 369, rfl⟩
abbrev main_v328 : Ref sig .tc := ⟨.hbm, 370, rfl⟩
abbrev main_v329 : Ref sig .tc := ⟨.hbm, 371, rfl⟩
abbrev main_v330 : Ref sig .tc := ⟨.hbm, 372, rfl⟩
abbrev main_v331 : Ref sig .tc := ⟨.hbm, 373, rfl⟩
abbrev main_cst_14 : Ref sig .tc := ⟨.hbm, 374, rfl⟩
abbrev main_v332 : Ref sig .tc := ⟨.hbm, 375, rfl⟩
abbrev main_v333 : Ref sig .tc := ⟨.hbm, 376, rfl⟩
abbrev main_cst_15 : Ref sig .tc := ⟨.hbm, 377, rfl⟩
abbrev main_v334 : Ref sig .tc := ⟨.hbm, 378, rfl⟩
abbrev main_v335 : Ref sig .tc := ⟨.hbm, 379, rfl⟩
abbrev main_cst_16 : Ref sig .tc := ⟨.hbm, 380, rfl⟩
abbrev main_v336 : Ref sig .tc := ⟨.hbm, 381, rfl⟩
abbrev main_v337 : Ref sig .tc := ⟨.hbm, 382, rfl⟩
abbrev main_v338 : Ref sig .tc := ⟨.hbm, 383, rfl⟩
abbrev main_v339 : Ref sig .tc := ⟨.hbm, 384, rfl⟩
abbrev main_v340 : Ref sig .tc := ⟨.hbm, 385, rfl⟩
abbrev main_v341 : Ref sig .tc := ⟨.hbm, 386, rfl⟩
abbrev main_v342 : Ref sig .tc := ⟨.hbm, 387, rfl⟩
abbrev main_v343 : Ref sig .tc := ⟨.hbm, 388, rfl⟩

abbrev nD : Nat := 1
abbrev τ : Topo := Topo.v7x

variable {F : FTy → Type} [FloatOps F]
-- ==== Scan.lean ====
abbrev S4x8192x1536 : Shape := ⟨3, ![4, 8192, 1536]⟩
abbrev S4x8192x128 : Shape := ⟨3, ![4, 8192, 128]⟩
abbrev S2x16 : Shape := ⟨2, ![2, 16]⟩
abbrev S4x2x128x512 : Shape := ⟨4, ![4, 2, 128, 512]⟩
abbrev S1024 : Shape := ⟨1, ![1024]⟩
abbrev S_ : Shape := ⟨0, ![]⟩
abbrev S128 : Shape := ⟨1, ![128]⟩
abbrev S128x1 : Shape := ⟨2, ![128, 1]⟩
abbrev S1x1024 : Shape := ⟨2, ![1, 1024]⟩
abbrev S128x1024 : Shape := ⟨2, ![128, 1024]⟩
abbrev S1x32 : Shape := ⟨2, ![1, 32]⟩
abbrev S1x128 : Shape := ⟨2, ![1, 128]⟩
abbrev S4x64x2x128x512 : Shape := ⟨5, ![4, 64, 2, 128, 512]⟩
abbrev S1x1024x1280 : Shape := ⟨3, ![1, 1024, 1280]⟩
abbrev S1x1024x128 : Shape := ⟨3, ![1, 1024, 128]⟩
abbrev S1x2x128x512 : Shape := ⟨4, ![1, 2, 128, 512]⟩
abbrev S1x8x2x128x512 : Shape := ⟨5, ![1, 8, 2, 128, 512]⟩
abbrev S2x128x512 : Shape := ⟨3, ![2, 128, 512]⟩
abbrev S1024x1024 : Shape := ⟨2, ![1024, 1024]⟩
abbrev S8x128 : Shape := ⟨2, ![8, 128]⟩
abbrev S1x128x128 : Shape := ⟨3, ![1, 128, 128]⟩
abbrev S128x128 : Shape := ⟨2, ![128, 128]⟩
abbrev S1024x128 : Shape := ⟨2, ![1024, 128]⟩
abbrev S8x1024 : Shape := ⟨2, ![8, 1024]⟩
abbrev S1x1024x1024 : Shape := ⟨3, ![1, 1024, 1024]⟩
abbrev S128x512 : Shape := ⟨2, ![128, 512]⟩
abbrev S1x128x512 : Shape := ⟨3, ![1, 128, 512]⟩
abbrev S1x1x1x128x512 : Shape := ⟨5, ![1, 1, 1, 128, 512]⟩
abbrev S1x512 : Shape := ⟨2, ![1, 512]⟩

abbrev nBuf : Space → Nat
  | .hbm => 47
  | .vmem => 27
  | .smem => 0
  | _ => 0

abbrev bufTy : (tb : Table) → Fin (tcTables nBuf tb) → BufTy
  | .hbm, ⟨0, _⟩ => ⟨S4x8192x1536, .bf16⟩
  | .hbm, ⟨1, _⟩ => ⟨S4x8192x128, .f32⟩
  | .hbm, ⟨2, _⟩ => ⟨S2x16, .f32⟩
  | .hbm, ⟨3, _⟩ => ⟨S4x2x128x512, .f32⟩
  | .hbm, ⟨4, _⟩ => ⟨S4x2x128x512, .f32⟩
  | .hbm, ⟨5, _⟩ => ⟨S1024, .i32⟩
  | .hbm, ⟨6, _⟩ => ⟨S_, .i32⟩
  | .hbm, ⟨7, _⟩ => ⟨S_, .i32⟩
  | .hbm, ⟨8, _⟩ => ⟨S1024, .i32⟩
  | .hbm, ⟨9, _⟩ => ⟨S1024, .i32⟩
  | .hbm, ⟨10, _⟩ => ⟨S1024, .i32⟩
  | .hbm, ⟨11, _⟩ => ⟨S_, .i32⟩
  | .hbm, ⟨12, _⟩ => ⟨S1024, .i32⟩
  | .hbm, ⟨13, _⟩ => ⟨S1024, .i1⟩
  | .hbm, ⟨14, _⟩ => ⟨S1024, .i32⟩
  | .hbm, ⟨15, _⟩ => ⟨S1024, .i32⟩
  | .hbm, ⟨16, _⟩ => ⟨S_, .i32⟩
  | .hbm, ⟨17, _⟩ => ⟨S1024, .i32⟩
  | .hbm, ⟨18, _⟩ => ⟨S1024, .i1⟩
  | .hbm, ⟨19, _⟩ => ⟨S1024, .i1⟩
  | .hbm, ⟨20, _⟩ => ⟨S_, .i32⟩
  | .hbm, ⟨21, _⟩ => ⟨S1024, .i32⟩
  | .hbm, ⟨22, _⟩ => ⟨S1024, .i32⟩
  | .hbm, ⟨23, _⟩ => ⟨S1024, .i32⟩
  | .hbm, ⟨24, _⟩ => ⟨S128, .i32⟩
  | .hbm, ⟨25, _⟩ => ⟨S128x1, .i32⟩
  | .hbm, ⟨26, _⟩ => ⟨S1x1024, .i32⟩
  | .hbm, ⟨27, _⟩ => ⟨S128x1024, .i32⟩
  | .hbm, ⟨28, _⟩ => ⟨S128x1024, .i32⟩
  | .hbm, ⟨29, _⟩ => ⟨S128x1024, .i1⟩
  | .hbm, ⟨30, _⟩ => ⟨S128x1024, .bf16⟩
  | .hbm, ⟨31, _⟩ => ⟨S1x1024, .i32⟩
  | .hbm, ⟨32, _⟩ => ⟨S_, .i32⟩
  | .hbm, ⟨33, _⟩ => ⟨S1x1024, .i32⟩
  | .hbm, ⟨34, _⟩ => ⟨S1x1024, .i32⟩
  | .hbm, ⟨35, _⟩ => ⟨S128x1024, .i32⟩
  | .hbm, ⟨36, _⟩ => ⟨S128x1024, .i32⟩
  | .hbm, ⟨37, _⟩ => ⟨S128x1024, .i1⟩
  | .hbm, ⟨38, _⟩ => ⟨S128x1024, .bf16⟩
  | .hbm, ⟨39, _⟩ => ⟨S1x32, .f32⟩
  | .hbm, ⟨40, _⟩ => ⟨S_, .i32⟩
  | .hbm, ⟨41, _⟩ => ⟨S_, .f32⟩
  | .hbm, ⟨42, _⟩ => ⟨S1x128, .f32⟩
  | .hbm, ⟨43, _⟩ => ⟨S4x64x2x128x512, .bf16⟩
  | .hbm, ⟨44, _⟩ => ⟨S4x2x128x512, .f32⟩
  | .hbm, ⟨45, _⟩ => ⟨S4x64x2x128x512, .bf16⟩
  | .hbm, ⟨46, _⟩ => ⟨S4x2x128x512, .f32⟩
  | .local _ .vmem, ⟨0, _⟩ => ⟨S1x1024x1280, .bf16⟩
  | .local _ .vmem, ⟨1, _⟩ => ⟨S1x1024x1280, .bf16⟩
  | .local _ .vmem, ⟨2, _⟩ => ⟨S1x1024x128, .f32⟩
  | .local _ .vmem, ⟨3, _⟩ => ⟨S1x1024x128, .f32⟩
  | .local _ .vmem, ⟨4, _⟩ => ⟨S1x1024x1280, .bf16⟩
  | .local _ .vmem, ⟨5, _⟩ => ⟨S1x1024x1280, .bf16⟩
  | .local _ .vmem, ⟨6, _⟩ => ⟨S1x1024x128, .f32⟩
  | .local _ .vmem, ⟨7, _⟩ => ⟨S1x1024x128, .f32⟩
  | .local _ .vmem, ⟨8, _⟩ => ⟨S1x128, .f32⟩
  | .local _ .vmem, ⟨9, _⟩ => ⟨S128x1024, .bf16⟩
  | .local _ .vmem, ⟨10, _⟩ => ⟨S128x1024, .bf16⟩
  | .local _ .vmem, ⟨11, _⟩ => ⟨S1x2x128x512, .f32⟩
  | .local _ .vmem, ⟨12, _⟩ => ⟨S1x2x128x512, .f32⟩
  | .local _ .vmem, ⟨13, _⟩ => ⟨S1x2x128x512, .f32⟩
  | .local _ .vmem, ⟨14, _⟩ => ⟨S1x2x128x512, .f32⟩
  | .local _ .vmem, ⟨15, _⟩ => ⟨S1x8x2x128x512, .bf16⟩
  | .local _ .vmem, ⟨16, _⟩ => ⟨S1x8x2x128x512, .bf16⟩
  | .local _ .vmem, ⟨17, _⟩ => ⟨S1x2x128x512, .f32⟩
  | .local _ .vmem, ⟨18, _⟩ => ⟨S1x2x128x512, .f32⟩
  | .local _ .vmem, ⟨19, _⟩ => ⟨S1x8x2x128x512, .bf16⟩
  | .local _ .vmem, ⟨20, _⟩ => ⟨S1x8x2x128x512, .bf16⟩
  | .local _ .vmem, ⟨21, _⟩ => ⟨S1x2x128x512, .f32⟩
  | .local _ .vmem, ⟨22, _⟩ => ⟨S1x2x128x512, .f32⟩
  | .local _ .vmem, ⟨23, _⟩ => ⟨S2x128x512, .f32⟩
  | .local _ .vmem, ⟨24, _⟩ => ⟨S1024x1024, .bf16⟩
  | .local _ .vmem, ⟨25, _⟩ => ⟨S2x128x512, .f32⟩
  | .local _ .vmem, ⟨26, _⟩ => ⟨S1024x1024, .bf16⟩
  | _, _ => ⟨S4x8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_c_0 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_c_1 : Ref sig .tc := ⟨.hbm, 40, rfl⟩
abbrev main_call1_v0 : Ref sig .tc := ⟨.hbm, 41, rfl⟩
abbrev main_v17 : Ref sig .tc := ⟨.hbm, 42, rfl⟩
abbrev main_v18_0 : Ref sig .tc := ⟨.hbm, 43, rfl⟩
abbrev main_v18_1 : Ref sig .tc := ⟨.hbm, 44, rfl⟩
abbrev main_v18_2 : Ref sig .tc := ⟨.hbm, 45, rfl⟩
abbrev main_v18_3 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32_940 : BitVec 32 := 7#32
  let v1525 : BitVec 1 := Scalar.cmpi .eq arg1 c7_i32_940
  let v1526 : BitVec 32 := Scalar.extui v1525
  let c0_i32_941 : BitVec 32 := 0#32
  let v1527 : BitVec 1 := Scalar.cmpi .ne v1526 c0_i32_941
  v1527

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 5 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  let c0_i32_1 : BitVec 32 := 0#32
  let c0_i32_2 : BitVec 32 := 0#32
  ![arg0.toNat, v0.toNat, c0_i32.toNat, c0_i32_0.toNat, c0_i32_1.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1024x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x2x128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x2x128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x8x2x128x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2x128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x8x2x128x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x2x128x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== ScanRefIdeal.lean ====
abbrev S4x8192x1536 : Shape := ⟨3, ![4, 8192, 1536]⟩
abbrev S4x8192x128 : Shape := ⟨3, ![4, 8192, 128]⟩
abbrev S2x16 : Shape := ⟨2, ![2, 16]⟩
abbrev S4x2x128x512 : Shape := ⟨4, ![4, 2, 128, 512]⟩
abbrev S4x8192x1024 : Shape := ⟨3, ![4, 8192, 1024]⟩
abbrev S4x8192x16x64 : Shape := ⟨4, ![4, 8192, 16, 64]⟩
abbrev S4x8192x256 : Shape := ⟨3, ![4, 8192, 256]⟩
abbrev S4x8192x2x128 : Shape := ⟨4, ![4, 8192, 2, 128]⟩
abbrev S4x8192x16 : Shape := ⟨3, ![4, 8192, 16]⟩
abbrev S1x16 : Shape := ⟨2, ![1, 16]⟩
abbrev S16 : Shape := ⟨1, ![16]⟩
abbrev S4x64x128x2x8x64 : Shape := ⟨6, ![4, 64, 128, 2, 8, 64]⟩
abbrev S4x64x128x2x8 : Shape := ⟨5, ![4, 64, 128, 2, 8]⟩
abbrev S4x64x128x2x128 : Shape := ⟨5, ![4, 64, 128, 2, 128]⟩
abbrev S2x8 : Shape := ⟨2, ![2, 8]⟩
abbrev S1x1x1x2x8 : Shape := ⟨5, ![1, 1, 1, 2, 8]⟩
abbrev S_ : Shape := ⟨0, ![]⟩
abbrev S4x64x1x2x8 : Shape := ⟨5, ![4, 64, 1, 2, 8]⟩
abbrev S4x64x128x2x8x1 : Shape := ⟨6, ![4, 64, 128, 2, 8, 1]⟩
abbrev S4x64x2x8x64x128 : Shape := ⟨6, ![4, 64, 2, 8, 64, 128]⟩
abbrev S4x64x2x8 : Shape := ⟨4, ![4, 64, 2, 8]⟩
abbrev S64x4x2x8x64x128 : Shape := ⟨6, ![64, 4, 2, 8, 64, 128]⟩
abbrev S64x4x2x8 : Shape := ⟨4, ![64, 4, 2, 8]⟩
abbrev S4x2x128x8x64 : Shape := ⟨5, ![4, 2, 128, 8, 64]⟩
abbrev S4x2x8x64x128 : Shape := ⟨5, ![4, 2, 8, 64, 128]⟩
abbrev S1x4x2x8x64x128 : Shape := ⟨6, ![1, 4, 2, 8, 64, 128]⟩
abbrev S1x4x2x8 : Shape := ⟨4, ![1, 4, 2, 8]⟩
abbrev S4x2x8 : Shape := ⟨3, ![4, 2, 8]⟩
abbrev S4x2x8x1x1 : Shape := ⟨5, ![4, 2, 8, 1, 1]⟩
abbrev S4x64x2x128x8x64 : Shape := ⟨6, ![4, 64, 2, 128, 8, 64]⟩
abbrev S4x64x2x128x512 : Shape := ⟨5, ![4, 64, 2, 128, 512]⟩

abbrev nBuf : Space → Nat
  | .hbm => 150
  | .vmem => 0
  | .smem => 0
  | _ => 0

abbrev hbmTy0_0 (i : Nat) : BufTy := match i % 128 with
  | 0 => ⟨S4x8192x1536, .bf16⟩
  | 1 => ⟨S4x8192x128, .f32⟩
  | 2 => ⟨S2x16, .f32⟩
  | 3 => ⟨S4x2x128x512, .f32⟩
  | 4 => ⟨S4x2x128x512, .f32⟩
  | 5 => ⟨S4x8192x1536, .f32⟩
  | 6 => ⟨S4x8192x1024, .f32⟩
  | 7 => ⟨S4x8192x16x64, .f32⟩
  | 8 => ⟨S4x8192x256, .f32⟩
  | 9 => ⟨S4x8192x2x128, .f32⟩
  | 10 => ⟨S2x16, .f32⟩
  | 11 => ⟨S2x16, .f32⟩
  | 12 => ⟨S4x8192x16, .f32⟩
  | 13 => ⟨S1x16, .f32⟩
  | 14 => ⟨S16, .f32⟩
  | 15 => ⟨S4x64x128x2x8x64, .f32⟩
  | 16 => ⟨S4x64x128x2x8, .f32⟩
  | 17 => ⟨S4x64x128x2x128, .f32⟩
  | 18 => ⟨S2x8, .f32⟩
  | 19 => ⟨S1x1x1x2x8, .f32⟩
  | 20 => ⟨S4x64x128x2x8, .f32⟩
  | 21 => ⟨S4x64x128x2x8, .f32⟩
  | 22 => ⟨S_, .f32⟩
  | 23 => ⟨S_, .f32⟩
  | 24 => ⟨S4x64x128x2x8, .f32⟩
  | 25 => ⟨S4x64x1x2x8, .f32⟩
  | 26 => ⟨S4x64x128x2x8, .f32⟩
  | 27 => ⟨S4x64x128x2x8, .f32⟩
  | 28 => ⟨S4x64x128x2x8, .f32⟩
  | 29 => ⟨S4x64x128x2x8, .f32⟩
  | 30 => ⟨S4x64x128x2x8x1, .f32⟩
  | 31 => ⟨S4x64x128x2x8x64, .f32⟩
  | 32 => ⟨S4x64x128x2x8x64, .f32⟩
  | 33 => ⟨S4x64x2x8x64x128, .f32⟩
  | 34 => ⟨S4x64x1x2x8, .f32⟩
  | 35 => ⟨S4x64x2x8, .f32⟩
  | 36 => ⟨S4x64x2x8, .f32⟩
  | 37 => ⟨S64x4x2x8x64x128, .f32⟩
  | 38 => ⟨S64x4x2x8, .f32⟩
  | 39 => ⟨S4x8192x16x64, .f32⟩
  | 40 => ⟨S4x8192x16, .f32⟩
  | 41 => ⟨S4x8192x16, .f32⟩
  | 42 => ⟨S1x16, .f32⟩
  | 43 => ⟨S16, .f32⟩
  | 44 => ⟨S4x8192x2x128, .f32⟩
  | 45 => ⟨S4x64x128x2x8x64, .f32⟩
  | 46 => ⟨S4x64x128x2x8, .f32⟩
  | 47 => ⟨S4x64x128x2x128, .f32⟩
  | 48 => ⟨S2x8, .f32⟩
  | 49 => ⟨S1x1x1x2x8, .f32⟩
  | 50 => ⟨S4x64x128x2x8, .f32⟩
  | 51 => ⟨S4x64x128x2x8, .f32⟩
  | 52 => ⟨S_, .f32⟩
  | 53 => ⟨S_, .f32⟩
  | 54 => ⟨S4x64x128x2x8, .f32⟩
  | 55 => ⟨S4x64x1x2x8, .f32⟩
  | 56 => ⟨S4x64x128x2x8, .f32⟩
  | 57 => ⟨S4x64x128x2x8, .f32⟩
  | 58 => ⟨S4x64x128x2x8, .f32⟩
  | 59 => ⟨S4x64x128x2x8, .f32⟩
  | 60 => ⟨S4x64x128x2x8x1, .f32⟩
  | 61 => ⟨S4x64x128x2x8x64, .f32⟩
  | 62 => ⟨S4x64x128x2x8x64, .f32⟩
  | 63 => ⟨S4x64x2x8x64x128, .f32⟩
  | 64 => ⟨S4x64x1x2x8, .f32⟩
  | 65 => ⟨S4x64x2x8, .f32⟩
  | 66 => ⟨S4x64x2x8, .f32⟩
  | 67 => ⟨S64x4x2x8x64x128, .f32⟩
  | 68 => ⟨S64x4x2x8, .f32⟩
  | 69 => ⟨S4x2x128x8x64, .f32⟩
  | 70 => ⟨S4x2x8x64x128, .f32⟩
  | 71 => ⟨S4x2x128x8x64, .f32⟩
  | 72 => ⟨S4x2x8x64x128, .f32⟩
  | 73 => ⟨S_, .f32⟩
  | 74 => ⟨S64x4x2x8x64x128, .f32⟩
  | 75 => ⟨S_, .f32⟩
  | 76 => ⟨S64x4x2x8x64x128, .f32⟩
  | 77 => ⟨S_, .i32⟩
  | 78 => ⟨S64x4x2x8x64x128, .f32⟩
  | 79 => ⟨S64x4x2x8, .f32⟩
  | 80 => ⟨S64x4x2x8x64x128, .f32⟩
  | 81 => ⟨S64x4x2x8, .f32⟩
  | 82 => ⟨S_, .i32⟩
  | 83 => ⟨S4x2x8x64x128, .f32⟩
  | 84 => ⟨S4x2x8x64x128, .f32⟩
  | 85 => ⟨S64x4x2x8x64x128, .f32⟩
  | 86 => ⟨S64x4x2x8x64x128, .f32⟩
  | 87 => ⟨S_, .i32⟩
  | 88 => ⟨S_, .i1⟩
  | 89 => ⟨S_, .i32⟩
  | 90 => ⟨S_, .i32⟩
  | 91 => ⟨S_, .i32⟩
  | 92 => ⟨S_, .i32⟩
  | 93 => ⟨S_, .i32⟩
  | 94 => ⟨S1x4x2x8x64x128, .f32⟩
  | 95 => ⟨S4x2x8x64x128, .f32⟩
  | 96 => ⟨S_, .i32⟩
  | 97 => ⟨S_, .i32⟩
  | 98 => ⟨S_, .i32⟩
  | 99 => ⟨S1x4x2x8, .f32⟩
  | 100 => ⟨S4x2x8, .f32⟩
  | 101 => ⟨S_, .i32⟩
  | 102 => ⟨S_, .i32⟩
  | 103 => ⟨S_, .i32⟩
  | 104 => ⟨S_, .i32⟩
  | 105 => ⟨S_, .i32⟩
  | 106 => ⟨S1x4x2x8x64x128, .f32⟩
  | 107 => ⟨S4x2x8x64x128, .f32⟩
  | 108 => ⟨S_, .i32⟩
  | 109 => ⟨S_, .i32⟩
  | 110 => ⟨S_, .i32⟩
  | 111 => ⟨S1x4x2x8, .f32⟩
  | 112 => ⟨S4x2x8, .f32⟩
  | 113 => ⟨S4x2x8x1x1, .f32⟩
  | 114 => ⟨S4x2x8x64x128, .f32⟩
  | 115 => ⟨S4x2x8x64x128, .f32⟩
  | 116 => ⟨S4x2x8x64x128, .f32⟩
  | 117 => ⟨S4x2x8x1x1, .f32⟩
  | 118 => ⟨S4x2x8x64x128, .f32⟩
  | 119 => ⟨S4x2x8x64x128, .f32⟩
  | 120 => ⟨S4x2x8x64x128, .f32⟩
  | 121 => ⟨S1x4x2x8x64x128, .f32⟩
  | 122 => ⟨S_, .i32⟩
  | 123 => ⟨S_, .i32⟩
  | 124 => ⟨S_, .i32⟩
  | 125 => ⟨S_, .i32⟩
  | 126 => ⟨S_, .i32⟩
  | 127 => ⟨S64x4x2x8x64x128, .f32⟩
  | _ => ⟨S4x8192x1536, .bf16⟩

abbrev hbmTy0_1 (i : Nat) : BufTy := match i % 128 with
  | 0 => ⟨S1x4x2x8x64x128, .f32⟩
  | 1 => ⟨S_, .i32⟩
  | 2 => ⟨S_, .i32⟩
  | 3 => ⟨S_, .i32⟩
  | 4 => ⟨S_, .i32⟩
  | 5 => ⟨S_, .i32⟩
  | 6 => ⟨S64x4x2x8x64x128, .f32⟩
  | 7 => ⟨S_, .i32⟩
  | 8 => ⟨S_, .i32⟩
  | 9 => ⟨S4x64x2x8x64x128, .f32⟩
  | 10 => ⟨S4x64x2x8x64x128, .f32⟩
  | 11 => ⟨S4x64x2x8x64x128, .f32⟩
  | 12 => ⟨S4x64x2x128x8x64, .f32⟩
  | 13 => ⟨S4x64x2x128x512, .f32⟩
  | 14 => ⟨S4x64x2x128x512, .bf16⟩
  | 15 => ⟨S4x2x128x8x64, .f32⟩
  | 16 => ⟨S4x2x128x512, .f32⟩
  | 17 => ⟨S4x64x2x128x8x64, .f32⟩
  | 18 => ⟨S4x64x2x128x512, .f32⟩
  | 19 => ⟨S4x64x2x128x512, .bf16⟩
  | 20 => ⟨S4x2x128x8x64, .f32⟩
  | 21 => ⟨S4x2x128x512, .f32⟩
  | _ => ⟨S4x8192x1536, .bf16⟩

abbrev hbmTy (i : Nat) : BufTy := match i / 128 with
  | 0 => hbmTy0_0 i
  | 1 => hbmTy0_1 i
  | _ => ⟨S4x8192x1536, .bf16⟩

abbrev bufTy : (tb : Table) → Fin (tcTables nBuf tb) → BufTy
  | .hbm, ⟨i, _⟩ => hbmTy i
  | _, _ => ⟨S4x8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_call0_call0_cst : Ref sig .tc := ⟨.hbm, 22, rfl⟩
abbrev main_call0_call0_v0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_call4_call0_cst : Ref sig .tc := ⟨.hbm, 52, rfl⟩
abbrev main_call4_call0_v0 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_cst : Ref sig .tc := ⟨.hbm, 73, rfl⟩
abbrev main_v64 : Ref sig .tc := ⟨.hbm, 74, rfl⟩
abbrev main_cst_0 : Ref sig .tc := ⟨.hbm, 75, rfl⟩
abbrev main_v65 : Ref sig .tc := ⟨.hbm, 76, rfl⟩
abbrev main_c : Ref sig .tc := ⟨.hbm, 77, rfl⟩
abbrev main_v66_0 : Ref sig .tc := ⟨.hbm, 78, rfl⟩
abbrev main_v66_1 : Ref sig .tc := ⟨.hbm, 79, rfl⟩
abbrev main_v66_2 : Ref sig .tc := ⟨.hbm, 80, rfl⟩
abbrev main_v66_3 : Ref sig .tc := ⟨.hbm, 81, rfl⟩
abbrev main_v66_4 : Ref sig .tc := ⟨.hbm, 82, rfl⟩
abbrev main_v66_5 : Ref sig .tc := ⟨.hbm, 83, rfl⟩
abbrev main_v66_6 : Ref sig .tc := ⟨.hbm, 84, rfl⟩
abbrev main_v66_7 : Ref sig .tc := ⟨.hbm, 85, rfl⟩
abbrev main_v66_8 : Ref sig .tc := ⟨.hbm, 86, rfl⟩
abbrev main_while0c_c_9 : Ref sig .tc := ⟨.hbm, 87, rfl⟩
abbrev main_while0c_v80 : Ref sig .tc := ⟨.hbm, 88, rfl⟩
abbrev main_while0b_call5_c : Ref sig .tc := ⟨.hbm, 89, rfl⟩
abbrev main_while0b_call5_c_0 : Ref sig .tc := ⟨.hbm, 90, rfl⟩
abbrev main_while0b_call5_c_1 : Ref sig .tc := ⟨.hbm, 91, rfl⟩
abbrev main_while0b_call5_c_2 : Ref sig .tc := ⟨.hbm, 92, rfl⟩
abbrev main_while0b_call5_c_3 : Ref sig .tc := ⟨.hbm, 93, rfl⟩
abbrev main_while0b_call5_v0 : Ref sig .tc := ⟨.hbm, 94, rfl⟩
abbrev main_while0b_v80 : Ref sig .tc := ⟨.hbm, 95, rfl⟩
abbrev main_while0b_call6_c : Ref sig .tc := ⟨.hbm, 96, rfl⟩
abbrev main_while0b_call6_c_0 : Ref sig .tc := ⟨.hbm, 97, rfl⟩
abbrev main_while0b_call6_c_1 : Ref sig .tc := ⟨.hbm, 98, rfl⟩
abbrev main_while0b_call6_v0 : Ref sig .tc := ⟨.hbm, 99, rfl⟩
abbrev main_while0b_v81 : Ref sig .tc := ⟨.hbm, 100, rfl⟩
abbrev main_while0b_call7_c : Ref sig .tc := ⟨.hbm, 101, rfl⟩
abbrev main_while0b_call7_c_0 : Ref sig .tc := ⟨.hbm, 102, rfl⟩
abbrev main_while0b_call7_c_1 : Ref sig .tc := ⟨.hbm, 103, rfl⟩
abbrev main_while0b_call7_c_2 : Ref sig .tc := ⟨.hbm, 104, rfl⟩
abbrev main_while0b_call7_c_3 : Ref sig .tc := ⟨.hbm, 105, rfl⟩
abbrev main_while0b_call7_v0 : Ref sig .tc := ⟨.hbm, 106, rfl⟩
abbrev main_while0b_v82 : Ref sig .tc := ⟨.hbm, 107, rfl⟩
abbrev main_while0b_call8_c : Ref sig .tc := ⟨.hbm, 108, rfl⟩
abbrev main_while0b_call8_c_0 : Ref sig .tc := ⟨.hbm, 109, rfl⟩
abbrev main_while0b_call8_c_1 : Ref sig .tc := ⟨.hbm, 110, rfl⟩
abbrev main_while0b_call8_v0 : Ref sig .tc := ⟨.hbm, 111, rfl⟩
abbrev main_while0b_v83 : Ref sig .tc := ⟨.hbm, 112, rfl⟩
abbrev main_while0b_v84 : Ref sig .tc := ⟨.hbm, 113, rfl⟩
abbrev main_while0b_v85 : Ref sig .tc := ⟨.hbm, 114, rfl⟩
abbrev main_while0b_v86 : Ref sig .tc := ⟨.hbm, 115, rfl⟩
abbrev main_while0b_v87 : Ref sig .tc := ⟨.hbm, 116, rfl⟩
abbrev main_while0b_v88 : Ref sig .tc := ⟨.hbm, 117, rfl⟩
abbrev main_while0b_v89 : Ref sig .tc := ⟨.hbm, 118, rfl⟩
abbrev main_while0b_v90 : Ref sig .tc := ⟨.hbm, 119, rfl⟩
abbrev main_while0b_v91 : Ref sig .tc := ⟨.hbm, 120, rfl⟩
abbrev main_while0b_call9_v0 : Ref sig .tc := ⟨.hbm, 121, rfl⟩
abbrev main_while0b_call9_c : Ref sig .tc := ⟨.hbm, 122, rfl⟩
abbrev main_while0b_call9_c_0 : Ref sig .tc := ⟨.hbm, 123, rfl⟩
abbrev main_while0b_call9_c_1 : Ref sig .tc := ⟨.hbm, 124, rfl⟩
abbrev main_while0b_call9_c_2 : Ref sig .tc := ⟨.hbm, 125, rfl⟩
abbrev main_while0b_call9_c_3 : Ref sig .tc := ⟨.hbm, 126, rfl⟩
abbrev main_while0b_v92 : Ref sig .tc := ⟨.hbm, 127, rfl⟩
abbrev main_while0b_call10_v0 : Ref sig .tc := ⟨.hbm, 128, rfl⟩
abbrev main_while0b_call10_c : Ref sig .tc := ⟨.hbm, 129, rfl⟩
abbrev main_while0b_call10_c_0 : Ref sig .tc := ⟨.hbm, 130, rfl⟩
abbrev main_while0b_call10_c_1 : Ref sig .tc := ⟨.hbm, 131, rfl⟩
abbrev main_while0b_call10_c_2 : Ref sig .tc := ⟨.hbm, 132, rfl⟩
abbrev main_while0b_call10_c_3 : Ref sig .tc := ⟨.hbm, 133, rfl⟩
abbrev main_while0b_v93 : Ref sig .tc := ⟨.hbm, 134, rfl⟩
abbrev main_while0b_c_9 : Ref sig .tc := ⟨.hbm, 135, rfl⟩
abbrev main_while0b_v94 : Ref sig .tc := ⟨.hbm, 136, rfl⟩
abbrev main_v67 : Ref sig .tc := ⟨.hbm, 137, rfl⟩
abbrev main_v68 : Ref sig .tc := ⟨.hbm, 138, rfl⟩
abbrev main_v69 : Ref sig .tc := ⟨.hbm, 139, rfl⟩
abbrev main_v70 : Ref sig .tc := ⟨.hbm, 140, rfl⟩
abbrev main_v71 : Ref sig .tc := ⟨.hbm, 141, rfl⟩
abbrev main_v72 : Ref sig .tc := ⟨.hbm, 142, rfl⟩
abbrev main_v73 : Ref sig .tc := ⟨.hbm, 143, rfl⟩
abbrev main_v74 : Ref sig .tc := ⟨.hbm, 144, rfl⟩
abbrev main_v75 : Ref sig .tc := ⟨.hbm, 145, rfl⟩
abbrev main_v76 : Ref sig .tc := ⟨.hbm, 146, rfl⟩
abbrev main_v77 : Ref sig .tc := ⟨.hbm, 147, rfl⟩
abbrev main_v78 : Ref sig .tc := ⟨.hbm, 148, rfl⟩
abbrev main_v79 : Ref sig .tc := ⟨.hbm, 149, rfl⟩

abbrev nD : Nat := 1
abbrev τ : Topo := Topo.v7x

variable {F : FTy → Type} [FloatOps F]

abbrev main_while0_count : Scf.Loop 32 := ⟨0#32, 64#32, 1#32⟩
-- ==== Proj.lean ====
abbrev S4x8192x1024 : Shape := ⟨3, ![4, 8192, 1024]⟩
abbrev S16x1x6144 : Shape := ⟨3, ![16, 1, 6144]⟩
abbrev S2x1024 : Shape := ⟨2, ![2, 1024]⟩
abbrev S1x1024x4640 : Shape := ⟨3, ![1, 1024, 4640]⟩
abbrev S1x5x1536 : Shape := ⟨3, ![1, 5, 1536]⟩
abbrev S1x1536 : Shape := ⟨2, ![1, 1536]⟩
abbrev S1x2x16 : Shape := ⟨3, ![1, 2, 16]⟩
abbrev S1x1024 : Shape := ⟨2, ![1, 1024]⟩
abbrev S1024x4640 : Shape := ⟨2, ![1024, 4640]⟩
abbrev S_ : Shape := ⟨0, ![]⟩
abbrev S1024x96 : Shape := ⟨2, ![1024, 96]⟩
abbrev S1024x2560 : Shape := ⟨2, ![1024, 2560]⟩
abbrev S1024x2048 : Shape := ⟨2, ![1024, 2048]⟩
abbrev S1024x32 : Shape := ⟨2, ![1024, 32]⟩
abbrev S1024x4736 : Shape := ⟨2, ![1024, 4736]⟩
abbrev S1024 : Shape := ⟨1, ![1024]⟩
abbrev S5x1536 : Shape := ⟨2, ![5, 1536]⟩
abbrev S1536 : Shape := ⟨1, ![1536]⟩
abbrev S2x16 : Shape := ⟨2, ![2, 16]⟩
abbrev S1x32 : Shape := ⟨2, ![1, 32]⟩
abbrev S1x128 : Shape := ⟨2, ![1, 128]⟩
abbrev S4x512x16x1024 : Shape := ⟨4, ![4, 512, 16, 1024]⟩
abbrev S4x8192x1536 : Shape := ⟨3, ![4, 8192, 1536]⟩
abbrev S4x8192x128 : Shape := ⟨3, ![4, 8192, 128]⟩
abbrev S1x1x16x1024 : Shape := ⟨4, ![1, 1, 16, 1024]⟩
abbrev S1x512x1024 : Shape := ⟨3, ![1, 512, 1024]⟩
abbrev S1x1x6144 : Shape := ⟨3, ![1, 1, 6144]⟩
abbrev S1x512x1536 : Shape := ⟨3, ![1, 512, 1536]⟩
abbrev S1x512x128 : Shape := ⟨3, ![1, 512, 128]⟩
abbrev S16x1024 : Shape := ⟨2, ![16, 1024]⟩
abbrev S512x1024 : Shape := ⟨2, ![512, 1024]⟩
abbrev S544x1024 : Shape := ⟨2, ![544, 1024]⟩
abbrev S1x1x1024 : Shape := ⟨3, ![1, 1, 1024]⟩
abbrev S544 : Shape := ⟨1, ![544]⟩
abbrev S544x1 : Shape := ⟨2, ![544, 1]⟩
abbrev S1024x1536 : Shape := ⟨2, ![1024, 1536]⟩
abbrev S544x1536 : Shape := ⟨2, ![544, 1536]⟩
abbrev S512x1536 : Shape := ⟨2, ![512, 1536]⟩
abbrev S1024x1024 : Shape := ⟨2, ![1024, 1024]⟩
abbrev S1024x128 : Shape := ⟨2, ![1024, 128]⟩
abbrev S512x128 : Shape := ⟨2, ![512, 128]⟩
abbrev S512 : Shape := ⟨1, ![512]⟩
abbrev S512x1 : Shape := ⟨2, ![512, 1]⟩

abbrev nBuf : Space → Nat
  | .hbm => 38
  | .vmem => 25
  | .smem => 0
  | _ => 0

abbrev bufTy : (tb : Table) → Fin (tcTables nBuf tb) → BufTy
  | .hbm, ⟨0, _⟩ => ⟨S4x8192x1024, .f32⟩
  | .hbm, ⟨1, _⟩ => ⟨S16x1x6144, .f32⟩
  | .hbm, ⟨2, _⟩ => ⟨S2x1024, .f32⟩
  | .hbm, ⟨3, _⟩ => ⟨S1x1024x4640, .f32⟩
  | .hbm, ⟨4, _⟩ => ⟨S1x5x1536, .f32⟩
  | .hbm, ⟨5, _⟩ => ⟨S1x1536, .f32⟩
  | .hbm, ⟨6, _⟩ => ⟨S1x2x16, .f32⟩
  | .hbm, ⟨7, _⟩ => ⟨S1x1024, .f32⟩
  | .hbm, ⟨8, _⟩ => ⟨S1x1024, .f32⟩
  | .hbm, ⟨9, _⟩ => ⟨S1024x4640, .f32⟩
  | .hbm, ⟨10, _⟩ => ⟨S_, .f32⟩
  | .hbm, ⟨11, _⟩ => ⟨S1024x96, .f32⟩
  | .hbm, ⟨12, _⟩ => ⟨S1024x2560, .f32⟩
  | .hbm, ⟨13, _⟩ => ⟨S1024x2048, .f32⟩
  | .hbm, ⟨14, _⟩ => ⟨S1024x32, .f32⟩
  | .hbm, ⟨15, _⟩ => ⟨S1024x4736, .f32⟩
  | .hbm, ⟨16, _⟩ => ⟨S1024x4736, .bf16⟩
  | .hbm, ⟨17, _⟩ => ⟨S1x1024, .f32⟩
  | .hbm, ⟨18, _⟩ => ⟨S1024, .f32⟩
  | .hbm, ⟨19, _⟩ => ⟨S5x1536, .f32⟩
  | .hbm, ⟨20, _⟩ => ⟨S1536, .f32⟩
  | .hbm, ⟨21, _⟩ => ⟨S2x16, .f32⟩
  | .hbm, ⟨22, _⟩ => ⟨S1x32, .f32⟩
  | .hbm, ⟨23, _⟩ => ⟨S_, .i32⟩
  | .hbm, ⟨24, _⟩ => ⟨S_, .f32⟩
  | .hbm, ⟨25, _⟩ => ⟨S1x128, .f32⟩
  | .hbm, ⟨26, _⟩ => ⟨S1024, .f32⟩
  | .hbm, ⟨27, _⟩ => ⟨S1024, .f32⟩
  | .hbm, ⟨28, _⟩ => ⟨S4x512x16x1024, .f32⟩
  | .hbm, ⟨29, _⟩ => ⟨S1x1024, .f32⟩
  | .hbm, ⟨30, _⟩ => ⟨S1x1536, .f32⟩
  | .hbm, ⟨31, _⟩ => ⟨S1x1024, .f32⟩
  | .hbm, ⟨32, _⟩ => ⟨S1x1024, .f32⟩
  | .hbm, ⟨33, _⟩ => ⟨S4x8192x1024, .bf16⟩
  | .hbm, ⟨34, _⟩ => ⟨S4x8192x1536, .bf16⟩
  | .hbm, ⟨35, _⟩ => ⟨S4x8192x128, .f32⟩
  | .hbm, ⟨36, _⟩ => ⟨S4x8192x1024, .bf16⟩
  | .hbm, ⟨37, _⟩ => ⟨S4x8192x1024, .bf16⟩
  | .local _ .vmem, ⟨0, _⟩ => ⟨S1x1x16x1024, .f32⟩
  | .local _ .vmem, ⟨1, _⟩ => ⟨S1x1x16x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x1x16x1024, .f32⟩
  | .local _ .vmem, ⟨5, _⟩ => ⟨S1x1x16x1024, .f32⟩
  | .local _ .vmem, ⟨6, _⟩ => ⟨S1x1x6144, .f32⟩
  | .local _ .vmem, ⟨7, _⟩ => ⟨S1x1x6144, .f32⟩
  | .local _ .vmem, ⟨8, _⟩ => ⟨S1x1024, .f32⟩
  | .local _ .vmem, ⟨9, _⟩ => ⟨S1024x4736, .bf16⟩
  | .local _ .vmem, ⟨10, _⟩ => ⟨S5x1536, .f32⟩
  | .local _ .vmem, ⟨11, _⟩ => ⟨S1x1536, .f32⟩
  | .local _ .vmem, ⟨12, _⟩ => ⟨S1x128, .f32⟩
  | .local _ .vmem, ⟨13, _⟩ => ⟨S1x1024, .f32⟩
  | .local _ .vmem, ⟨14, _⟩ => ⟨S1x1024, .f32⟩
  | .local _ .vmem, ⟨15, _⟩ => ⟨S1x512x1024, .bf16⟩
  | .local _ .vmem, ⟨16, _⟩ => ⟨S1x512x1024, .bf16⟩
  | .local _ .vmem, ⟨17, _⟩ => ⟨S1x512x1536, .bf16⟩
  | .local _ .vmem, ⟨18, _⟩ => ⟨S1x512x1536, .bf16⟩
  | .local _ .vmem, ⟨19, _⟩ => ⟨S1x512x128, .f32⟩
  | .local _ .vmem, ⟨20, _⟩ => ⟨S1x512x128, .f32⟩
  | .local _ .vmem, ⟨21, _⟩ => ⟨S1x512x1024, .bf16⟩
  | .local _ .vmem, ⟨22, _⟩ => ⟨S1x512x1024, .bf16⟩
  | .local _ .vmem, ⟨23, _⟩ => ⟨S1x512x1024, .bf16⟩
  | .local _ .vmem, ⟨24, _⟩ => ⟨S1x512x1024, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.hbm, 23, rfl⟩
abbrev main_call0_v0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21_0 : Ref sig .tc := ⟨.hbm, 33, rfl⟩
abbrev main_v21_1 : Ref sig .tc := ⟨.hbm, 34, rfl⟩
abbrev main_v21_2 : Ref sig .tc := ⟨.hbm, 35, rfl⟩
abbrev main_v21_3 : Ref sig .tc := ⟨.hbm, 36, rfl⟩
abbrev main_v21_4 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨2, ![4, 16], ![false, false]⟩

def cc0_transform_0 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![arg0.toNat, v2.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  let c0_i32_1 : BitVec 32 := 0#32
  ![arg0.toNat, v2.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x6144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x4736 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S5x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x1536 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== ProjIdeal.lean ====
variable {F : FTy → Type} [FloatOps F] [Named F]
def κ : String → Option EReal := fun
  | "gelu_cubed" => some ((80338380498831 / 2251799813685248 : ℝ) : EReal)
  | _ => none
-- ==== ProjRefIdeal.lean ====
abbrev S4x8192x1024 : Shape := ⟨3, ![4, 8192, 1024]⟩
abbrev S16x1x6144 : Shape := ⟨3, ![16, 1, 6144]⟩
abbrev S2x1024 : Shape := ⟨2, ![2, 1024]⟩
abbrev S1x1024x4640 : Shape := ⟨3, ![1, 1024, 4640]⟩
abbrev S1x5x1536 : Shape := ⟨3, ![1, 5, 1536]⟩
abbrev S1x1536 : Shape := ⟨2, ![1, 1536]⟩
abbrev S1x2x16 : Shape := ⟨3, ![1, 2, 16]⟩
abbrev S1x1024 : Shape := ⟨2, ![1, 1024]⟩
abbrev S4x1x6144 : Shape := ⟨3, ![4, 1, 6144]⟩
abbrev S4x1x1024 : Shape := ⟨3, ![4, 1, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1024x4640 : Shape := ⟨2, ![1024, 4640]⟩
abbrev S4x8192x4640 : Shape := ⟨3, ![4, 8192, 4640]⟩
abbrev S4x8192x1536 : Shape := ⟨3, ![4, 8192, 1536]⟩
abbrev S4x8192x32 : Shape := ⟨3, ![4, 8192, 32]⟩
abbrev S4x8192x2048 : Shape := ⟨3, ![4, 8192, 2048]⟩
abbrev S5x1536 : Shape := ⟨2, ![5, 1536]⟩
abbrev S1536 : Shape := ⟨1, ![1536]⟩
abbrev S4x8196x1536 : Shape := ⟨3, ![4, 8196, 1536]⟩
abbrev S1x1x1536 : Shape := ⟨3, ![1, 1, 1536]⟩
abbrev S4x8192x2x16 : Shape := ⟨4, ![4, 8192, 2, 16]⟩
abbrev S2x16 : Shape := ⟨2, ![2, 16]⟩
abbrev S1x1x2x16 : Shape := ⟨4, ![1, 1, 2, 16]⟩
abbrev S4x8192x128 : Shape := ⟨3, ![4, 8192, 128]⟩

abbrev nBuf : Space → Nat
  | .hbm => 199
  | .vmem => 0
  | .smem => 0
  | _ => 0

abbrev hbmTy0_0 (i : Nat) : BufTy := match i % 128 with
  | 0 => ⟨S4x8192x1024, .f32⟩
  | 1 => ⟨S16x1x6144, .f32⟩
  | 2 => ⟨S2x1024, .f32⟩
  | 3 => ⟨S1x1024x4640, .f32⟩
  | 4 => ⟨S1x5x1536, .f32⟩
  | 5 => ⟨S1x1536, .f32⟩
  | 6 => ⟨S1x2x16, .f32⟩
  | 7 => ⟨S1x1024, .f32⟩
  | 8 => ⟨S1x1024, .f32⟩
  | 9 => ⟨S4x1x6144, .f32⟩
  | 10 => ⟨S4x1x1024, .f32⟩
  | 11 => ⟨S4x1x1024, .f32⟩
  | 12 => ⟨S4x1x1024, .f32⟩
  | 13 => ⟨S4x1x1024, .f32⟩
  | 14 => ⟨S4x1x1024, .f32⟩
  | 15 => ⟨S4x1x1024, .f32⟩
  | 16 => ⟨S1x1024, .f32⟩
  | 17 => ⟨S1024, .f32⟩
  | 18 => ⟨S4x8192x1024, .f32⟩
  | 19 => ⟨S_, .f32⟩
  | 20 => ⟨S4x8192, .f32⟩
  | 21 => ⟨S4x8192x1, .f32⟩
  | 22 => ⟨S_, .f32⟩
  | 23 => ⟨S4x8192x1, .f32⟩
  | 24 => ⟨S4x8192x1, .f32⟩
  | 25 => ⟨S_, .f32⟩
  | 26 => ⟨S4x8192x1, .f32⟩
  | 27 => ⟨S4x8192x1, .f32⟩
  | 28 => ⟨S4x8192x1, .f32⟩
  | 29 => ⟨S4x8192x1024, .f32⟩
  | 30 => ⟨S4x8192x1024, .f32⟩
  | 31 => ⟨S1x1x1024, .f32⟩
  | 32 => ⟨S4x8192x1024, .f32⟩
  | 33 => ⟨S4x8192x1024, .f32⟩
  | 34 => ⟨S_, .f32⟩
  | 35 => ⟨S4x1x1024, .f32⟩
  | 36 => ⟨S4x1x1024, .f32⟩
  | 37 => ⟨S4x8192x1024, .f32⟩
  | 38 => ⟨S4x8192x1024, .f32⟩
  | 39 => ⟨S4x8192x1024, .f32⟩
  | 40 => ⟨S4x8192x1024, .f32⟩
  | 41 => ⟨S1024x4640, .f32⟩
  | 42 => ⟨S4x8192x4640, .f32⟩
  | 43 => ⟨S4x8192x1024, .f32⟩
  | 44 => ⟨S4x8192x1536, .f32⟩
  | 45 => ⟨S4x8192x32, .f32⟩
  | 46 => ⟨S4x8192x2048, .f32⟩
  | 47 => ⟨S5x1536, .f32⟩
  | 48 => ⟨S1536, .f32⟩
  | 49 => ⟨S_, .i32⟩
  | 50 => ⟨S_, .f32⟩
  | 51 => ⟨S4x8196x1536, .f32⟩
  | 52 => ⟨S4x8192x1536, .f32⟩
  | 53 => ⟨S1x1536, .f32⟩
  | 54 => ⟨S1536, .f32⟩
  | 55 => ⟨S1x1x1536, .f32⟩
  | 56 => ⟨S4x8192x1536, .f32⟩
  | 57 => ⟨S4x8192x1536, .f32⟩
  | 58 => ⟨S4x8192x1536, .f32⟩
  | 59 => ⟨S1x1536, .f32⟩
  | 60 => ⟨S1536, .f32⟩
  | 61 => ⟨S1x1x1536, .f32⟩
  | 62 => ⟨S4x8192x1536, .f32⟩
  | 63 => ⟨S4x8192x1536, .f32⟩
  | 64 => ⟨S4x8192x1536, .f32⟩
  | 65 => ⟨S4x8192x1536, .f32⟩
  | 66 => ⟨S1x1536, .f32⟩
  | 67 => ⟨S1536, .f32⟩
  | 68 => ⟨S1x1x1536, .f32⟩
  | 69 => ⟨S4x8192x1536, .f32⟩
  | 70 => ⟨S4x8192x1536, .f32⟩
  | 71 => ⟨S4x8192x1536, .f32⟩
  | 72 => ⟨S4x8192x1536, .f32⟩
  | 73 => ⟨S1x1536, .f32⟩
  | 74 => ⟨S1536, .f32⟩
  | 75 => ⟨S1x1x1536, .f32⟩
  | 76 => ⟨S4x8192x1536, .f32⟩
  | 77 => ⟨S4x8192x1536, .f32⟩
  | 78 => ⟨S4x8192x1536, .f32⟩
  | 79 => ⟨S4x8192x1536, .f32⟩
  | 80 => ⟨S1x1536, .f32⟩
  | 81 => ⟨S1536, .f32⟩
  | 82 => ⟨S1x1x1536, .f32⟩
  | 83 => ⟨S4x8192x1536, .f32⟩
  | 84 => ⟨S4x8192x1536, .f32⟩
  | 85 => ⟨S4x8192x1536, .f32⟩
  | 86 => ⟨S1x1x1536, .f32⟩
  | 87 => ⟨S4x8192x1536, .f32⟩
  | 88 => ⟨S4x8192x1536, .f32⟩
  | 89 => ⟨S4x8192x1536, .f32⟩
  | 90 => ⟨S4x8192x1536, .f32⟩
  | 91 => ⟨S_, .f32⟩
  | 92 => ⟨S4x8192x1536, .f32⟩
  | 93 => ⟨S4x8192x1536, .f32⟩
  | 94 => ⟨S_, .f32⟩
  | 95 => ⟨S4x8192x1536, .f32⟩
  | 96 => ⟨S4x8192x1536, .f32⟩
  | 97 => ⟨S4x8192x1536, .f32⟩
  | 98 => ⟨S4x8192x2x16, .f32⟩
  | 99 => ⟨S2x16, .f32⟩
  | 100 => ⟨S1x1x2x16, .f32⟩
  | 101 => ⟨S4x8192x2x16, .f32⟩
  | 102 => ⟨S4x8192x2x16, .f32⟩
  | 103 => ⟨S_, .f32⟩
  | 104 => ⟨S4x8192x2x16, .f32⟩
  | 105 => ⟨S4x8192x2x16, .f32⟩
  | 106 => ⟨S4x8192x2x16, .f32⟩
  | 107 => ⟨S4x8192x2x16, .f32⟩
  | 108 => ⟨S4x8192x2x16, .i1⟩
  | 109 => ⟨S4x8192x2x16, .f32⟩
  | 110 => ⟨S4x8192x2x16, .f32⟩
  | 111 => ⟨S4x8192x2x16, .f32⟩
  | 112 => ⟨S4x8192x2x16, .f32⟩
  | 113 => ⟨S4x8192x2x16, .f32⟩
  | 114 => ⟨S4x8192x2x16, .f32⟩
  | 115 => ⟨S4x8192x2x16, .f32⟩
  | 116 => ⟨S4x8192x2x16, .f32⟩
  | 117 => ⟨S4x8192x1024, .f32⟩
  | 118 => ⟨S4x8192x1024, .f32⟩
  | 119 => ⟨S4x8192x1024, .f32⟩
  | 120 => ⟨S4x8192x1024, .f32⟩
  | 121 => ⟨S_, .f32⟩
  | 122 => ⟨S4x8192x1024, .f32⟩
  | 123 => ⟨S4x8192x1024, .f32⟩
  | 124 => ⟨S4x8192x1024, .f32⟩
  | 125 => ⟨S_, .f32⟩
  | 126 => ⟨S4x8192x1024, .f32⟩
  | 127 => ⟨S4x8192x1024, .f32⟩
  | _ => ⟨S4x8192x1024, .f32⟩

abbrev hbmTy0_1 (i : Nat) : BufTy := match i % 128 with
  | 0 => ⟨S4x8192x1024, .f32⟩
  | 1 => ⟨S_, .f32⟩
  | 2 => ⟨S4x8192x1024, .f32⟩
  | 3 => ⟨S4x8192x1024, .f32⟩
  | 4 => ⟨S_, .f32⟩
  | 5 => ⟨S4x8192x1024, .f32⟩
  | 6 => ⟨S4x8192x1024, .f32⟩
  | 7 => ⟨S4x8192x1024, .f32⟩
  | 8 => ⟨S1024, .f32⟩
  | 9 => ⟨S1024, .f32⟩
  | 10 => ⟨S_, .f32⟩
  | 11 => ⟨S4x8192, .f32⟩
  | 12 => ⟨S4x8192x1, .f32⟩
  | 13 => ⟨S_, .f32⟩
  | 14 => ⟨S4x8192x1, .f32⟩
  | 15 => ⟨S4x8192x1, .f32⟩
  | 16 => ⟨S4x8192x1024, .f32⟩
  | 17 => ⟨S4x8192x1024, .f32⟩
  | 18 => ⟨S4x8192x1024, .f32⟩
  | 19 => ⟨S_, .f32⟩
  | 20 => ⟨S4x8192, .f32⟩
  | 21 => ⟨S4x8192x1, .f32⟩
  | 22 => ⟨S_, .f32⟩
  | 23 => ⟨S4x8192x1, .f32⟩
  | 24 => ⟨S4x8192x1, .f32⟩
  | 25 => ⟨S_, .f32⟩
  | 26 => ⟨S4x8192x1, .f32⟩
  | 27 => ⟨S4x8192x1, .f32⟩
  | 28 => ⟨S4x8192x1, .f32⟩
  | 29 => ⟨S4x8192x1024, .f32⟩
  | 30 => ⟨S4x8192x1024, .f32⟩
  | 31 => ⟨S1x1x1024, .f32⟩
  | 32 => ⟨S4x8192x1024, .f32⟩
  | 33 => ⟨S4x8192x1024, .f32⟩
  | 34 => ⟨S1x1x1024, .f32⟩
  | 35 => ⟨S4x8192x1024, .f32⟩
  | 36 => ⟨S4x8192x1024, .f32⟩
  | 37 => ⟨S4x8192x32, .f32⟩
  | 38 => ⟨S_, .i32⟩
  | 39 => ⟨S_, .f32⟩
  | 40 => ⟨S4x8192x128, .f32⟩
  | 41 => ⟨S4x8192x1024, .f32⟩
  | 42 => ⟨S4x8192x1024, .f32⟩
  | 43 => ⟨S_, .f32⟩
  | 44 => ⟨S4x8192x1024, .f32⟩
  | 45 => ⟨S4x8192x1024, .f32⟩
  | 46 => ⟨S_, .f32⟩
  | 47 => ⟨S4x8192x1024, .f32⟩
  | 48 => ⟨S4x8192x1024, .f32⟩
  | 49 => ⟨S4x8192x1024, .f32⟩
  | 50 => ⟨S4x8192x1024, .bf16⟩
  | 51 => ⟨S4x8192x1536, .bf16⟩
  | 52 => ⟨S4x8192x1024, .f32⟩
  | 53 => ⟨S4x8192x1024, .f32⟩
  | 54 => ⟨S_, .f32⟩
  | 55 => ⟨S4x8192x1024, .f32⟩
  | 56 => ⟨S4x8192x1024, .f32⟩
  | 57 => ⟨S4x8192x1024, .f32⟩
  | 58 => ⟨S_, .f32⟩
  | 59 => ⟨S4x8192x1024, .f32⟩
  | 60 => ⟨S4x8192x1024, .f32⟩
  | 61 => ⟨S4x8192x1024, .f32⟩
  | 62 => ⟨S_, .f32⟩
  | 63 => ⟨S4x8192x1024, .f32⟩
  | 64 => ⟨S4x8192x1024, .f32⟩
  | 65 => ⟨S_, .f32⟩
  | 66 => ⟨S4x8192x1024, .f32⟩
  | 67 => ⟨S4x8192x1024, .f32⟩
  | 68 => ⟨S4x8192x1024, .f32⟩
  | 69 => ⟨S4x8192x1024, .bf16⟩
  | 70 => ⟨S4x8192x1024, .bf16⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_c : Ref sig .tc := ⟨.hbm, 49, rfl⟩
abbrev main_call0_v0 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_call1_v0 : Ref sig .tc := ⟨.hbm, 89, rfl⟩
abbrev main_call1_v1 : Ref sig .tc := ⟨.hbm, 90, rfl⟩
abbrev main_call1_cst : Ref sig .tc := ⟨.hbm, 91, rfl⟩
abbrev main_call1_v2 : Ref sig .tc := ⟨.hbm, 92, rfl⟩
abbrev main_call1_v3 : Ref sig .tc := ⟨.hbm, 93, rfl⟩
abbrev main_call1_cst_0 : Ref sig .tc := ⟨.hbm, 94, rfl⟩
abbrev main_call1_v4 : Ref sig .tc := ⟨.hbm, 95, rfl⟩
abbrev main_call1_v5 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_call2_cst : Ref sig .tc := ⟨.hbm, 103, rfl⟩
abbrev main_call2_v0 : Ref sig .tc := ⟨.hbm, 104, rfl⟩
abbrev main_call2_v1 : Ref sig .tc := ⟨.hbm, 105, rfl⟩
abbrev main_call2_v2 : Ref sig .tc := ⟨.hbm, 106, rfl⟩
abbrev main_call2_v3 : Ref sig .tc := ⟨.hbm, 107, rfl⟩
abbrev main_call2_v4 : Ref sig .tc := ⟨.hbm, 108, rfl⟩
abbrev main_call2_v5 : Ref sig .tc := ⟨.hbm, 109, rfl⟩
abbrev main_call2_v6 : Ref sig .tc := ⟨.hbm, 110, rfl⟩
abbrev main_call2_v7 : Ref sig .tc := ⟨.hbm, 111, rfl⟩
abbrev main_call2_v8 : Ref sig .tc := ⟨.hbm, 112, rfl⟩
abbrev main_call2_v9 : Ref sig .tc := ⟨.hbm, 113, rfl⟩
abbrev main_call2_v10 : Ref sig .tc := ⟨.hbm, 114, rfl⟩
abbrev main_call2_v11 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_cst_3 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_cst_4 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_cst_5 : Ref sig .tc := ⟨.hbm, 129, rfl⟩
abbrev main_v91 : Ref sig .tc := ⟨.hbm, 130, rfl⟩
abbrev main_v92 : Ref sig .tc := ⟨.hbm, 131, rfl⟩
abbrev main_cst_6 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_cst_7 : Ref sig .tc := ⟨.hbm, 138, rfl⟩
abbrev main_v98 : Ref sig .tc := ⟨.hbm, 139, rfl⟩
abbrev main_v99 : Ref sig .tc := ⟨.hbm, 140, rfl⟩
abbrev main_cst_8 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_cst_9 : Ref sig .tc := ⟨.hbm, 147, rfl⟩
abbrev main_v105 : Ref sig .tc := ⟨.hbm, 148, rfl⟩
abbrev main_v106 : Ref sig .tc := ⟨.hbm, 149, rfl⟩
abbrev main_cst_10 : Ref sig .tc := ⟨.hbm, 150, rfl⟩
abbrev main_v107 : Ref sig .tc := ⟨.hbm, 151, rfl⟩
abbrev main_v108 : Ref sig .tc := ⟨.hbm, 152, rfl⟩
abbrev main_cst_11 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_c_12 : Ref sig .tc := ⟨.hbm, 166, rfl⟩
abbrev main_call3_v0 : Ref sig .tc := ⟨.hbm, 167, rfl⟩
abbrev main_v121 : Ref sig .tc := ⟨.hbm, 168, rfl⟩
abbrev main_call4_v0 : Ref sig .tc := ⟨.hbm, 169, rfl⟩
abbrev main_call4_v1 : Ref sig .tc := ⟨.hbm, 170, rfl⟩
abbrev main_call4_cst : Ref sig .tc := ⟨.hbm, 171, rfl⟩
abbrev main_call4_v2 : Ref sig .tc := ⟨.hbm, 172, rfl⟩
abbrev main_call4_v3 : Ref sig .tc := ⟨.hbm, 173, rfl⟩
abbrev main_call4_cst_0 : Ref sig .tc := ⟨.hbm, 174, rfl⟩
abbrev main_call4_v4 : Ref sig .tc := ⟨.hbm, 175, rfl⟩
abbrev main_call4_v5 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_cst_13 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_cst_14 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_cst_15 : Ref sig .tc := ⟨.hbm, 190, rfl⟩
abbrev main_v133 : Ref sig .tc := ⟨.hbm, 191, rfl⟩
abbrev main_v134 : Ref sig .tc := ⟨.hbm, 192, rfl⟩
abbrev main_cst_16 : Ref sig .tc := ⟨.hbm, 193, rfl⟩
abbrev main_v135 : Ref sig .tc := ⟨.hbm, 194, rfl⟩
abbrev main_v136 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩

abbrev nD : Nat := 1
abbrev τ : Topo := Topo.v7x

variable {F : FTy → Type} [FloatOps F]
-- ==== Ada.lean ====
abbrev S4x1024 : Shape := ⟨2, ![4, 1024]⟩
abbrev S1024 : Shape := ⟨1, ![1024]⟩
abbrev S2x1024x6144 : Shape := ⟨3, ![2, 1024, 6144]⟩
abbrev S2x6144 : Shape := ⟨2, ![2, 6144]⟩
abbrev S1x1024 : Shape := ⟨2, ![1, 1024]⟩
abbrev S_ : Shape := ⟨0, ![]⟩
abbrev S3x1024 : Shape := ⟨2, ![3, 1024]⟩
abbrev S8x1024 : Shape := ⟨2, ![8, 1024]⟩
abbrev S2x1x6144 : Shape := ⟨3, ![2, 1, 6144]⟩
abbrev S2x8x6144 : Shape := ⟨3, ![2, 8, 6144]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩

abbrev nBuf : Space → Nat
  | .hbm => 10
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S1x1024, .f32⟩
  | .hbm, ⟨5, _⟩ => ⟨S_, .f32⟩
  | .hbm, ⟨6, _⟩ => ⟨S3x1024, .f32⟩
  | .hbm, ⟨7, _⟩ => ⟨S8x1024, .f32⟩
  | .hbm, ⟨8, _⟩ => ⟨S2x1x6144, .f32⟩
  | .hbm, ⟨9, _⟩ => ⟨S2x8x6144, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaRefIdeal.lean ====
abbrev S4x1024 : Shape := ⟨2, ![4, 1024]⟩
abbrev S1024 : Shape := ⟨1, ![1024]⟩
abbrev S2x1024x6144 : Shape := ⟨3, ![2, 1024, 6144]⟩
abbrev S2x6144 : Shape := ⟨2, ![2, 6144]⟩
abbrev S1x1024 : Shape := ⟨2, ![1, 1024]⟩
abbrev S_ : Shape := ⟨0, ![]⟩
abbrev S3x1024 : Shape := ⟨2, ![3, 1024]⟩
abbrev S8x1024 : Shape := ⟨2, ![8, 1024]⟩
abbrev S1x1024x6144 : Shape := ⟨3, ![1, 1024, 6144]⟩
abbrev S1024x6144 : Shape := ⟨2, ![1024, 6144]⟩
abbrev S8x6144 : Shape := ⟨2, ![8, 6144]⟩
abbrev S1x6144 : Shape := ⟨2, ![1, 6144]⟩
abbrev S6144 : Shape := ⟨1, ![6144]⟩
abbrev S1x8x6144 : Shape := ⟨3, ![1, 8, 6144]⟩
abbrev S2x8x6144 : Shape := ⟨3, ![2, 8, 6144]⟩

abbrev nBuf : Space → Nat
  | .hbm => 45
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S1x1024, .f32⟩
  | .hbm, ⟨5, _⟩ => ⟨S_, .f32⟩
  | .hbm, ⟨6, _⟩ => ⟨S3x1024, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S_, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S1x1024x6144, .f32⟩
  | .hbm, ⟨18, _⟩ => ⟨S1024x6144, .f32⟩
  | .hbm, ⟨19, _⟩ => ⟨S8x6144, .f32⟩
  | .hbm, ⟨20, _⟩ => ⟨S1x6144, .f32⟩
  | .hbm, ⟨21, _⟩ => ⟨S6144, .f32⟩
  | .hbm, ⟨22, _⟩ => ⟨S1x6144, .f32⟩
  | .hbm, ⟨23, _⟩ => ⟨S8x6144, .f32⟩
  | .hbm, ⟨24, _⟩ => ⟨S8x6144, .f32⟩
  | .hbm, ⟨25, _⟩ => ⟨S8x1024, .f32⟩
  | .hbm, ⟨26, _⟩ => ⟨S8x1024, .f32⟩
  | .hbm, ⟨27, _⟩ => ⟨S_, .f32⟩
  | .hbm, ⟨28, _⟩ => ⟨S8x1024, .f32⟩
  | .hbm, ⟨29, _⟩ => ⟨S8x1024, .f32⟩
  | .hbm, ⟨30, _⟩ => ⟨S_, .f32⟩
  | .hbm, ⟨31, _⟩ => ⟨S8x1024, .f32⟩
  | .hbm, ⟨32, _⟩ => ⟨S8x1024, .f32⟩
  | .hbm, ⟨33, _⟩ => ⟨S8x1024, .f32⟩
  | .hbm, ⟨34, _⟩ => ⟨S1x1024x6144, .f32⟩
  | .hbm, ⟨35, _⟩ => ⟨S1024x6144, .f32⟩
  | .hbm, ⟨36, _⟩ => ⟨S8x6144, .f32⟩
  | .hbm, ⟨37, _⟩ => ⟨S1x6144, .f32⟩
  | .hbm, ⟨38, _⟩ => ⟨S6144, .f32⟩
  | .hbm, ⟨39, _⟩ => ⟨S1x6144, .f32⟩
  | .hbm, ⟨40, _⟩ => ⟨S8x6144, .f32⟩
  | .hbm, ⟨41, _⟩ => ⟨S8x6144, .f32⟩
  | .hbm, ⟨42, _⟩ => ⟨S1x8x6144, .f32⟩
  | .hbm, ⟨43, _⟩ => ⟨S1x8x6144, .f32⟩
  | .hbm, ⟨44, _⟩ => ⟨S2x8x6144, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_call1_v0 : Ref sig .tc := ⟨.hbm, 25, rfl⟩
abbrev main_call1_v1 : Ref sig .tc := ⟨.hbm, 26, rfl⟩
abbrev main_call1_cst : Ref sig .tc := ⟨.hbm, 27, rfl⟩
abbrev main_call1_v2 : Ref sig .tc := ⟨.hbm, 28, rfl⟩
abbrev main_call1_v3 : Ref sig .tc := ⟨.hbm, 29, rfl⟩
abbrev main_call1_cst_0 : Ref sig .tc := ⟨.hbm, 30, rfl⟩
abbrev main_call1_v4 : Ref sig .tc := ⟨.hbm, 31, rfl⟩
abbrev main_call1_v5 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩

abbrev nD : Nat := 1
abbrev τ : Topo := Topo.v7x

variable {F : FTy → Type} [FloatOps F]
-- ==== Mlp.lean ====
abbrev S4x256x1024 : Shape := ⟨3, ![4, 256, 1024]⟩
abbrev S16x1x6144 : Shape := ⟨3, ![16, 1, 6144]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024 : Shape := ⟨1, ![1024]⟩
abbrev S1x1024 : Shape := ⟨2, ![1, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S1x256x1024 : Shape := ⟨3, ![1, 256, 1024]⟩
abbrev S1x1x6144 : Shape := ⟨3, ![1, 1, 6144]⟩
abbrev S256x4096 : Shape := ⟨2, ![256, 4096]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩
abbrev S1024x1024 : Shape := ⟨2, ![1024, 1024]⟩

abbrev nBuf : Space → Nat
  | .hbm => 17
  | .vmem => 10
  | .smem => 0
  | _ => 0

abbrev bufTy : (tb : Table) → Fin (tcTables nBuf tb) → BufTy
  | .hbm, ⟨0, _⟩ => ⟨S4x256x1024, .f32⟩
  | .hbm, ⟨1, _⟩ => ⟨S16x1x6144, .f32⟩
  | .hbm, ⟨2, _⟩ => ⟨S2x1024, .f32⟩
  | .hbm, ⟨3, _⟩ => ⟨S2x1024x4096, .f32⟩
  | .hbm, ⟨4, _⟩ => ⟨S2x4096x1024, .f32⟩
  | .hbm, ⟨5, _⟩ => ⟨S1024, .f32⟩
  | .hbm, ⟨6, _⟩ => ⟨S1x1024, .f32⟩
  | .hbm, ⟨7, _⟩ => ⟨S1024, .f32⟩
  | .hbm, ⟨8, _⟩ => ⟨S1x1024x4096, .f32⟩
  | .hbm, ⟨9, _⟩ => ⟨S1024x4096, .f32⟩
  | .hbm, ⟨10, _⟩ => ⟨S1024x4096, .bf16⟩
  | .hbm, ⟨11, _⟩ => ⟨S1x4096x1024, .f32⟩
  | .hbm, ⟨12, _⟩ => ⟨S4096x1024, .f32⟩
  | .hbm, ⟨13, _⟩ => ⟨S4096x1024, .bf16⟩
  | .hbm, ⟨14, _⟩ => ⟨S1x1024, .f32⟩
  | .hbm, ⟨15, _⟩ => ⟨S1x1024, .f32⟩
  | .hbm, ⟨16, _⟩ => ⟨S4x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1x6144, .f32⟩
  | .local _ .vmem, ⟨3, _⟩ => ⟨S1x1024, .f32⟩
  | .local _ .vmem, ⟨4, _⟩ => ⟨S1024x4096, .bf16⟩
  | .local _ .vmem, ⟨5, _⟩ => ⟨S4096x1024, .bf16⟩
  | .local _ .vmem, ⟨6, _⟩ => ⟨S1x1024, .f32⟩
  | .local _ .vmem, ⟨7, _⟩ => ⟨S1x256x1024, .f32⟩
  | .local _ .vmem, ⟨8, _⟩ => ⟨S1x256x1024, .f32⟩
  | .local _ .vmem, ⟨9, _⟩ => ⟨S256x4096, .bf16⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MlpRefIdeal.lean ====
abbrev S4x256x1024 : Shape := ⟨3, ![4, 256, 1024]⟩
abbrev S16x1x6144 : Shape := ⟨3, ![16, 1, 6144]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024 : Shape := ⟨1, ![1024]⟩
abbrev S1x1x6144 : Shape := ⟨3, ![1, 1, 6144]⟩
abbrev S1x6144 : Shape := ⟨2, ![1, 6144]⟩
abbrev S1x1024 : Shape := ⟨2, ![1, 1024]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S4x256x4096 : Shape := ⟨3, ![4, 256, 4096]⟩

abbrev nBuf : Space → Nat
  | .hbm => 55
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S16x1x6144, .f32⟩
  | .hbm, ⟨2, _⟩ => ⟨S2x1024, .f32⟩
  | .hbm, ⟨3, _⟩ => ⟨S2x1024x4096, .f32⟩
  | .hbm, ⟨4, _⟩ => ⟨S2x4096x1024, .f32⟩
  | .hbm, ⟨5, _⟩ => ⟨S1024, .f32⟩
  | .hbm, ⟨6, _⟩ => ⟨S1x1x6144, .f32⟩
  | .hbm, ⟨7, _⟩ => ⟨S1x6144, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1024, .f32⟩
  | .hbm, ⟨16, _⟩ => ⟨S4x256x1024, .f32⟩
  | .hbm, ⟨17, _⟩ => ⟨S_, .f32⟩
  | .hbm, ⟨18, _⟩ => ⟨S4x256, .f32⟩
  | .hbm, ⟨19, _⟩ => ⟨S4x256x1, .f32⟩
  | .hbm, ⟨20, _⟩ => ⟨S_, .f32⟩
  | .hbm, ⟨21, _⟩ => ⟨S4x256x1, .f32⟩
  | .hbm, ⟨22, _⟩ => ⟨S4x256x1, .f32⟩
  | .hbm, ⟨23, _⟩ => ⟨S_, .f32⟩
  | .hbm, ⟨24, _⟩ => ⟨S4x256x1, .f32⟩
  | .hbm, ⟨25, _⟩ => ⟨S4x256x1, .f32⟩
  | .hbm, ⟨26, _⟩ => ⟨S4x256x1, .f32⟩
  | .hbm, ⟨27, _⟩ => ⟨S4x256x1024, .f32⟩
  | .hbm, ⟨28, _⟩ => ⟨S4x256x1024, .f32⟩
  | .hbm, ⟨29, _⟩ => ⟨S1x1x1024, .f32⟩
  | .hbm, ⟨30, _⟩ => ⟨S4x256x1024, .f32⟩
  | .hbm, ⟨31, _⟩ => ⟨S4x256x1024, .f32⟩
  | .hbm, ⟨32, _⟩ => ⟨S_, .f32⟩
  | .hbm, ⟨33, _⟩ => ⟨S1x1024, .f32⟩
  | .hbm, ⟨34, _⟩ => ⟨S1x1024, .f32⟩
  | .hbm, ⟨35, _⟩ => ⟨S1x1x1024, .f32⟩
  | .hbm, ⟨36, _⟩ => ⟨S4x256x1024, .f32⟩
  | .hbm, ⟨37, _⟩ => ⟨S4x256x1024, .f32⟩
  | .hbm, ⟨38, _⟩ => ⟨S1x1x1024, .f32⟩
  | .hbm, ⟨39, _⟩ => ⟨S4x256x1024, .f32⟩
  | .hbm, ⟨40, _⟩ => ⟨S4x256x1024, .f32⟩
  | .hbm, ⟨41, _⟩ => ⟨S1x1024x4096, .f32⟩
  | .hbm, ⟨42, _⟩ => ⟨S1024x4096, .f32⟩
  | .hbm, ⟨43, _⟩ => ⟨S1x4096x1024, .f32⟩
  | .hbm, ⟨44, _⟩ => ⟨S4096x1024, .f32⟩
  | .hbm, ⟨45, _⟩ => ⟨S4x256x4096, .f32⟩
  | .hbm, ⟨46, _⟩ => ⟨S_, .f32⟩
  | .hbm, ⟨47, _⟩ => ⟨S4x256x4096, .f32⟩
  | .hbm, ⟨48, _⟩ => ⟨S4x256x4096, .f32⟩
  | .hbm, ⟨49, _⟩ => ⟨S4x256x4096, .f32⟩
  | .hbm, ⟨50, _⟩ => ⟨S4x256x1024, .f32⟩
  | .hbm, ⟨51, _⟩ => ⟨S1x1x1024, .f32⟩
  | .hbm, ⟨52, _⟩ => ⟨S4x256x1024, .f32⟩
  | .hbm, ⟨53, _⟩ => ⟨S4x256x1024, .f32⟩
  | .hbm, ⟨54, _⟩ => ⟨S4x256x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_call0_cst : Ref sig .tc := ⟨.hbm, 46, rfl⟩
abbrev main_call0_v0 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩

abbrev nD : Nat := 1
abbrev τ : Topo := Topo.v7x

variable {F : FTy → Type} [FloatOps F]
-- ==== Proof.ConfSpec.lean ====
/-
  The conformer layer as a function on rows of extended reals: one token's row of 1024 numbers at a time. Both sides of
  the value claim are read as these functions: the kernel's two stages (the convolution branch of one tile, the MLP of
  the tile before it) and the reference's operations.
-/
module

public import Idealize.ShloMosaic.Lib.Pointwise

@[expose] public section

noncomputable section

namespace Cert.ConfSpec

open Idealize.ShloMosaic

/-- One token's features. -/
abbrev Row := Fin 1024 → EReal

/-- The sum of a row divided by 1024. -/
def mean (x : Row) : EReal := Ideal.div (∑ k, x k) (Ideal.ofBits FTy.f32 1149239296#32)

/-- The small number added under the square roots. -/
def eps : EReal := Ideal.ofBits FTy.f32 897988541#32

/-- A row divided by the root of its mean square. -/
def rms (x : Row) : Row := fun k => x k * Ideal.rsqrt (mean (fun j => x j * x j) + eps)

/-- The normalised row, scaled and shifted. -/
def modulate (x g sh sc : Row) : Row := fun k => rms x k * (g k * (1 + sc k)) + sh k

def sigmoid (x : EReal) : EReal := Ideal.div 1 (1 + Ideal.exp (-x))

/-- One column of the gated linear unit: a value column times the logistic of a gate column. -/
def glu (u : Row) (wv : Fin 1024 → EReal) (bv : EReal) (wg : Fin 1024 → EReal) (bg : EReal) : EReal :=
  ((∑ k, u k * wv k) + bv) * sigmoid ((∑ k, u k * wg k) + bg)

/-- The row less its mean, divided by its deviation, scaled and shifted. -/
def layernorm (x g b : Row) : Row := fun k =>
  (x k - mean x) * Ideal.rsqrt (mean (fun j => (x j - mean x) * (x j - mean x)) + eps) * g k + b k

def silu (x : EReal) : EReal := x * sigmoid x

/-- What follows the convolution: normalise, silu, project, scale by the gate and add to the residual. -/
def mid (h gate c lng lnb : Row) (w2 : Fin 1024 → Row) (b2 : Row) : Row := fun n =>
  h n + gate n * ((∑ k, silu (layernorm c lng lnb k) * w2 k n) + b2 n)

/-- The MLP with squared ReLU. -/
def mlp (u : Row) (w1 : Fin 1024 → Fin 4096 → EReal) (w2 : Fin 4096 → Row) : Row := fun n =>
  ∑ j, max (∑ k, u k * w1 k j) 0 * max (∑ k, u k * w1 k j) 0 * w2 j n

/-- The layer's second half and the final norm, from a row after the convolution branch. -/
def fin (h g sh sc gate : Row) (w1 : Fin 1024 → Fin 4096 → EReal) (w2 : Fin 4096 → Row) (gf : Row) : Row := fun n =>
  rms (fun k => h k + gate k * mlp (modulate h g sh sc) w1 w2 k) n * gf n

/-- The layer's operands, as rows. `mods b j` is the `j`-th of the six modulation vectors of sample `b`. -/
structure Args where
  h : Fin 4 → Fin 8192 → Row
  mods : Fin 4 → Fin 6 → Row
  gmix : Row
  w1 : Fin 1024 → Fin 2048 → EReal
  b1 : Fin 2048 → EReal
  wd : Fin 31 → Row
  bd : Row
  lng : Row
  lnb : Row
  w2 : Fin 1024 → Row
  b2 : Row
  gmlp : Row
  mw1 : Fin 1024 → Fin 4096 → EReal
  mw2 : Fin 4096 → Row
  gfin : Row

namespace Args

variable (A : Args)

/-- The gated linear unit of token `l` of sample `b`. -/
def gated (b : Fin 4) (l : Fin 8192) : Row := fun n =>
  glu (modulate (A.h b l) A.gmix (A.mods b 0) (A.mods b 1))
    (fun k => A.w1 k ⟨n.val, by omega⟩) (A.b1 ⟨n.val, by omega⟩)
    (fun k => A.w1 k ⟨1024 + n.val, by omega⟩) (A.b1 ⟨1024 + n.val, by omega⟩)

/-- The gated rows with zeros outside the sequence: position `p` holds token `p - 15`. -/
def padded (b : Fin 4) (p : ℕ) : Row := fun n =>
  if hp : 15 ≤ p ∧ p - 15 < 8192 then A.gated b ⟨p - 15, hp.2⟩ n else 0

/-- The centred depthwise convolution over 31 positions. -/
def conv (b : Fin 4) (l : Fin 8192) : Row := fun n =>
  (∑ t : Fin 31, A.wd t n * A.padded b (l.val + t.val) n) + A.bd n

/-- The residual stream after the convolution branch. -/
def hmid (b : Fin 4) (l : Fin 8192) : Row :=
  mid (A.h b l) (A.mods b 2) (A.conv b l) A.lng A.lnb A.w2 A.b2

/-- The layer's result. -/
def out (b : Fin 4) (l : Fin 8192) : Row :=
  fin (A.hmid b l) A.gmlp (A.mods b 3) (A.mods b 4) (A.mods b 5) A.mw1 A.mw2 A.gfin

end Args

/-- The operands read from the call's arguments. -/
def args (x0 : Vec Ideal ⟨3, ![4, 8192, 1024]⟩ .f32) (x1 : Vec Ideal ⟨3, ![16, 1, 6144]⟩ .f32) (x2 : Vec Ideal ⟨2, ![2, 1024]⟩ .f32)
    (x3 : Vec Ideal ⟨3, ![1, 1024, 2048]⟩ .f32) (x4 : Vec Ideal ⟨2, ![1, 2048]⟩ .f32) (x5 : Vec Ideal ⟨3, ![1, 31, 1024]⟩ .f32)
    (x6 x7 x8 : Vec Ideal ⟨2, ![1, 1024]⟩ .f32) (x9 : Vec Ideal ⟨3, ![1, 1024, 1024]⟩ .f32) (x10 : Vec Ideal ⟨2, ![1, 1024]⟩ .f32)
    (x11 : Vec Ideal ⟨2, ![2, 1024]⟩ .f32) (x12 : Vec Ideal ⟨3, ![2, 1024, 4096]⟩ .f32) (x13 : Vec Ideal ⟨3, ![2, 4096, 1024]⟩ .f32)
    (x14 : Vec Ideal ⟨1, ![1024]⟩ .f32) : Args where
  h b l k := x0 (ix3 b l k)
  mods b j k := x1 (ix3 ⟨8 + b.val, by omega⟩ 0 ⟨1024 * j.val + k.val, by omega⟩)
  gmix k := x2 (ix2 1 k)
  w1 k n := x3 (ix3 0 k n)
  b1 n := x4 (ix2 0 n)
  wd t n := x5 (ix3 0 t n)
  bd n := x6 (ix2 0 n)
  lng n := x7 (ix2 0 n)
  lnb n := x8 (ix2 0 n)
  w2 k n := x9 (ix3 0 k n)
  b2 n := x10 (ix2 0 n)
  gmlp n := x11 (ix2 1 n)
  mw1 k j := x12 (ix3 1 k j)
  mw2 j n := x13 (ix3 1 j n)
  gfin n := x14 (ix1 n)

/-- A sum over the 31 taps, written out in order. -/
theorem sum_31 (f : Fin 31 → EReal) :
    f 0 + f 1 + f 2 + f 3 + f 4 + f 5 + f 6 + f 7 + f 8 + f 9 + f 10 + f 11 + f 12 + f 13 + f 14 + f 15 + f 16 + f 17 + f 18
      + f 19 + f 20 + f 21 + f 22 + f 23 + f 24 + f 25 + f 26 + f 27 + f 28 + f 29 + f 30 = ∑ t, f t := by
  have hp : ([0, 1, 2, 3, 4, 5, 6, 7, 8, 9, 10, 11, 12, 13, 14, 15, 16, 17, 18, 19, 20, 21, 22, 23, 24, 25, 26, 27, 28, 29, 30] : List (Fin 31))
      = List.finRange 31 := by decide
  rw [Fin.sum_univ_def, ← hp]
  simp only [List.map_cons, List.map_nil, List.sum_cons, List.sum_nil, add_zero, add_assoc]

/-- A sum over 4096 hidden units, as four sums over 1024. -/
theorem sum_quarters (f : Fin 4096 → EReal) :
    ∑ j, f j = (∑ j : Fin 1024, f ⟨j.val, by omega⟩) + (∑ j : Fin 1024, f ⟨1024 + j.val, by omega⟩)
      + (∑ j : Fin 1024, f ⟨2048 + j.val, by omega⟩) + (∑ j : Fin 1024, f ⟨3072 + j.val, by omega⟩) := by
  have h := Fin.sum_univ_add (a := 3072) (b := 1024) (fun j => f j)
  have h2 := Fin.sum_univ_add (a := 2048) (b := 1024) (fun j => f (Fin.castAdd 1024 j))
  have h3 := Fin.sum_univ_add (a := 1024) (b := 1024) (fun j => f (Fin.castAdd 1024 (Fin.castAdd 1024 j)))
  exact h.trans (by rw [h2, h3]; rfl)

end Cert.ConfSpec

end
-- ==== Proof.ConfPay.lean ====
/-
  What the conformer kernel's vector expressions are worth at an index, over the extended reals: the modulated rows, the
  MLP's partial products, the gated linear unit under its mask, the projections and norms. Stated over any operands.
-/
module

public import proofs.«01_k».proof.Proof.Gen.ConfIdeal.Skeleton
public import proofs.«01_k».proof.Proof.ConfSpec

@[expose] public section

set_option maxRecDepth 16384

noncomputable section

namespace Cert.ConfIdeal.Body

open Cert.ConfIdeal Cert.ConfIdeal.Gen Cert.ConfSpec Idealize.ShloMosaic Idealize.ShloMosaic.TcCoe

theorem um_at (h : Vec Ideal S1x512x1024 .f32) (g : Vec Ideal S1x1024 .f32) (sh sc : Vec Ideal S1x1x1024 .f32)
    (r : Fin 512) (k : Fin 1024) :
    k0_pay4 h g sh sc (ix2 r k)
      = modulate (fun j => h (ix3 0 r j)) (fun j => g (ix2 0 j)) (fun j => sh (ix3 0 0 j)) (fun j => sc (ix3 0 0 j)) k := by
  pointwise [k0_pay4, k0_pay3]
  rfl

/-- The rows of the tile with its two neighbours' edges around it. -/
def extRow (p : Vec Ideal S1x1x16x1024 .f32) (x : Vec Ideal S1x512x1024 .f32) (n : Vec Ideal S1x1x16x1024 .f32)
    (r : Fin 544) : Row := fun k =>
  if h : r.val < 16 then p (ix4 0 0 ⟨r.val, h⟩ k)
  else if h' : r.val - 16 < 512 then x (ix3 0 ⟨r.val - 16, h'⟩ k) else n (ix4 0 0 ⟨r.val - 16 - 512, by omega⟩ k)

theorem uc_at (p : Vec Ideal S1x1x16x1024 .f32) (x : Vec Ideal S1x512x1024 .f32) (n : Vec Ideal S1x1x16x1024 .f32)
    (g : Vec Ideal S1x1024 .f32) (sh sc : Vec Ideal S1x1x1024 .f32) (r : Fin 544) (k : Fin 1024) :
    k0_pay6 (k0_pay5 p) x n g sh sc (ix2 r k)
      = modulate (extRow p x n r) (fun j => g (ix2 0 j)) (fun j => sh (ix3 0 0 j)) (fun j => sc (ix3 0 0 j)) k := by
  pointwise [k0_pay6, k0_pay5]
  rfl

/-- One quarter of the MLP's hidden units. -/
def quarter (u : Row) (wa : Vec Ideal S1024x1024 .bf16) (wb : Vec Ideal S1024x1024 .bf16) : Row := fun n =>
  ∑ j : Fin 1024, max (∑ k, u k * wa (ix2 k j)) 0 * max (∑ k, u k * wa (ix2 k j)) 0 * wb (ix2 j n)

theorem mlp_at (u : FVec Ideal S512x1024 .bf16) (a0 a1 a2 a3 b0 b1 b2 b3 : Vec Ideal S1024x1024 .bf16) (r : Fin 512) (n : Fin 1024) :
    k0_pay67 u (k0_pay48 u (k0_pay28 u (k0_pay10 u a0 b0) a1 b1) (k0_pay47 a2) (constant S512x1024 .f32 0x00000000#32) b2) a3 b3 (ix2 r n)
      = quarter (fun k => u (ix2 r k)) a0 b0 n + quarter (fun k => u (ix2 r k)) a1 b1 n
        + quarter (fun k => u (ix2 r k)) a2 b2 n + quarter (fun k => u (ix2 r k)) a3 b3 n := by
  pointwise [k0_pay67, k0_pay48, k0_pay47, k0_pay28, k0_pay10]
  rfl

theorem final_at (h m : FVec Ideal S512x1024 .f32) (gate : Vec Ideal S1x1x1024 .f32) (gf : Vec Ideal S1x1024 .f32) (r : Fin 512) (n : Fin 1024) :
    k0_pay90 (k0_pay88 h m gate) (k0_pay89 h m gate) gf (ix3 0 r n)
      = rms (fun k => h (ix2 r k) + gate (ix3 0 0 k) * m (ix2 r k)) n * gf (ix2 0 n) := by
  pointwise [k0_pay90, k0_pay89, k0_pay88]
  rfl

/-- The four column blocks side by side. -/
def join (a b c d : FVec Ideal S512x256 .f32) (r : Fin 512) : Row := fun k =>
  if h : k.val < 256 then a (ix2 r ⟨k.val, h⟩)
  else if h : k.val - 256 < 256 then b (ix2 r ⟨k.val - 256, h⟩)
  else if h : k.val - 256 - 256 < 256 then c (ix2 r ⟨k.val - 256 - 256, h⟩)
  else d (ix2 r ⟨k.val - 256 - 256 - 256, by omega⟩)

theorem ln_at (a b c d : FVec Ideal S512x256 .f32) (g e : Vec Ideal S1x1024 .f32) (r : Fin 512) (k : Fin 1024) :
    k0_pay91 a b c d g e (ix2 r k) = layernorm (join a b c d r) (fun j => g (ix2 0 j)) (fun j => e (ix2 0 j)) k := by
  pointwise [k0_pay91]
  rfl

theorem mid_at (a b c d : FVec Ideal S512x256 .f32) (g e : Vec Ideal S1x1024 .f32) (w : Vec Ideal S1024x1024 .bf16)
    (b2 : Vec Ideal S1x1024 .f32) (x : Vec Ideal S1x512x1024 .f32) (gate : Vec Ideal S1x1x1024 .f32) (r : Fin 512) (n : Fin 1024) :
    k0_pay93 (k0_pay91 a b c d g e) (k0_pay92 a b c d g e) w b2 x gate (ix2 r n)
      = mid (fun k => x (ix3 0 r k)) (fun k => gate (ix3 0 0 k)) (join a b c d r) (fun j => g (ix2 0 j)) (fun j => e (ix2 0 j))
          (fun k j => w (ix2 k j)) (fun j => b2 (ix2 0 j)) n := by
  have hl : ∀ k, k0_pay91 a b c d g e (ix2 r k) = layernorm (join a b c d r) (fun j => g (ix2 0 j)) (fun j => e (ix2 0 j)) k :=
    ln_at a b c d g e r
  pointwise [k0_pay93, k0_pay92, hl]
  simp only [zero_sub]
  rfl

/-- A row of the gated linear unit of one column block, zero where the mask is. -/
def gluCol (u : FVec Ideal S544x1024 .bf16) (m : IVec S544x1 1) (wv : Vec Ideal S1024x256 .bf16) (bv : Vec Ideal S1x256 .f32)
    (wg : Vec Ideal S1024x256 .bf16) (bg : Vec Ideal S1x256 .f32) (r : Fin 544) (c : Fin 256) : EReal :=
  Scalar.select (m (ix2 r 0))
    (glu (fun k => u (ix2 r k)) (fun k => wv (ix2 k c)) (bv (ix2 0 c)) (fun k => wg (ix2 k c)) (bg (ix2 0 c))) 0

section
variable (u : FVec Ideal S544x1024 .bf16) (m : IVec S544x1 1) (wv : Vec Ideal S1024x256 .bf16) (bv : Vec Ideal S1x256 .f32)
    (wg : Vec Ideal S1024x256 .bf16) (bg : Vec Ideal S1x256 .f32) (r : Fin 544) (c : Fin 256)

theorem glu0_at : k0_pay13 (k0_pay11 u wv bv wg bg) (Scalar.ofBits .f32 0x00000000#32) m (ix2 r c) = gluCol u m wv bv wg bg r c := by
  pointwise [k0_pay13, k0_pay11]
  simp only [zero_sub]
  rfl

theorem glu1_at : k0_pay30 u m (k0_pay29 u wv bv) wg bg (ix2 r c) = gluCol u m wv bv wg bg r c := by
  pointwise [k0_pay30, k0_pay29]
  simp only [zero_sub]
  rfl

theorem glu2_at : k0_pay49 u m wv bv wg bg (ix2 r c) = gluCol u m wv bv wg bg r c := by
  pointwise [k0_pay49]
  simp only [zero_sub]
  rfl

theorem glu3_at : k0_pay71 m (k0_pay68 u wv bv) (k0_pay69 u wg) (k0_pay70 bg) (ix2 r c) = gluCol u m wv bv wg bg r c := by
  pointwise [k0_pay71, k0_pay70, k0_pay69, k0_pay68]
  simp only [zero_sub]
  rfl
end

/-! ### The convolution's shifted products -/

/-- Row `p` of a column block of 544 rows. -/
def rowAt (a : FVec Ideal S544x256 .f32) (p : ℕ) (c : Fin 256) : EReal := if h : p < 544 then a (ix2 ⟨p, h⟩ c) else 0

theorem slice_at (a : FVec Ideal S544x256 .f32) (o : ℕ) (h : S544x256.Slices ![o, 0] S512x256) (ho : o ≤ 32) (r : Fin 512) (c : Fin 256) :
    extractStridedSlice S512x256 ![o, 0] a h (ix2 r c) = rowAt a (r.val + o) c := by
  pointwise
  unfold rowAt
  rw [dif_pos (by omega)]
  exact congrArg a (congrArg (fun q => ix2 q c) (Fin.ext (by show o + r.val = r.val + o; omega)))

theorem rot_at (a : FVec Ideal S544x256 .f32) (k : BitVec 32) (p : ℕ) (c : Fin 256) (hk : k.toNat ≤ 544)
    (h : p + (544 - k.toNat) < 544) :
    rowAt (dynamicRotate 0 k none a rotates_S544x256_d0) p c = rowAt a (p + (544 - k.toNat)) c := by
  unfold rowAt
  rw [dif_pos (by omega), dif_pos h]
  pointwise
  exact congrArg a (congrArg (fun q => ix2 q c) (Fin.ext (by show (p + 544 - k.toNat % 544) % 544 = p + (544 - k.toNat); omega)))

theorem scaled_at (w : Vec Ideal S1x256 .f32) (x : FVec Ideal S512x256 .f32) (r : Fin 512) (c : Fin 256) :
    mulf (broadcastTo S512x256 (shapeCast S1x256 w shapeCasts_S1x256_S1x256) broadcasts_S1x256_S512x256) x (ix2 r c)
      = w (ix2 0 c) * x (ix2 r c) := by
  pointwise

/-- A sum over the 31 taps, in the order in which the kernel adds them: by their remainder modulo 8. -/
theorem sum_taps (f : Fin 31 → EReal) :
    f 7 + f 15 + f 23 + f 0 + f 8 + f 16 + f 24 + f 1 + f 9 + f 17 + f 25 + f 2 + f 10 + f 18 + f 26 + f 3 + f 11 + f 19 + f 27
      + f 4 + f 12 + f 20 + f 28 + f 5 + f 13 + f 21 + f 29 + f 6 + f 14 + f 22 + f 30 = ∑ t, f t := by
  have hp : ([7, 15, 23, 0, 8, 16, 24, 1, 9, 17, 25, 2, 10, 18, 26, 3, 11, 19, 27, 4, 12, 20, 28, 5, 13, 21, 29, 6, 14, 22, 30] : List (Fin 31)).Perm
      (List.finRange 31) := by decide
  have := (hp.map f).sum_eq
  rw [← Fin.sum_univ_def] at this
  rw [← this]
  simp only [List.map_cons, List.map_nil, List.sum_cons, List.sum_nil, add_zero, add_assoc]

end Cert.ConfIdeal.Body

end
-- ==== Proof.ConfConv.lean ====
/-
  The depthwise convolution of the conformer kernel: each of its four column blocks adds 31 shifted and scaled copies of
  the gated rows, in the order of their remainders modulo 8, and a bias.
-/
module

public import proofs.«01_k».proof.Proof.ConfPay

@[expose] public section

set_option maxRecDepth 16384

noncomputable section

namespace Cert.ConfIdeal.Body

open Cert.ConfIdeal Cert.ConfIdeal.Gen Cert.ConfSpec Idealize.ShloMosaic Idealize.ShloMosaic.TcCoe

theorem to_rowAt (a : FVec Ideal S544x256 .f32) (p : Fin 544) (c : Fin 256) : a (ix2 p c) = rowAt a p.val c := by
  unfold rowAt
  rw [dif_pos p.isLt]

theorem shifted {w : EReal} {a : FVec Ideal S544x256 .f32} {p q : ℕ} {c : Fin 256} (h : p = q) : w * rowAt a p c = w * rowAt a q c := by
  rw [h]

theorem plus {a b c d : EReal} (h : a = b) (k : c = d) : a + c = b + d := by rw [h, k]

theorem conv0 (g : FVec Ideal S544x256 .f32) (z : Ideal .f32) (m : IVec S544x1 1)
    (w : Fin 31 → Vec Ideal S1x256 .f32) (b : Vec Ideal S1x256 .f32) (r : Fin 512) (c : Fin 256) :
    k0_pay27 (k0_pay14 b) (k0_pay24 (k0_pay13 g z m) (k0_pay21 (k0_pay13 g z m)) (k0_pay22 (k0_pay13 g z m) (k0_pay18 (k0_pay13 g
      z m)) (k0_pay19 (k0_pay13 g z m) (k0_pay15 g z m) (k0_pay16 g z m (w 7) (w 15) (w 23) (w 0) (w 8) (w 16)) (k0_pay17 (w 24))
      (w 1) (w 9) (w 17) (w 25) (w 2) (w 10)) (k0_pay20 (w 18)) (w 26) (w 3) (w 11) (w 19) (w 27) (w 4)) (k0_pay23 (w 12)) (w 20)
      (w 28) (w 5) (w 13) (w 21) (w 29)) (k0_pay25 (k0_pay13 g z m)) (k0_pay26 (w 6)) (w 14) (w 22) (w 30) (ix2 r c)
      = (∑ t, w t (ix2 0 c) * rowAt (k0_pay13 g z m) (r.val + 1 + t.val) c) + b (ix2 0 c) := by
  pointwise [k0_pay14, k0_pay15, k0_pay16, k0_pay17, k0_pay18, k0_pay19, k0_pay20, k0_pay21, k0_pay22, k0_pay23, k0_pay24, k0_pay25, k0_pay26, k0_pay27]
  simp only [to_rowAt]
  rw [← sum_taps]
  have hr := r.isLt
  repeat' with_reducible refine plus ?_ ?_
  all_goals with_reducible first | exact shifted (by omega) | rfl

theorem conv1 (u : FVec Ideal S544x1024 .bf16) (m : IVec S544x1 1) (g : FVec Ideal S544x256 .f32) (wg : Vec Ideal S1024x256 .bf16) (bg : Vec Ideal S1x256 .f32)
    (w : Fin 31 → Vec Ideal S1x256 .f32) (b : Vec Ideal S1x256 .f32) (r : Fin 512) (c : Fin 256) :
    k0_pay46 (k0_pay30 u m g wg bg) (k0_pay31 b) (k0_pay42 (k0_pay30 u m g wg bg)) (k0_pay43 (k0_pay30 u m g wg bg) (k0_pay38
      (k0_pay30 u m g wg bg)) (k0_pay39 (k0_pay30 u m g wg bg) (k0_pay35 (k0_pay30 u m g wg bg) (k0_pay32 u m g wg bg (w 7) (w 15)
      (w 23)) (k0_pay33 u m g wg bg) (w 0) (w 8) (w 16) (w 24) (w 1) (w 9) (w 17)) (k0_pay36 (w 25)) (k0_pay37 (k0_pay30 u m g wg
      bg)) (w 2) (w 10) (w 18) (w 26) (w 3) (w 11)) (k0_pay40 (w 19)) (k0_pay41 (k0_pay30 u m g wg bg)) (w 27) (w 4) (w 12) (w 20)
      (w 28) (w 5)) (k0_pay44 (w 13)) (k0_pay45 (k0_pay30 u m g wg bg)) (w 21) (w 29) (w 6) (w 14) (w 22) (w 30) (ix2 r c)
      = (∑ t, w t (ix2 0 c) * rowAt (k0_pay30 u m g wg bg) (r.val + 1 + t.val) c) + b (ix2 0 c) := by
  pointwise [k0_pay31, k0_pay32, k0_pay33, k0_pay34, k0_pay35, k0_pay36, k0_pay37, k0_pay38, k0_pay39, k0_pay40, k0_pay41, k0_pay42, k0_pay43, k0_pay44, k0_pay45, k0_pay46]
  simp only [to_rowAt]
  rw [← sum_taps]
  have hr := r.isLt
  repeat' with_reducible refine plus ?_ ?_
  all_goals with_reducible first | exact shifted (by omega) | rfl

theorem conv2 (a : FVec Ideal S544x256 .f32)
    (w : Fin 31 → Vec Ideal S1x256 .f32) (b : Vec Ideal S1x256 .f32) (r : Fin 512) (c : Fin 256) :
    k0_pay66 (k0_pay50 b) (k0_pay62 a) (k0_pay63 a (k0_pay58 a) (k0_pay59 a (k0_pay55 a (k0_pay51 a (w 7) (w 15) (w 23) (w 0) (w
      8) (w 16) (w 24)) (k0_pay52 a) (k0_pay53 (w 1)) (w 9) (w 17) (w 25) (w 2) (w 10) (w 18)) (k0_pay56 a) (k0_pay57 (w 26)) (w 3)
      (w 11) (w 19) (w 27) (w 4) (w 12)) (k0_pay60 a) (k0_pay61 (w 20)) (w 28) (w 5) (w 13) (w 21) (w 29) (w 6)) (k0_pay64 a)
      (k0_pay65 (w 14)) (w 22) (w 30) (ix2 r c)
      = (∑ t, w t (ix2 0 c) * rowAt a (r.val + 1 + t.val) c) + b (ix2 0 c) := by
  pointwise [k0_pay50, k0_pay51, k0_pay52, k0_pay53, k0_pay54, k0_pay55, k0_pay56, k0_pay57, k0_pay58, k0_pay59, k0_pay60, k0_pay61, k0_pay62, k0_pay63, k0_pay64, k0_pay65, k0_pay66]
  simp only [to_rowAt]
  rw [← sum_taps]
  have hr := r.isLt
  repeat' with_reducible refine plus ?_ ?_
  all_goals with_reducible first | exact shifted (by omega) | rfl

theorem conv3 (m : IVec S544x1 1) (g h : FVec Ideal S544x256 .f32) (e : FVec Ideal S1x256 .f32)
    (w : Fin 31 → Vec Ideal S1x256 .f32) (b : Vec Ideal S1x256 .f32) (r : Fin 512) (c : Fin 256) :
    k0_pay87 (k0_pay71 m g h e) (k0_pay72 b) (k0_pay84 (k0_pay71 m g h e)) (k0_pay85 (k0_pay71 m g h e) (k0_pay82 (k0_pay71 m g h
      e) (k0_pay77 (k0_pay71 m g h e) (k0_pay73 m g h e) (k0_pay74 m g h e (w 7) (w 15) (w 23) (w 0)) (k0_pay75 (w 8)) (k0_pay76 m
      g h e) (w 16) (w 24) (w 1) (w 9) (w 17) (w 25)) (k0_pay78 (k0_pay71 m g h e)) (k0_pay79 (w 2)) (k0_pay80 (k0_pay71 m g h e))
      (w 10) (w 18) (w 26) (w 3) (w 11) (w 19)) (k0_pay83 (k0_pay71 m g h e) (w 27)) (w 4) (w 12) (w 20) (w 28) (w 5) (w 13))
      (k0_pay86 (k0_pay71 m g h e) (w 21)) (w 29) (w 6) (w 14) (w 22) (w 30) (ix2 r c)
      = (∑ t, w t (ix2 0 c) * rowAt (k0_pay71 m g h e) (r.val + 1 + t.val) c) + b (ix2 0 c) := by
  pointwise [k0_pay72, k0_pay73, k0_pay74, k0_pay75, k0_pay76, k0_pay77, k0_pay78, k0_pay79, k0_pay80, k0_pay81, k0_pay82, k0_pay83, k0_pay84, k0_pay85, k0_pay86, k0_pay87]
  simp only [to_rowAt]
  rw [← sum_taps]
  have hr := r.isLt
  repeat' with_reducible refine plus ?_ ?_
  all_goals with_reducible first | exact shifted (by omega) | rfl

end Cert.ConfIdeal.Body

end
-- ==== Proof.ConfTile.lean ====
/-
  One tile of the conformer kernel: what its two halves leave, at a row and a column, from the operands' blocks. The first
  half is the convolution branch of a tile, the second the MLP of the tile before.
-/
module

public import proofs.«01_k».proof.Proof.ConfConv
public import Idealize.ShloMosaic.Lib.Pipeline.Value

@[expose] public section

set_option maxRecDepth 16384

noncomputable section

namespace Cert.ConfIdeal.Body

open Cert.ConfIdeal Cert.ConfIdeal.Gen Cert.ConfSpec Idealize.ShloMosaic Idealize.ShloMosaic.TcCoe

/-! ### Loads of part of a block -/

theorem ld_mods (X : Vec Ideal S1x1x6144 .f32) (o : ℕ) (ho : o ≤ 5120) (h) (k : Fin 1024) :
    View.ld X (Rect.unit ![0, 0, o] ![1, 1, 1024] h) (ix3 0 0 k) = X (ix3 0 0 ⟨o + k.val, by omega⟩) := by
  pointwise

theorem ld_col (X : Vec Ideal S1024x2048 .bf16) (o : ℕ) (ho : o ≤ 1792) (h) (k : Fin 1024) (c : Fin 256) :
    View.ld X (Rect.unit ![0, o] ![1024, 256] h) (ix2 k c) = X (ix2 k ⟨o + c.val, by omega⟩) := by
  pointwise

theorem ld_bias (X : Vec Ideal S1x2048 .f32) (o : ℕ) (ho : o ≤ 1792) (h) (c : Fin 256) :
    View.ld X (Rect.unit ![0, o] ![1, 256] h) (ix2 0 c) = X (ix2 0 ⟨o + c.val, by omega⟩) := by
  pointwise

theorem ld_tap (X : Vec Ideal S31x1024 .f32) (t : Fin 31) (o : ℕ) (ho : o ≤ 768) (h) (c : Fin 256) :
    View.ld X (Rect.unit ![t.val, o] ![1, 256] h) (ix2 0 c) = X (ix2 t ⟨o + c.val, by omega⟩) := by
  pointwise

theorem ld_row (X : Vec Ideal S1x1024 .f32) (o : ℕ) (ho : o ≤ 768) (h) (c : Fin 256) :
    View.ld X (Rect.unit ![0, o] ![1, 256] h) (ix2 0 c) = X (ix2 0 ⟨o + c.val, by omega⟩) := by
  pointwise

theorem ld_up (X : Vec Ideal S1024x4096 .bf16) (o : ℕ) (ho : o ≤ 3072) (h) (k j : Fin 1024) :
    View.ld X (Rect.unit ![0, o] ![1024, 1024] h) (ix2 k j) = X (ix2 k ⟨o + j.val, by omega⟩) := by
  pointwise

theorem ld_down (X : Vec Ideal S4096x1024 .bf16) (o : ℕ) (ho : o ≤ 3072) (h) (j n : Fin 1024) :
    View.ld X (Rect.unit ![o, 0] ![1024, 1024] h) (ix2 j n) = X (ix2 ⟨o + j.val, by omega⟩ n) := by
  pointwise

/-! ### The mask of the rows outside the sequence -/

/-- The mask of grid point `I`: rows of the tile itself, and edge rows that lie inside the sequence. -/
def maskOf (I : BitVec 32) : IVec S544x1 1 :=
  k0_pay9 (Scalar.remsi (Scalar.minsi I 63#32) 16#32) (iota Kind.tc S544x1 32 [0] iota_S544x1_d0_w32) (k0_pay7 I) k0_pay8

theorem mask_again (a : BitVec 32) (b : IVec S544x1 32) (d : IVec S544x1 1) (e : IVec S544x1 32) : k0_pay12 a b d e = k0_pay9 a b d e := by
  unfold k0_pay12
  exact shapeCast_self _ _

theorem row_ge : ∀ p : Fin 544, IntOp.cmpi .sge (BitVec.ofNat 32 p.val) 16#32 = if 16 ≤ p.val then 1#1 else 0#1 := by decide +kernel
theorem row_lt : ∀ p : Fin 544, IntOp.cmpi .slt (BitVec.ofNat 32 p.val) 528#32 = if p.val < 528 then 1#1 else 0#1 := by decide +kernel
theorem tile_gt : ∀ s : Fin 65, Scalar.cmpi .sgt (Scalar.remsi (Scalar.minsi (BitVec.ofNat 32 s.val) 63#32) 16#32) 0#32
    = if 0 < min s.val 63 % 16 then 1#1 else 0#1 := by decide +kernel
theorem tile_lt : ∀ s : Fin 65, Scalar.cmpi .slt (Scalar.remsi (Scalar.minsi (BitVec.ofNat 32 s.val) 63#32) 16#32) 15#32
    = if min s.val 63 % 16 < 15 then 1#1 else 0#1 := by decide +kernel

theorem mask_at (s : Fin 65) (p : Fin 544) :
    maskOf (BitVec.ofNat 32 s.val) (ix2 p 0)
      = if (16 ≤ p.val ∨ 0 < min s.val 63 % 16) ∧ (p.val < 528 ∨ min s.val 63 % 16 < 15) then 1#1 else 0#1 := by
  unfold maskOf
  pointwise [k0_pay9, k0_pay8, k0_pay7]
  rw [row_ge, row_lt, tile_gt, tile_lt]
  split_ifs <;> first | rfl | omega

/-! ### The convolution branch of a tile -/

/-- The gated linear unit at row `p` of the tile with its edges, zero where masked. -/
def gl (U : Fin 544 → Row) (M : Fin 544 → BitVec 1) (x6 : Vec Ideal S1024x2048 .bf16) (x7 : Vec Ideal S1x2048 .f32) (p : ℕ) : Row := fun n =>
  if h : p < 544 then
    Scalar.select (M ⟨p, h⟩)
      (glu (U ⟨p, h⟩) (fun k => x6 (ix2 k ⟨n.val, by omega⟩)) (x7 (ix2 0 ⟨n.val, by omega⟩))
        (fun k => x6 (ix2 k ⟨1024 + n.val, by omega⟩)) (x7 (ix2 0 ⟨1024 + n.val, by omega⟩))) 0
  else 0

/-- The convolution of the masked rows, for row `r` of the tile. -/
def cvRow (U : Fin 544 → Row) (M : Fin 544 → BitVec 1) (x6 : Vec Ideal S1024x2048 .bf16) (x7 : Vec Ideal S1x2048 .f32)
    (x8 : Vec Ideal S31x1024 .f32) (x9 : Vec Ideal S1x1024 .f32) (r : Fin 512) : Row := fun n =>
  (∑ t : Fin 31, x8 (ix2 t n) * gl U M x6 x7 (r.val + 1 + t.val) n) + x9 (ix2 0 n)

theorem tap_inb (o : ℕ) (ho : o ≤ 768) (t : Fin 31) : ∀ a, (![t.val, o] : Fin 2 → ℕ) a + (![1, 256] : Fin 2 → ℕ) a ≤ S31x1024.size a := by
  intro a
  fin_cases a
  · show t.val + 1 ≤ 31
    omega
  · show o + 256 ≤ 1024
    omega

/-- The taps of a column block. -/
abbrev taps (x8 : Vec Ideal S31x1024 .f32) (o : ℕ) (ho : o ≤ 768) (t : Fin 31) : Vec Ideal S1x256 .f32 :=
  View.ld x8 (Rect.unit ![t.val, o] ![1, 256] (tap_inb o ho t))

theorem cv_block {A : FVec Ideal S512x256 .f32} {T : FVec Ideal S544x256 .f32} (u : FVec Ideal S544x1024 .bf16) (m : IVec S544x1 1)
    (x6 : Vec Ideal S1024x2048 .bf16) (x7 : Vec Ideal S1x2048 .f32) (x8 : Vec Ideal S31x1024 .f32) (x9 : Vec Ideal S1x1024 .f32)
    (o og : ℕ) (ho : o ≤ 768) (hog : og = 1024 + o) (hb) (h6) (h7) (h6') (h7') (r : Fin 512) (c : Fin 256)
    (hT : ∀ p c, T (ix2 p c) = gluCol u m (View.ld x6 (Rect.unit ![0, o] ![1024, 256] h6)) (View.ld x7 (Rect.unit ![0, o] ![1, 256] h7))
      (View.ld x6 (Rect.unit ![0, og] ![1024, 256] h6')) (View.ld x7 (Rect.unit ![0, og] ![1, 256] h7')) p c)
    (hA : A (ix2 r c) = (∑ t, taps x8 o ho t (ix2 0 c) * rowAt T (r.val + 1 + t.val) c)
      + View.ld x9 (Rect.unit ![0, o] ![1, 256] hb) (ix2 0 c)) :
    A (ix2 r c) = cvRow (fun p k => u (ix2 p k)) (fun p => m (ix2 p 0)) x6 x7 x8 x9 r ⟨o + c.val, by omega⟩ := by
  subst hog
  have hr : ∀ p, rowAt T p c = gl (fun p k => u (ix2 p k)) (fun p => m (ix2 p 0)) x6 x7 p ⟨o + c.val, by omega⟩ := fun p => by
    unfold rowAt gl
    split
    · rw [hT]
      unfold gluCol
      simp only [ld_col x6 o (by omega), ld_col x6 (1024 + o) (by omega), ld_bias x7 o (by omega), ld_bias x7 (1024 + o) (by omega),
        Nat.add_assoc]
    · rfl
  rw [hA]
  unfold cvRow
  simp only [ld_tap x8 _ o ho, ld_row x9 o ho, hr]

theorem join_eq {a b c d : FVec Ideal S512x256 .f32} {r : Fin 512} {f : Row}
    (ha : ∀ q : Fin 256, a (ix2 r q) = f ⟨0 + q.val, by omega⟩) (hb : ∀ q : Fin 256, b (ix2 r q) = f ⟨256 + q.val, by omega⟩)
    (hc : ∀ q : Fin 256, c (ix2 r q) = f ⟨512 + q.val, by omega⟩) (hd : ∀ q : Fin 256, d (ix2 r q) = f ⟨768 + q.val, by omega⟩) :
    join a b c d r = f := by
  funext k
  unfold join
  split
  · rw [ha]; exact congrArg f (Fin.ext (Nat.zero_add _))
  · split
    · rw [hb]; exact congrArg f (Fin.ext (by dsimp only; omega))
    · split
      · rw [hc]; exact congrArg f (Fin.ext (by dsimp only; omega))
      · rw [hd]; exact congrArg f (Fin.ext (by dsimp only; omega))

theorem mid_tile {a b c d : FVec Ideal S512x256 .f32} {f : Row} (g e : Vec Ideal S1x1024 .f32) (w : Vec Ideal S1024x1024 .bf16)
    (b2 : Vec Ideal S1x1024 .f32) (x : Vec Ideal S1x512x1024 .f32) (gate : Vec Ideal S1x1x1024 .f32) (r : Fin 512) (n : Fin 1024)
    (ha : ∀ q : Fin 256, a (ix2 r q) = f ⟨0 + q.val, by omega⟩) (hb : ∀ q : Fin 256, b (ix2 r q) = f ⟨256 + q.val, by omega⟩)
    (hc : ∀ q : Fin 256, c (ix2 r q) = f ⟨512 + q.val, by omega⟩) (hd : ∀ q : Fin 256, d (ix2 r q) = f ⟨768 + q.val, by omega⟩) :
    k0_pay1 (k0_pay93 (k0_pay91 a b c d g e) (k0_pay92 a b c d g e) w b2 x gate) (ix3 0 r n)
      = mid (fun k => x (ix3 0 r k)) (fun k => gate (ix3 0 0 k)) f (fun j => g (ix2 0 j)) (fun j => e (ix2 0 j))
          (fun k j => w (ix2 k j)) (fun j => b2 (ix2 0 j)) n := by
  pointwise [k0_pay1]
  rw [mid_at, join_eq ha hb hc hd]

/-! ### The MLP and the final norm of a tile -/

theorem out_tile (h : Vec Ideal S1x512x1024 .f32) (g : Vec Ideal S1x1024 .f32) (mods : Vec Ideal S1x1x6144 .f32)
    (x15 : Vec Ideal S1024x4096 .bf16) (x16 : Vec Ideal S4096x1024 .bf16) (gf : Vec Ideal S1x1024 .f32)
    (m3) (m4) (m5) (a0) (a1) (a2) (a3) (b0) (b1) (b2) (b3) (r : Fin 512) (n : Fin 1024)
    {u : FVec Ideal S512x1024 .bf16} {y : FVec Ideal S512x1024 .f32}
    (hu : u = k0_pay4 h g (View.ld mods (Rect.unit ![0, 0, 3072] ![1, 1, 1024] m3)) (View.ld mods (Rect.unit ![0, 0, 4096] ![1, 1, 1024] m4)))
    (hy : y = k0_pay67 u (k0_pay48 u (k0_pay28 u (k0_pay10 u (View.ld x15 (Rect.unit ![0, 0] ![1024, 1024] a0))
        (View.ld x16 (Rect.unit ![0, 0] ![1024, 1024] b0))) (View.ld x15 (Rect.unit ![0, 1024] ![1024, 1024] a1))
        (View.ld x16 (Rect.unit ![1024, 0] ![1024, 1024] b1))) (k0_pay47 (View.ld x15 (Rect.unit ![0, 2048] ![1024, 1024] a2)))
        (constant S512x1024 .f32 0x00000000#32) (View.ld x16 (Rect.unit ![2048, 0] ![1024, 1024] b2)))
        (View.ld x15 (Rect.unit ![0, 3072] ![1024, 1024] a3)) (View.ld x16 (Rect.unit ![3072, 0] ![1024, 1024] b3))) :
    k0_pay90 (k0_pay88 (k0_pay3 h) y (View.ld mods (Rect.unit ![0, 0, 5120] ![1, 1, 1024] m5)))
        (k0_pay89 (k0_pay3 h) y (View.ld mods (Rect.unit ![0, 0, 5120] ![1, 1, 1024] m5))) gf (ix3 0 r n)
      = fin (fun k => h (ix3 0 r k)) (fun k => g (ix2 0 k)) (fun k => mods (ix3 0 0 ⟨3072 + k.val, by omega⟩))
          (fun k => mods (ix3 0 0 ⟨4096 + k.val, by omega⟩)) (fun k => mods (ix3 0 0 ⟨5120 + k.val, by omega⟩))
          (fun k j => x15 (ix2 k j)) (fun j k => x16 (ix2 j k)) (fun k => gf (ix2 0 k)) n := by
  have hm : ∀ k, y (ix2 r k) = mlp (fun k => u (ix2 r k)) (fun k j => x15 (ix2 k j)) (fun j k => x16 (ix2 j k)) k := fun k => by
    rw [hy, mlp_at]
    unfold mlp
    rw [sum_quarters]
    unfold quarter
    simp only [ld_up x15 0 (by omega), ld_up x15 1024 (by omega), ld_up x15 2048 (by omega), ld_up x15 3072 (by omega),
      ld_down x16 0 (by omega), ld_down x16 1024 (by omega), ld_down x16 2048 (by omega), ld_down x16 3072 (by omega), Nat.zero_add]
  have hh : ∀ k, k0_pay3 h (ix2 r k) = h (ix3 0 r k) := fun k => by pointwise [k0_pay3]
  rw [final_at]
  unfold fin
  simp only [hm, hh, hu, um_at, ld_mods mods 3072 (by omega), ld_mods mods 4096 (by omega), ld_mods mods 5120 (by omega)]

end Cert.ConfIdeal.Body

end
-- ==== Proof.ConfBody.lean ====
/-
  What one grid point of the conformer kernel leaves, read off the body's run: in the slot it writes, the convolution branch
  of its tile; in the result's block, the MLP and final norm of the rows in the other slot.
-/
module

public import proofs.«01_k».proof.Proof.ConfTile
public import proofs.«01_k».proof.Proof.Gen.ConfIdeal.Value
public import Idealize.ShloMosaic.Lib.WritesUnit

@[expose] public section

set_option maxRecDepth 16384
set_option maxHeartbeats 1000000

noncomputable section

namespace Cert.ConfIdeal.Body

open Cert.ConfIdeal Cert.ConfIdeal.Gen Cert.ConfSpec Idealize.ShloMosaic Idealize.ShloMosaic.TcCoe

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The modulated rows of the tile and its edges, as the body's vector. -/
abbrev ucVal (x0 : Vec Ideal S1x1x16x1024 .f32) (x1 : Vec Ideal S1x512x1024 .f32) (x2 : Vec Ideal S1x1x16x1024 .f32)
    (x3 : Vec Ideal S1x1x6144 .f32) (x5 : Vec Ideal S1x1024 .f32) : FVec Ideal S544x1024 .bf16 :=
  k0_pay6 (k0_pay5 x0) x1 x2 x5 (View.ld x3 (Rect.unit ![0, 0, 0] ![1, 1, 1024] inb_S1x1x6144_S1x1x1024_0_0_0))
    (View.ld x3 (Rect.unit ![0, 0, 1024] ![1, 1, 1024] inb_S1x1x6144_S1x1x1024_0_0_1024))

section
variable (I : BitVec 32) (x0 : Vec Ideal S1x1x16x1024 .f32) (x1 : Vec Ideal S1x512x1024 .f32) (x2 : Vec Ideal S1x1x16x1024 .f32)
    (x3 : Vec Ideal S1x1x6144 .f32) (x5 : Vec Ideal S1x1024 .f32) (x6 : Vec Ideal S1024x2048 .bf16) (x7 : Vec Ideal S1x2048 .f32)
    (x8 : Vec Ideal S31x1024 .f32) (x9 x10 x11 : Vec Ideal S1x1024 .f32) (x12 : Vec Ideal S1024x1024 .bf16) (x13 : Vec Ideal S1x1024 .f32)
    (r : Fin 512)

/-- The convolution of row `r` of the tile at grid point `I`. -/
def hmConv : Row := cvRow (fun p k => ucVal x0 x1 x2 x3 x5 (ix2 p k)) (fun p => maskOf I (ix2 p 0)) x6 x7 x8 x9 r

/-- Row `r` of the tile after the convolution branch. -/
def hmRow : Row := mid (fun k => x1 (ix3 0 r k)) (fun k => x3 (ix3 0 0 ⟨2048 + k.val, by omega⟩)) (hmConv I x0 x1 x2 x3 x5 x6 x7 x8 x9 r)
  (fun j => x10 (ix2 0 j)) (fun j => x11 (ix2 0 j)) (fun k j => x12 (ix2 k j)) (fun j => x13 (ix2 0 j))
end

theorem slot_read (i : grid0.Coords) : k0_off1 i = ![((i 0).val + 1) % 2, 0, 0] := by
  have h : ∀ s : Fin 65, (Scalar.indexCast (Scalar.remsi (Scalar.addi (BitVec.ofNat 32 s.val) 1#32) 2#32)).toNat = (s.val + 1) % 2 := by
    decide +kernel
  exact congrArg (fun q : ℕ => ![q, 0, 0]) (h (i 0))

theorem slot_written (i : grid0.Coords) : k0_off2 i = ![(i 0).val % 2, 0, 0] := by
  have h : ∀ s : Fin 65, (Scalar.indexCast (Scalar.remsi (BitVec.ofNat 32 s.val) 2#32)).toNat = s.val % 2 := by
    decide +kernel
  exact congrArg (fun q : ℕ => ![q, 0, 0]) (h (i 0))

theorem ld_slot (X : Vec Ideal S2x512x1024 .f32) (off : Fin 3 → ℕ) (s : Fin 2) (hoff : off = ![s.val, 0, 0]) (h) (r : Fin 512) (k : Fin 1024) :
    View.ld X (Rect.unit off ![1, 512, 1024] h) (ix3 0 r k) = X (ix3 s r k) := by
  subst hoff
  pointwise

section
variable (c : Dev nD) (i : grid0.Coords) (arg1 : Memref sig .tc .vmem S1x1x16x1024 .f32) (harg1 : arg1.IsWhole) (arg2 : Memref sig .tc
    .vmem S1x512x1024 .f32) (harg2 : arg2.IsWhole) (arg3 : Memref sig .tc .vmem S1x1x16x1024 .f32) (harg3 : arg3.IsWhole) (arg4 :
    Memref sig .tc .vmem S1x1x6144 .f32) (harg4 : arg4.IsWhole) (arg5 : Memref sig .tc .vmem S1x1x6144 .f32) (harg5 :
    arg5.IsWhole) (arg6 : Memref sig .tc .vmem S1x1024 .f32) (harg6 : arg6.IsWhole) (arg7 : Memref sig .tc .vmem S1024x2048 .bf16)
    (harg7 : arg7.IsWhole) (arg8 : Memref sig .tc .vmem S1x2048 .f32) (harg8 : arg8.IsWhole) (arg9 : Memref sig .tc .vmem S31x1024
    .f32) (harg9 : arg9.IsWhole) (arg10 : Memref sig .tc .vmem S1x1024 .f32) (harg10 : arg10.IsWhole) (arg11 : Memref sig .tc
    .vmem S1x1024 .f32) (harg11 : arg11.IsWhole) (arg12 : Memref sig .tc .vmem S1x1024 .f32) (harg12 : arg12.IsWhole) (arg13 :
    Memref sig .tc .vmem S1024x1024 .bf16) (harg13 : arg13.IsWhole) (arg14 : Memref sig .tc .vmem S1x1024 .f32) (harg14 :
    arg14.IsWhole) (arg15 : Memref sig .tc .vmem S1x1024 .f32) (harg15 : arg15.IsWhole) (arg16 : Memref sig .tc .vmem S1024x4096
    .bf16) (harg16 : arg16.IsWhole) (arg17 : Memref sig .tc .vmem S4096x1024 .bf16) (harg17 : arg17.IsWhole) (arg18 : Memref sig
    .tc .vmem S1x1024 .f32) (harg18 : arg18.IsWhole) (arg19 : Memref sig .tc .vmem S1x512x1024 .f32) (harg19 : arg19.IsWhole)
    (arg20 : Memref sig .tc .vmem S2x512x1024 .f32) (harg20 : arg20.IsWhole) (hc0 : ¬cond0_0 i)

theorem out_B (x0 : Vec Ideal S1x1x16x1024 .f32) (x1 : Vec Ideal S1x512x1024 .f32) (x2 : Vec Ideal S1x1x16x1024 .f32) (x3 : Vec Ideal
    S1x1x6144 .f32) (x4 : Vec Ideal S1x1x6144 .f32) (x5 : Vec Ideal S1x1024 .f32) (x6 : Vec Ideal S1024x2048 .bf16) (x7 : Vec
    Ideal S1x2048 .f32) (x8 : Vec Ideal S31x1024 .f32) (x9 : Vec Ideal S1x1024 .f32) (x10 : Vec Ideal S1x1024 .f32) (x11 : Vec
    Ideal S1x1024 .f32) (x12 : Vec Ideal S1024x1024 .bf16) (x13 : Vec Ideal S1x1024 .f32) (x14 : Vec Ideal S1x1024 .f32) (x15 :
    Vec Ideal S1024x4096 .bf16) (x16 : Vec Ideal S4096x1024 .bf16) (x17 : Vec Ideal S1x1024 .f32) (xs0 : Vec Ideal S2x512x1024
    .f32) (r : Fin 512) (n : Fin 1024) :
    out0_B_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0
      x0 x1 x2 x3 x4 x5 x6 x7 x8 x9 x10 x11 x12 x13 x14 x15 x16 x17 xs0 (ix3 0 r n)
      = fin (fun k => xs0 (ix3 ⟨((i 0).val + 1) % 2, Nat.mod_lt _ (by omega)⟩ r k)) (fun k => x14 (ix2 0 k))
          (fun k => x4 (ix3 0 0 ⟨3072 + k.val, by omega⟩)) (fun k => x4 (ix3 0 0 ⟨4096 + k.val, by omega⟩))
          (fun k => x4 (ix3 0 0 ⟨5120 + k.val, by omega⟩)) (fun k j => x15 (ix2 k j)) (fun j k => x16 (ix2 j k))
          (fun k => x17 (ix2 0 k)) n := by
  unfold out0_B_18
  rw [View.read_writes_eq_canon _ _ _ (cover0_B_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 x15 x16 x17 xs0)]
  unfold kernelRun0_B
  dsimp only
  rw [View.canon_unit_zero hz3]
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg20.read_unread]
  simp only [View.ld_unit_zero (S := S1x1x16x1024) hz4, View.ld_unit_zero (S := S1x512x1024) hz3, View.ld_unit_zero (S := S1x1024) hz2,
    View.ld_unit_zero (S := S1024x1024) hz2, mask_again]
  refine (out_tile _ _ x4 x15 x16 _ _ _ _ _ _ _ _ _ _ _ _ _ _ rfl rfl).trans ?_
  exact congrArg (fun q : Row => fin q _ _ _ _ _ _ _ n)
    (funext fun k => ld_slot xs0 _ ⟨((i 0).val + 1) % 2, Nat.mod_lt _ (by omega)⟩ (slot_read i) _ r k)

theorem slot_B (x0 : Vec Ideal S1x1x16x1024 .f32) (x1 : Vec Ideal S1x512x1024 .f32) (x2 : Vec Ideal S1x1x16x1024 .f32) (x3 : Vec Ideal
    S1x1x6144 .f32) (x4 : Vec Ideal S1x1x6144 .f32) (x5 : Vec Ideal S1x1024 .f32) (x6 : Vec Ideal S1024x2048 .bf16) (x7 : Vec
    Ideal S1x2048 .f32) (x8 : Vec Ideal S31x1024 .f32) (x9 : Vec Ideal S1x1024 .f32) (x10 : Vec Ideal S1x1024 .f32) (x11 : Vec
    Ideal S1x1024 .f32) (x12 : Vec Ideal S1024x1024 .bf16) (x13 : Vec Ideal S1x1024 .f32) (x14 : Vec Ideal S1x1024 .f32) (x15 :
    Vec Ideal S1024x4096 .bf16) (x16 : Vec Ideal S4096x1024 .bf16) (x17 : Vec Ideal S1x1024 .f32) (xs0 : Vec Ideal S2x512x1024
    .f32) (r : Fin 512) (n : Fin 1024) :
    sout0_B_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0
      x0 x1 x2 x3 x4 x5 x6 x7 x8 x9 x10 x11 x12 x13 x14 x15 x16 x17 xs0 (ix3 ⟨(i 0).val % 2, Nat.mod_lt _ (by omega)⟩ r n)
      = hmRow (BitVec.ofNat 32 (i 0).val) x0 x1 x2 x3 x5 x6 x7 x8 x9 x10 x11 x12 x13 r n := by
  unfold sout0_B_0
  unfold kernelRun0_B
  dsimp only
  refine (View.read_writes_cons_unit_of_mem _ _ _ _ _ _ (ix3 0 r n) (slot_written i) ?_).trans ?_
  · intro a
    fin_cases a
    · rfl
    · exact (Nat.zero_add _).symm
    · exact (Nat.zero_add _).symm
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg20.read_unread]
  simp only [View.ld_unit_zero (S := S1x1x16x1024) hz4, View.ld_unit_zero (S := S1x512x1024) hz3, View.ld_unit_zero (S := S1x1024) hz2,
    View.ld_unit_zero (S := S1024x1024) hz2, mask_again]
  refine (mid_tile (f := hmConv (BitVec.ofNat 32 (i 0).val) x0 x1 x2 x3 x5 x6 x7 x8 x9 r) _ _ _ _ _ _ _ _ ?_ ?_ ?_ ?_).trans ?_
  · intro q
    exact cv_block (ucVal x0 x1 x2 x3 x5) (maskOf (BitVec.ofNat 32 (i 0).val)) x6 x7 x8 x9 0 1024 (by omega) rfl _ _ _ _ _ _ _
      (fun p c => glu0_at _ _ _ _ _ _ p c) (conv0 _ _ _ (taps x8 0 (by omega)) _ r q)
  · intro q
    exact cv_block (ucVal x0 x1 x2 x3 x5) (maskOf (BitVec.ofNat 32 (i 0).val)) x6 x7 x8 x9 256 1280 (by omega) rfl _ _ _ _ _ _ _
      (fun p c => glu1_at _ _ _ _ _ _ p c) (conv1 _ _ _ _ _ (taps x8 256 (by omega)) _ r q)
  · intro q
    exact cv_block (ucVal x0 x1 x2 x3 x5) (maskOf (BitVec.ofNat 32 (i 0).val)) x6 x7 x8 x9 512 1536 (by omega) rfl _ _ _ _ _ _ _
      (fun p c => glu2_at _ _ _ _ _ _ p c) (conv2 _ (taps x8 512 (by omega)) _ r q)
  · intro q
    exact cv_block (ucVal x0 x1 x2 x3 x5) (maskOf (BitVec.ofNat 32 (i 0).val)) x6 x7 x8 x9 768 1792 (by omega) rfl _ _ _ _ _ _ _
      (fun p c => glu3_at _ _ _ _ _ _ p c) (conv3 _ _ _ _ (taps x8 768 (by omega)) _ r q)
  · unfold hmRow hmConv
    simp only [ld_mods x3 2048 (by omega)]

end

section
variable (c : Dev nD) (i : grid0.Coords) (arg1 : Memref sig .tc .vmem S1x1x16x1024 .f32) (harg1 : arg1.IsWhole) (arg2 : Memref sig .tc
    .vmem S1x512x1024 .f32) (harg2 : arg2.IsWhole) (arg3 : Memref sig .tc .vmem S1x1x16x1024 .f32) (harg3 : arg3.IsWhole) (arg4 :
    Memref sig .tc .vmem S1x1x6144 .f32) (harg4 : arg4.IsWhole) (arg5 : Memref sig .tc .vmem S1x1x6144 .f32) (harg5 :
    arg5.IsWhole) (arg6 : Memref sig .tc .vmem S1x1024 .f32) (harg6 : arg6.IsWhole) (arg7 : Memref sig .tc .vmem S1024x2048 .bf16)
    (harg7 : arg7.IsWhole) (arg8 : Memref sig .tc .vmem S1x2048 .f32) (harg8 : arg8.IsWhole) (arg9 : Memref sig .tc .vmem S31x1024
    .f32) (harg9 : arg9.IsWhole) (arg10 : Memref sig .tc .vmem S1x1024 .f32) (harg10 : arg10.IsWhole) (arg11 : Memref sig .tc
    .vmem S1x1024 .f32) (harg11 : arg11.IsWhole) (arg12 : Memref sig .tc .vmem S1x1024 .f32) (harg12 : arg12.IsWhole) (arg13 :
    Memref sig .tc .vmem S1024x1024 .bf16) (harg13 : arg13.IsWhole) (arg14 : Memref sig .tc .vmem S1x1024 .f32) (harg14 :
    arg14.IsWhole) (arg15 : Memref sig .tc .vmem S1x1024 .f32) (harg15 : arg15.IsWhole) (arg16 : Memref sig .tc .vmem S1024x4096
    .bf16) (harg16 : arg16.IsWhole) (arg17 : Memref sig .tc .vmem S4096x1024 .bf16) (harg17 : arg17.IsWhole) (arg18 : Memref sig
    .tc .vmem S1x1024 .f32) (harg18 : arg18.IsWhole) (arg19 : Memref sig .tc .vmem S1x512x1024 .f32) (harg19 : arg19.IsWhole)
    (arg20 : Memref sig .tc .vmem S2x512x1024 .f32) (harg20 : arg20.IsWhole) (hc0 : cond0_0 i)

theorem slot_A (x0 : Vec Ideal S1x1x16x1024 .f32) (x1 : Vec Ideal S1x512x1024 .f32) (x2 : Vec Ideal S1x1x16x1024 .f32) (x3 : Vec Ideal
    S1x1x6144 .f32) (x4 : Vec Ideal S1x1x6144 .f32) (x5 : Vec Ideal S1x1024 .f32) (x6 : Vec Ideal S1024x2048 .bf16) (x7 : Vec
    Ideal S1x2048 .f32) (x8 : Vec Ideal S31x1024 .f32) (x9 : Vec Ideal S1x1024 .f32) (x10 : Vec Ideal S1x1024 .f32) (x11 : Vec
    Ideal S1x1024 .f32) (x12 : Vec Ideal S1024x1024 .bf16) (x13 : Vec Ideal S1x1024 .f32) (x14 : Vec Ideal S1x1024 .f32) (x15 :
    Vec Ideal S1024x4096 .bf16) (x16 : Vec Ideal S4096x1024 .bf16) (x17 : Vec Ideal S1x1024 .f32) (r : Fin 512) (n : Fin 1024) :
    sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0
      x0 x1 x2 x3 x4 x5 x6 x7 x8 x9 x10 x11 x12 x13 x14 x15 x16 x17 (ix3 ⟨(i 0).val % 2, Nat.mod_lt _ (by omega)⟩ r n)
      = hmRow (BitVec.ofNat 32 (i 0).val) x0 x1 x2 x3 x5 x6 x7 x8 x9 x10 x11 x12 x13 r n := by
  unfold sout0_A_0
  unfold kernelRun0_A
  dsimp only
  refine (View.read_writes_cons_unit_of_mem _ _ _ _ _ _ (ix3 0 r n) (slot_written i) ?_).trans ?_
  · intro a
    fin_cases a
    · rfl
    · exact (Nat.zero_add _).symm
    · exact (Nat.zero_add _).symm
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread]
  simp only [View.ld_unit_zero (S := S1x1x16x1024) hz4, View.ld_unit_zero (S := S1x512x1024) hz3, View.ld_unit_zero (S := S1x1024) hz2,
    View.ld_unit_zero (S := S1024x1024) hz2, mask_again]
  refine (mid_tile (f := hmConv (BitVec.ofNat 32 (i 0).val) x0 x1 x2 x3 x5 x6 x7 x8 x9 r) _ _ _ _ _ _ _ _ ?_ ?_ ?_ ?_).trans ?_
  · intro q
    exact cv_block (ucVal x0 x1 x2 x3 x5) (maskOf (BitVec.ofNat 32 (i 0).val)) x6 x7 x8 x9 0 1024 (by omega) rfl _ _ _ _ _ _ _
      (fun p c => glu0_at _ _ _ _ _ _ p c) (conv0 _ _ _ (taps x8 0 (by omega)) _ r q)
  · intro q
    exact cv_block (ucVal x0 x1 x2 x3 x5) (maskOf (BitVec.ofNat 32 (i 0).val)) x6 x7 x8 x9 256 1280 (by omega) rfl _ _ _ _ _ _ _
      (fun p c => glu1_at _ _ _ _ _ _ p c) (conv1 _ _ _ _ _ (taps x8 256 (by omega)) _ r q)
  · intro q
    exact cv_block (ucVal x0 x1 x2 x3 x5) (maskOf (BitVec.ofNat 32 (i 0).val)) x6 x7 x8 x9 512 1536 (by omega) rfl _ _ _ _ _ _ _
      (fun p c => glu2_at _ _ _ _ _ _ p c) (conv2 _ (taps x8 512 (by omega)) _ r q)
  · intro q
    exact cv_block (ucVal x0 x1 x2 x3 x5) (maskOf (BitVec.ofNat 32 (i 0).val)) x6 x7 x8 x9 768 1792 (by omega) rfl _ _ _ _ _ _ _
      (fun p c => glu3_at _ _ _ _ _ _ p c) (conv3 _ _ _ _ (taps x8 768 (by omega)) _ r q)
  · unfold hmRow hmConv
    simp only [ld_mods x3 2048 (by omega)]

end

end Cert.ConfIdeal.Body

end
-- ==== Proof.ConfHost.lean ====
/-
  What the host operations before the conformer kernel leave in the arrays the kernel reads: the arguments' entries, sliced
  and reshaped. The weights' rounding to bf16 is the identity over the extended reals.
-/
module

public import proofs.«01_k».proof.Proof.Gen.ConfIdeal.Value
public import proofs.«01_k».proof.Proof.ConfSpec
public import Idealize.ShloMosaic.Lib.StableHlo.Run

@[expose] public section

set_option maxRecDepth 16384

noncomputable section

namespace Cert.ConfIdeal.Body

open Cert.ConfIdeal Cert.ConfIdeal.Gen Idealize.ShloMosaic Idealize.ShloMosaic.TcCoe

variable (m : (ℓ : Loc nD τ sig) → Buf (Elt Ideal) ℓ) (c : Dev nD)

theorem V20_at (b : Fin 4) (q : Fin 512) (s : Fin 16) (k : Fin 1024) : V m c main_v20 (ix4 b q s k)
    = (m ((c : Thread nD τ).loc main_arg0) : Vec Ideal S4x8192x1024 .f32) (ix3 b ⟨q.val * 16 + s.val, by omega⟩ k) := by
  unfold_abbrev_sides
  after_results
  pointwise

theorem V21_at (k : Fin 1024) : V m c main_v21 (ix2 0 k)
    = (m ((c : Thread nD τ).loc main_arg2) : Vec Ideal S2x1024 .f32) (ix2 1 k) := by
  unfold_abbrev_sides
  after_results
  pointwise

theorem V3_at (k : Fin 1024) (j : Fin 2048) : V m c main_v3 (ix2 k j)
    = (m ((c : Thread nD τ).loc main_arg3) : Vec Ideal S1x1024x2048 .f32) (ix3 0 k j) := by
  unfold_abbrev_sides
  after_results
  pointwise

theorem V22_at (k : Fin 2048) : V m c main_v22 (ix2 0 k)
    = (m ((c : Thread nD τ).loc main_arg4) : Vec Ideal S1x2048 .f32) (ix2 0 k) := by
  unfold_abbrev_sides
  after_results
  pointwise

theorem V5_at (t : Fin 31) (k : Fin 1024) : V m c main_v5 (ix2 t k)
    = (m ((c : Thread nD τ).loc main_arg5) : Vec Ideal S1x31x1024 .f32) (ix3 0 t k) := by
  unfold_abbrev_sides
  after_results
  pointwise

theorem V23_at (k : Fin 1024) : V m c main_v23 (ix2 0 k)
    = (m ((c : Thread nD τ).loc main_arg6) : Vec Ideal S1x1024 .f32) (ix2 0 k) := by
  unfold_abbrev_sides
  after_results
  pointwise

theorem V24_at (k : Fin 1024) : V m c main_v24 (ix2 0 k)
    = (m ((c : Thread nD τ).loc main_arg7) : Vec Ideal S1x1024 .f32) (ix2 0 k) := by
  unfold_abbrev_sides
  after_results
  pointwise

theorem V25_at (k : Fin 1024) : V m c main_v25 (ix2 0 k)
    = (m ((c : Thread nD τ).loc main_arg8) : Vec Ideal S1x1024 .f32) (ix2 0 k) := by
  unfold_abbrev_sides
  after_results
  pointwise

theorem V26_at (k : Fin 1024) : V m c main_v26 (ix2 0 k)
    = (m ((c : Thread nD τ).loc main_arg10) : Vec Ideal S1x1024 .f32) (ix2 0 k) := by
  unfold_abbrev_sides
  after_results
  pointwise

theorem V10_at (k j : Fin 1024) : V m c main_v10 (ix2 k j)
    = (m ((c : Thread nD τ).loc main_arg9) : Vec Ideal S1x1024x1024 .f32) (ix3 0 k j) := by
  unfold_abbrev_sides
  after_results
  pointwise

theorem V27_at (k : Fin 1024) : V m c main_v27 (ix2 0 k)
    = (m ((c : Thread nD τ).loc main_arg11) : Vec Ideal S2x1024 .f32) (ix2 1 k) := by
  unfold_abbrev_sides
  after_results
  pointwise

theorem V16_at (k : Fin 1024) (j : Fin 4096) : V m c main_v16 (ix2 k j)
    = (m ((c : Thread nD τ).loc main_arg12) : Vec Ideal S2x1024x4096 .f32) (ix3 1 k j) := by
  unfold_abbrev_sides
  after_results
  pointwise

theorem V19_at (j : Fin 4096) (k : Fin 1024) : V m c main_v19 (ix2 j k)
    = (m ((c : Thread nD τ).loc main_arg13) : Vec Ideal S2x4096x1024 .f32) (ix3 1 j k) := by
  unfold_abbrev_sides
  after_results
  pointwise

theorem V28_at (k : Fin 1024) : V m c main_v28 (ix2 0 k)
    = (m ((c : Thread nD τ).loc main_arg14) : Vec Ideal S1024 .f32) (ix1 k) := by
  unfold_abbrev_sides
  after_results
  pointwise

/-! ### The blocks the pipeline hands to the body -/

theorem zero_off {n : ℕ} {d f : Fin n → ℕ} (h : ∀ a, d a = 0) : (fun a => d a * f a) = fun _ => 0 :=
  funext fun a => by rw [h a, Nat.zero_mul]

variable (t : Fin cfg0.N)

theorem coord : ((grid0.coords t) 0).val = t.val := by
  have h : ∀ t : Fin cfg0.N, ((grid0.coords t) 0).val = t.val := by decide +kernel
  exact h t

theorem block5 : (iblk m c 5 t : Vec Ideal S1x1024 .f32) = V m c main_v21 :=
  Memref.read_access_unit_zero (Elt Ideal) main_v21 (zero_off fun a => by fin_cases a <;> rfl) _ _

theorem block6 : (iblk m c 6 t : Vec Ideal S1024x2048 .bf16) = V m c main_v3 :=
  Memref.read_access_unit_zero (Elt Ideal) main_v3 (zero_off fun a => by fin_cases a <;> rfl) _ _

theorem block7 : (iblk m c 7 t : Vec Ideal S1x2048 .f32) = V m c main_v22 :=
  Memref.read_access_unit_zero (Elt Ideal) main_v22 (zero_off fun a => by fin_cases a <;> rfl) _ _

theorem block8 : (iblk m c 8 t : Vec Ideal S31x1024 .f32) = V m c main_v5 :=
  Memref.read_access_unit_zero (Elt Ideal) main_v5 (zero_off fun a => by fin_cases a <;> rfl) _ _

theorem block9 : (iblk m c 9 t : Vec Ideal S1x1024 .f32) = V m c main_v23 :=
  Memref.read_access_unit_zero (Elt Ideal) main_v23 (zero_off fun a => by fin_cases a <;> rfl) _ _

theorem block10 : (iblk m c 10 t : Vec Ideal S1x1024 .f32) = V m c main_v24 :=
  Memref.read_access_unit_zero (Elt Ideal) main_v24 (zero_off fun a => by fin_cases a <;> rfl) _ _

theorem block11 : (iblk m c 11 t : Vec Ideal S1x1024 .f32) = V m c main_v25 :=
  Memref.read_access_unit_zero (Elt Ideal) main_v25 (zero_off fun a => by fin_cases a <;> rfl) _ _

theorem block12 : (iblk m c 12 t : Vec Ideal S1024x1024 .bf16) = V m c main_v10 :=
  Memref.read_access_unit_zero (Elt Ideal) main_v10 (zero_off fun a => by fin_cases a <;> rfl) _ _

theorem block13 : (iblk m c 13 t : Vec Ideal S1x1024 .f32) = V m c main_v26 :=
  Memref.read_access_unit_zero (Elt Ideal) main_v26 (zero_off fun a => by fin_cases a <;> rfl) _ _

theorem block14 : (iblk m c 14 t : Vec Ideal S1x1024 .f32) = V m c main_v27 :=
  Memref.read_access_unit_zero (Elt Ideal) main_v27 (zero_off fun a => by fin_cases a <;> rfl) _ _

theorem block15 : (iblk m c 15 t : Vec Ideal S1024x4096 .bf16) = V m c main_v16 :=
  Memref.read_access_unit_zero (Elt Ideal) main_v16 (zero_off fun a => by fin_cases a <;> rfl) _ _

theorem block16 : (iblk m c 16 t : Vec Ideal S4096x1024 .bf16) = V m c main_v19 :=
  Memref.read_access_unit_zero (Elt Ideal) main_v19 (zero_off fun a => by fin_cases a <;> rfl) _ _

theorem block17 : (iblk m c 17 t : Vec Ideal S1x1024 .f32) = V m c main_v28 :=
  Memref.read_access_unit_zero (Elt Ideal) main_v28 (zero_off fun a => by fin_cases a <;> rfl) _ _

theorem index0 : win0_0.index t 0 = min t.val 63 / 16 ∧ win0_0.index t 1 = min t.val 63 % 16 * 32 - 1 ∧ win0_0.index t 2 = 0 ∧ win0_0.index t 3 = 0 := by
  have h : ∀ t : Fin cfg0.N, win0_0.index t 0 = min t.val 63 / 16 ∧ win0_0.index t 1 = min t.val 63 % 16 * 32 - 1 ∧ win0_0.index t 2 = 0
    ∧ win0_0.index t 3 = 0 := by decide +kernel
  exact h t

theorem index1 : win0_1.index t 0 = min t.val 63 / 16 ∧ win0_1.index t 1 = min t.val 63 % 16 ∧ win0_1.index t 2 = 0 := by
  have h : ∀ t : Fin cfg0.N, win0_1.index t 0 = min t.val 63 / 16 ∧ win0_1.index t 1 = min t.val 63 % 16 ∧ win0_1.index t 2 = 0 := by decide +kernel
  exact h t

theorem index2 : win0_2.index t 0 = min t.val 63 / 16 ∧ win0_2.index t 1 = min (min t.val 63 % 16 * 32 + 32) 511 ∧ win0_2.index t 2 = 0
    ∧ win0_2.index t 3 = 0 := by
  have h : ∀ t : Fin cfg0.N, win0_2.index t 0 = min t.val 63 / 16 ∧ win0_2.index t 1 = min (min t.val 63 % 16 * 32 + 32) 511 ∧ win0_2.index t 2 = 0
    ∧ win0_2.index t 3 = 0 := by decide +kernel
  exact h t

theorem index3 : win0_3.index t 0 = 8 + min t.val 63 / 16 ∧ win0_3.index t 1 = 0 ∧ win0_3.index t 2 = 0 := by
  have h : ∀ t : Fin cfg0.N, win0_3.index t 0 = 8 + min t.val 63 / 16 ∧ win0_3.index t 1 = 0 ∧ win0_3.index t 2 = 0 := by decide +kernel
  exact h t

theorem index4 : win0_4.index t 0 = 8 + (t.val - 1) / 16 ∧ win0_4.index t 1 = 0 ∧ win0_4.index t 2 = 0 := by
  have h : ∀ t : Fin cfg0.N, win0_4.index t 0 = 8 + (t.val - 1) / 16 ∧ win0_4.index t 1 = 0 ∧ win0_4.index t 2 = 0 := by decide +kernel
  exact h t

theorem index18 : win0_18.index t 0 = (t.val - 1) / 16 ∧ win0_18.index t 1 = (t.val - 1) % 16 ∧ win0_18.index t 2 = 0 := by
  have h : ∀ t : Fin cfg0.N, win0_18.index t 0 = (t.val - 1) / 16 ∧ win0_18.index t 1 = (t.val - 1) % 16 ∧ win0_18.index t 2 = 0 := by decide +kernel
  exact h t

theorem lt65 : t.val < 65 := lt_of_lt_of_eq t.isLt (show cfg0.N = 65 from N_0)

theorem block0_at (s : Fin 16) (k : Fin 1024) : (iblk m c 0 t : Vec Ideal S1x1x16x1024 .f32) (ix4 0 0 s k)
    = (m ((c : Thread nD τ).loc main_arg0) : Vec Ideal S4x8192x1024 .f32)
        (ix3 ⟨min t.val 63 / 16, by omega⟩ ⟨(min t.val 63 % 16 * 32 - 1) * 16 + s.val, by omega⟩ k) := by
  rw [← V20_at m c ⟨min t.val 63 / 16, by omega⟩ ⟨min t.val 63 % 16 * 32 - 1, by omega⟩ s k]
  obtain ⟨h0, h1, h2, h3⟩ := index0 t
  unfold iblk
  rw [View.read_apply]
  show V m c main_v20 _ = V m c main_v20 _
  congr 1
  funext a
  apply Fin.ext
  match a with
  | ⟨0, _⟩ => show win0_0.index t 0 * 1 + 1 * 0 = min t.val 63 / 16; rw [h0]; omega
  | ⟨1, _⟩ => show win0_0.index t 1 * 1 + 1 * 0 = min t.val 63 % 16 * 32 - 1; rw [h1]; omega
  | ⟨2, _⟩ => show win0_0.index t 2 * 16 + 1 * s.val = s.val; rw [h2]; omega
  | ⟨3, _⟩ => show win0_0.index t 3 * 1024 + 1 * k.val = k.val; rw [h3]; omega

theorem block2_at (s : Fin 16) (k : Fin 1024) : (iblk m c 2 t : Vec Ideal S1x1x16x1024 .f32) (ix4 0 0 s k)
    = (m ((c : Thread nD τ).loc main_arg0) : Vec Ideal S4x8192x1024 .f32)
        (ix3 ⟨min t.val 63 / 16, by omega⟩ ⟨min (min t.val 63 % 16 * 32 + 32) 511 * 16 + s.val, by omega⟩ k) := by
  rw [← V20_at m c ⟨min t.val 63 / 16, by omega⟩ ⟨min (min t.val 63 % 16 * 32 + 32) 511, by omega⟩ s k]
  obtain ⟨h0, h1, h2, h3⟩ := index2 t
  unfold iblk
  rw [View.read_apply]
  show V m c main_v20 _ = V m c main_v20 _
  congr 1
  funext a
  apply Fin.ext
  match a with
  | ⟨0, _⟩ => show win0_2.index t 0 * 1 + 1 * 0 = min t.val 63 / 16; rw [h0]; omega
  | ⟨1, _⟩ => show win0_2.index t 1 * 1 + 1 * 0 = min (min t.val 63 % 16 * 32 + 32) 511; rw [h1]; omega
  | ⟨2, _⟩ => show win0_2.index t 2 * 16 + 1 * s.val = s.val; rw [h2]; omega
  | ⟨3, _⟩ => show win0_2.index t 3 * 1024 + 1 * k.val = k.val; rw [h3]; omega

theorem block1_at (r : Fin 512) (k : Fin 1024) : (iblk m c 1 t : Vec Ideal S1x512x1024 .f32) (ix3 0 r k)
    = (m ((c : Thread nD τ).loc main_arg0) : Vec Ideal S4x8192x1024 .f32)
        (ix3 ⟨min t.val 63 / 16, by omega⟩ ⟨min t.val 63 % 16 * 512 + r.val, by omega⟩ k) := by
  rw [← V_main_arg0 m c]
  obtain ⟨h0, h1, h2⟩ := index1 t
  unfold iblk
  rw [View.read_apply]
  show V m c main_arg0 _ = V m c main_arg0 _
  congr 1
  funext a
  apply Fin.ext
  match a with
  | ⟨0, _⟩ => show win0_1.index t 0 * 1 + 1 * 0 = min t.val 63 / 16; rw [h0]; omega
  | ⟨1, _⟩ => show win0_1.index t 1 * 512 + 1 * r.val = min t.val 63 % 16 * 512 + r.val; rw [h1]; omega
  | ⟨2, _⟩ => show win0_1.index t 2 * 1024 + 1 * k.val = k.val; rw [h2]; omega

theorem block3_at (k : Fin 6144) : (iblk m c 3 t : Vec Ideal S1x1x6144 .f32) (ix3 0 0 k)
    = (m ((c : Thread nD τ).loc main_arg1) : Vec Ideal S16x1x6144 .f32) (ix3 ⟨8 + min t.val 63 / 16, by omega⟩ 0 k) := by
  rw [← V_main_arg1 m c]
  obtain ⟨h0, h1, h2⟩ := index3 t
  unfold iblk
  rw [View.read_apply]
  show V m c main_arg1 _ = V m c main_arg1 _
  congr 1
  funext a
  apply Fin.ext
  match a with
  | ⟨0, _⟩ => show win0_3.index t 0 * 1 + 1 * 0 = 8 + min t.val 63 / 16; rw [h0]; omega
  | ⟨1, _⟩ => show win0_3.index t 1 * 1 + 1 * 0 = 0; rw [h1]
  | ⟨2, _⟩ => show win0_3.index t 2 * 6144 + 1 * k.val = k.val; rw [h2]; omega

theorem block4_at (k : Fin 6144) : (iblk m c 4 t : Vec Ideal S1x1x6144 .f32) (ix3 0 0 k)
    = (m ((c : Thread nD τ).loc main_arg1) : Vec Ideal S16x1x6144 .f32)
        (ix3 ⟨8 + (t.val - 1) / 16, by have := lt65 t; omega⟩ 0 k) := by
  rw [← V_main_arg1 m c]
  obtain ⟨h0, h1, h2⟩ := index4 t
  unfold iblk
  rw [View.read_apply]
  show V m c main_arg1 _ = V m c main_arg1 _
  congr 1
  funext a
  apply Fin.ext
  match a with
  | ⟨0, _⟩ => show win0_4.index t 0 * 1 + 1 * 0 = 8 + (t.val - 1) / 16; rw [h0]; omega
  | ⟨1, _⟩ => show win0_4.index t 1 * 1 + 1 * 0 = 0; rw [h1]
  | ⟨2, _⟩ => show win0_4.index t 2 * 6144 + 1 * k.val = k.val; rw [h2]; omega

end Cert.ConfIdeal.Body

end
-- ==== Proof.ConfArray.lean ====
/-
  The conformer kernel's array: at every token the layer's output. The slot written at a grid point holds that point's tile
  after the convolution branch, and the point after it turns the tile into the layer's output.
-/
module

public import proofs.«01_k».proof.Proof.ConfBody
public import proofs.«01_k».proof.Proof.ConfHost
public import Idealize.ShloMosaic.Lib.Pipeline.ValueKit

@[expose] public section

set_option maxRecDepth 16384

noncomputable section

namespace Cert.ConfIdeal.Body

open Cert.ConfIdeal Cert.ConfIdeal.Gen Cert.ConfSpec Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

/-- The layer's operands, read from the memory the kernel is launched on. -/
abbrev opnds : Args :=
  args (m ((c : Thread nD τ).loc main_arg0)) (m ((c : Thread nD τ).loc main_arg1)) (m ((c : Thread nD τ).loc main_arg2)) (m
    ((c : Thread nD τ).loc main_arg3)) (m ((c : Thread nD τ).loc main_arg4)) (m ((c : Thread nD τ).loc main_arg5)) (m ((c :
    Thread nD τ).loc main_arg6)) (m ((c : Thread nD τ).loc main_arg7)) (m ((c : Thread nD τ).loc main_arg8)) (m ((c : Thread
    nD τ).loc main_arg9)) (m ((c : Thread nD τ).loc main_arg10)) (m ((c : Thread nD τ).loc main_arg11)) (m ((c : Thread nD
    τ).loc main_arg12)) (m ((c : Thread nD τ).loc main_arg13)) (m ((c : Thread nD τ).loc main_arg14))

variable (t : Fin cfg0.N)

/-- The sample and the tile within it that point `t` takes through the convolution branch. -/
abbrev smp : Fin 4 := ⟨min t.val 63 / 16, by omega⟩
abbrev tok (r : Fin 512) : Fin 8192 := ⟨min t.val 63 % 16 * 512 + r.val, by omega⟩

theorem mods_at (j : Fin 6) (k : Fin 1024) :
    (iblk m c 3 t : Vec Ideal S1x1x6144 .f32) (ix3 0 0 ⟨1024 * j.val + k.val, by omega⟩) = (opnds m c).mods (smp t) j k :=
  block3_at m c t _

theorem uc_row (p : Fin 544) (k : Fin 1024) (h0 : 16 ≤ min t.val 63 % 16 * 512 + p.val) (h1 : min t.val 63 % 16 * 512 + p.val < 8208) :
    ucVal (iblk m c 0 t) (iblk m c 1 t) (iblk m c 2 t) (iblk m c 3 t) (iblk m c 5 t) (ix2 p k)
      = modulate ((opnds m c).h (smp t) ⟨min t.val 63 % 16 * 512 + p.val - 16, by omega⟩) (opnds m c).gmix
          ((opnds m c).mods (smp t) 0) ((opnds m c).mods (smp t) 1) k := by
  have hx : extRow (iblk m c 0 t) (iblk m c 1 t) (iblk m c 2 t) p = (opnds m c).h (smp t) ⟨min t.val 63 % 16 * 512 + p.val - 16, by omega⟩ := by
    funext k
    unfold extRow
    split
    · rename_i h
      refine (block0_at m c t ⟨p.val, h⟩ k).trans ?_
      exact congrArg (fun q => (m ((c : Thread nD τ).loc main_arg0) : Vec Ideal S4x8192x1024 .f32) (ix3 (smp t) q k))
        (Fin.ext (by dsimp only; omega))
    · split
      · rename_i h h'
        refine (block1_at m c t ⟨p.val - 16, h'⟩ k).trans ?_
        exact congrArg (fun q => (m ((c : Thread nD τ).loc main_arg0) : Vec Ideal S4x8192x1024 .f32) (ix3 (smp t) q k))
          (Fin.ext (by dsimp only; omega))
      · rename_i h h'
        refine (block2_at m c t ⟨p.val - 16 - 512, by omega⟩ k).trans ?_
        exact congrArg (fun q => (m ((c : Thread nD τ).loc main_arg0) : Vec Ideal S4x8192x1024 .f32) (ix3 (smp t) q k))
          (Fin.ext (by dsimp only; omega))
  have hg : (fun j => (iblk m c 5 t : Vec Ideal S1x1024 .f32) (ix2 0 j)) = (opnds m c).gmix := funext fun j => by
    rw [block5]
    exact V21_at m c j
  refine (uc_at _ _ _ _ _ _ p k).trans ?_
  rw [hx, hg]
  exact congrArg₂ (fun a b => modulate _ _ a b k)
    (funext fun j => (ld_mods (iblk m c 3 t) 0 (by omega) _ j).trans ((congrArg _ (congrArg (ix3 0 0) (Fin.ext (by
      show 0 + j.val = 1024 * 0 + j.val; omega)))).trans (mods_at m c t 0 j)))
    (funext fun j => (ld_mods (iblk m c 3 t) 1024 (by omega) _ j).trans (mods_at m c t 1 j))

theorem gl_eq (p : ℕ) (hp : p < 544) (n : Fin 1024) (h15 : 1 ≤ p) :
    gl (fun p k => ucVal (iblk m c 0 t) (iblk m c 1 t) (iblk m c 2 t) (iblk m c 3 t) (iblk m c 5 t) (ix2 p k))
        (fun p => maskOf (BitVec.ofNat 32 ((grid0.coords t) 0).val) (ix2 p 0)) (iblk m c 6 t) (iblk m c 7 t) p n
      = (opnds m c).padded (smp t) (min t.val 63 % 16 * 512 + p - 1) n := by
  unfold gl
  rw [dif_pos hp]
  dsimp only
  rw [mask_at ((grid0.coords t) 0) ⟨p, hp⟩, coord t]
  have h64 := lt65 t
  unfold Args.padded
  by_cases hv : 16 ≤ min t.val 63 % 16 * 512 + p ∧ min t.val 63 % 16 * 512 + p < 8208
  · rw [if_pos (by dsimp only; omega), dif_pos (by omega)]
    show glu _ _ _ _ _ = glu _ _ _ _ _
    rw [funext fun k => uc_row m c t ⟨p, hp⟩ k hv.1 hv.2, block6, block7]
    have e : (⟨min t.val 63 % 16 * 512 + p - 1 - 15, by omega⟩ : Fin 8192) = ⟨min t.val 63 % 16 * 512 + p - 16, by omega⟩ := Fin.ext (by dsimp only; omega)
    rw [e]
    exact congr (congr (congr (congrArg (glu _) (funext fun k => V3_at m c k _)) (V22_at m c _)) (funext fun k => V3_at m c k _))
      (V22_at m c _)
  · rw [if_neg (by dsimp only; omega), dif_neg (by omega)]
    rfl

theorem conv_eq (r : Fin 512) :
    hmConv (BitVec.ofNat 32 ((grid0.coords t) 0).val) (iblk m c 0 t) (iblk m c 1 t) (iblk m c 2 t) (iblk m c 3 t) (iblk m c 5 t) (iblk m c 6 t) (iblk m c 7 t) (iblk m c 8 t) (iblk m c 9 t) r
      = (opnds m c).conv (smp t) (tok t r) := by
  funext n
  unfold hmConv cvRow Args.conv
  have hb : (iblk m c 9 t : Vec Ideal S1x1024 .f32) (ix2 0 n) = (opnds m c).bd n := by rw [block9]; exact V23_at m c n
  have hw : ∀ k : Fin 31, (iblk m c 8 t : Vec Ideal S31x1024 .f32) (ix2 k n) = (opnds m c).wd k n := fun k => by
    rw [block8]; exact V5_at m c k n
  rw [hb]
  with_reducible refine congrArg₂ (· + ·) (Finset.sum_congr rfl fun k _ => ?_) rfl
  with_reducible refine congrArg₂ (· * ·) (hw k) ?_
  refine (gl_eq m c t _ (by omega) n (by omega)).trans ?_
  exact congrArg (fun q => (opnds m c).padded (smp t) q n) (by dsimp only; omega)

theorem mid_eq (r : Fin 512) (n : Fin 1024) :
    hmRow (BitVec.ofNat 32 ((grid0.coords t) 0).val) (iblk m c 0 t) (iblk m c 1 t) (iblk m c 2 t) (iblk m c 3 t)
        (iblk m c 5 t) (iblk m c 6 t) (iblk m c 7 t) (iblk m c 8 t) (iblk m c 9 t) (iblk m c 10 t) (iblk m c 11 t) (iblk m c 12 t) (iblk m c 13 t) r n
      = (opnds m c).hmid (smp t) (tok t r) n := by
  unfold hmRow Args.hmid
  rw [conv_eq]
  have e1 : (fun k => (iblk m c 1 t : Vec Ideal S1x512x1024 .f32) (ix3 0 r k)) = (opnds m c).h (smp t) (tok t r) :=
    funext fun k => block1_at m c t r k
  have e2 : (fun k : Fin 1024 => (iblk m c 3 t : Vec Ideal S1x1x6144 .f32) (ix3 0 0 ⟨2048 + k.val, by omega⟩)) = (opnds m c).mods (smp t) 2 :=
    funext fun k => mods_at m c t 2 k
  have e3 : (fun k => (iblk m c 10 t : Vec Ideal S1x1024 .f32) (ix2 0 k)) = (opnds m c).lng := funext fun k => by
    rw [block10]; exact V24_at m c k
  have e4 : (fun k => (iblk m c 11 t : Vec Ideal S1x1024 .f32) (ix2 0 k)) = (opnds m c).lnb := funext fun k => by
    rw [block11]; exact V25_at m c k
  have e5 : (fun k j => (iblk m c 12 t : Vec Ideal S1024x1024 .bf16) (ix2 k j)) = (opnds m c).w2 := funext fun k => funext fun j => by
    rw [block12]; exact V10_at m c k j
  have e6 : (fun k => (iblk m c 13 t : Vec Ideal S1x1024 .f32) (ix2 0 k)) = (opnds m c).b2 := funext fun k => by
    rw [block13]; exact V26_at m c k
  rw [e1, e2, e3, e4, e5, e6]

/-- After point `t` the slot it writes holds its tile after the convolution branch. -/
theorem slot_eq (r : Fin 512) (n : Fin 1024) :
    (outsAt0 m c t.val t.isLt).2 (ix3 ⟨t.val % 2, Nat.mod_lt _ (by omega)⟩ r n) = (opnds m c).hmid (smp t) (tok t r) n := by
  have e : (⟨t.val % 2, Nat.mod_lt _ (by omega)⟩ : Fin 2) = ⟨((grid0.coords t) 0).val % 2, Nat.mod_lt _ (by omega)⟩ := Fin.ext (by rw [coord])
  rw [e]
  by_cases h0 : t.val % 65 = 0
  · rw [outsAt0_A m c t h0]
    dsimp only
    rw [slot_A]
    exact mid_eq m c t r n
  · rw [outsAt0_B m c t h0]
    dsimp only
    rw [slot_B]
    exact mid_eq m c t r n

/-- The sample and the token of row `r` of the block written back after point `t`. -/
abbrev smpO : Fin 4 := ⟨(t.val - 1) / 16, by have := lt65 t; omega⟩
abbrev tokO (r : Fin 512) : Fin 8192 := ⟨(t.val - 1) % 16 * 512 + r.val, by omega⟩

/-- After a point other than the first the result's block holds the layer's output on the tile of the point before. -/
theorem out_eq (ht : t.val ≠ 0) (r : Fin 512) (n : Fin 1024) :
    (outsAt0 m c t.val t.isLt).1 (ix3 0 r n) = (opnds m c).out (smpO t) (tokO t r) n := by
  have h64 := lt65 t
  have h0 : ¬ t.val % 65 = 0 := by omega
  rw [outsAt0_B m c t h0]
  dsimp only
  rw [out_B]
  have hs : (fun k => (outsAt0 m c (t.val - 1) (Nat.lt_of_le_of_lt (Nat.sub_le _ _) t.isLt)).2
      (ix3 ⟨(((grid0.coords t) 0).val + 1) % 2, Nat.mod_lt _ (by omega)⟩ r k)) = (opnds m c).hmid (smpO t) (tokO t r) := funext fun k => by
    have e : (⟨(((grid0.coords t) 0).val + 1) % 2, Nat.mod_lt _ (by omega)⟩ : Fin 2) = ⟨(t.val - 1) % 2, Nat.mod_lt _ (by omega)⟩ :=
      Fin.ext (by rw [coord]; dsimp only; omega)
    rw [e]
    refine (slot_eq m c ⟨t.val - 1, Nat.lt_of_le_of_lt (Nat.sub_le _ _) t.isLt⟩ r k).trans ?_
    have a : smp (⟨t.val - 1, Nat.lt_of_le_of_lt (Nat.sub_le _ _) t.isLt⟩ : Fin cfg0.N) = smpO t := Fin.ext (by dsimp only; omega)
    have b : tok (⟨t.val - 1, Nat.lt_of_le_of_lt (Nat.sub_le _ _) t.isLt⟩ : Fin cfg0.N) r = tokO t r := Fin.ext (by dsimp only; omega)
    rw [a, b]
  have e1 : (fun k => (iblk m c 14 t : Vec Ideal S1x1024 .f32) (ix2 0 k)) = (opnds m c).gmlp := funext fun k => by
    rw [block14]; exact V27_at m c k
  have em : ∀ (j : Fin 6), (fun k : Fin 1024 => (iblk m c 4 t : Vec Ideal S1x1x6144 .f32) (ix3 0 0 ⟨1024 * j.val + k.val, by omega⟩))
      = (opnds m c).mods (smpO t) j := fun j => funext fun k => block4_at m c t _
  have e5 : (fun k j => (iblk m c 15 t : Vec Ideal S1024x4096 .bf16) (ix2 k j)) = (opnds m c).mw1 := funext fun k => funext fun j => by
    rw [block15]; exact V16_at m c k j
  have e6 : (fun j k => (iblk m c 16 t : Vec Ideal S4096x1024 .bf16) (ix2 j k)) = (opnds m c).mw2 := funext fun j => funext fun k => by
    rw [block16]; exact V19_at m c j k
  have e7 : (fun k => (iblk m c 17 t : Vec Ideal S1x1024 .f32) (ix2 0 k)) = (opnds m c).gfin := funext fun k => by
    rw [block17]; exact V28_at m c k
  unfold Args.out
  rw [← em 3, ← em 4, ← em 5, ← hs, ← e1, ← e5, ← e6, ← e7]
  rfl

/-- The result array: the layer's output at every token. -/
def result : Buf (Elt Ideal) ((c : Thread nD τ).loc main_v29) :=
  fun i : S4x8192x1024.Idx => (opnds m c).out (i 0) (i 1) (i 2)

theorem flush_pos (h : (cfg0.win 18).flush t = true) : t.val ≠ 0 := by
  have g : ∀ t : Fin cfg0.N, (cfg0.win 18).flush t = true → t.val ≠ 0 := by decide +kernel
  exact g t h

theorem final : (dats m 0 c).arrAt 18 cfg0.N = result m c := by
  refine (dats m 0 c).arrAt_eq_of_covers 18 (result m c) (by decide +kernel) fun t hf y => ?_
  blk_simp
  have ht := flush_pos t hf
  obtain ⟨h0, h1, h2⟩ := index18 t
  have hy : (y : S1x512x1024.Idx) = ix3 0 (y 1) (y 2) := by
    funext a
    match a with
    | ⟨0, _⟩ => exact Subsingleton.elim (α := Fin 1) _ _
    | ⟨1, _⟩ => rfl
    | ⟨2, _⟩ => rfl
  have hl : (dats m 0 c).after 18 t y = (opnds m c).out (smpO t) (tokO t (y 1)) (y 2) := by
    exact ((congrFun (after0_18 m c t) y).trans (congrArg (outsAt0 m c t.val t.isLt).1 hy)).trans (out_eq m c t ht (y 1) (y 2))
  have e0 : (((win0_18.blk t).view.emb y : S4x8192x1024.Idx) 0) = smpO t := Fin.ext (by
    show win0_18.index t 0 * 1 + 1 * (y 0).val = (t.val - 1) / 16
    have : (y 0).val < 1 := (y 0).isLt
    omega)
  have e1 : (((win0_18.blk t).view.emb y : S4x8192x1024.Idx) 1) = tokO t (y 1) := Fin.ext (by
    show win0_18.index t 1 * 512 + 1 * (y 1).val = (t.val - 1) % 16 * 512 + (y 1).val
    omega)
  have e2 : (((win0_18.blk t).view.emb y : S4x8192x1024.Idx) 2) = (y 2 : Fin 1024) := Fin.ext (by
    show win0_18.index t 2 * 1024 + 1 * (y 2).val = (y 2).val
    omega)
  unfold result
  rw [hl, e0, e1, e2]

/-- The kernel's run: its result is the layer's output, and it leaves its operands as they were. -/
theorem run : θ_run defs (onTc (τ := τ) (main (F := Ideal))) ⟨m, fun _ => 0, ρ⟩ fun r => ∀ c : Dev nD,
    r.2.mem ((c : Thread nD τ).loc main_v29) = result m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)
    ∧ r.2.mem ((c : Thread nD τ).loc main_arg9) = m ((c : Thread nD τ).loc main_arg9)
    ∧ r.2.mem ((c : Thread nD τ).loc main_arg10) = m ((c : Thread nD τ).loc main_arg10)
    ∧ r.2.mem ((c : Thread nD τ).loc main_arg11) = m ((c : Thread nD τ).loc main_arg11)
    ∧ r.2.mem ((c : Thread nD τ).loc main_arg12) = m ((c : Thread nD τ).loc main_arg12)
    ∧ r.2.mem ((c : Thread nD τ).loc main_arg13) = m ((c : Thread nD τ).loc main_arg13)
    ∧ r.2.mem ((c : Thread nD τ).loc main_arg14) = m ((c : Thread nD τ).loc main_arg14) :=
  (θ_run defs _ _).mono (fun _ h c => ⟨(h c).1.trans (final m c), (h c).2⟩) (Value.run_blocks m ρ)

end Cert.ConfIdeal.Body

end
-- ==== Proof.ConfRef.lean ====
/-
  The reference's value at an index, stage by stage, as the row functions of ConfSpec.
-/
module

public import proofs.«01_k».proof.Proof.Gen.ConfRefIdeal.Read
public import proofs.«01_k».proof.Proof.ConfSpec
import Idealize.ShloMosaic.Lib.Pointwise

@[expose] public section

set_option maxRecDepth 16384

noncomputable section

namespace Cert.ConfRefIdeal.Value

open Cert.ConfRefIdeal Cert.ConfRefIdeal.Gen Cert.ConfRefIdeal.Read Cert.ConfSpec Idealize.ShloMosaic Idealize.ShloMosaic.TcCoe

variable (x0 : Vec Ideal S4x8192x1024 .f32) (x1 : Vec Ideal S16x1x6144 .f32) (x2 : Vec Ideal S2x1024 .f32)
    (x3 : Vec Ideal S1x1024x2048 .f32) (x4 : Vec Ideal S1x2048 .f32) (x5 : Vec Ideal S1x31x1024 .f32)
    (x6 x7 x8 : Vec Ideal S1x1024 .f32) (x9 : Vec Ideal S1x1024x1024 .f32) (x10 : Vec Ideal S1x1024 .f32)
    (x11 : Vec Ideal S2x1024 .f32) (x12 : Vec Ideal S2x1024x4096 .f32) (x13 : Vec Ideal S2x4096x1024 .f32)
    (x14 : Vec Ideal S1024 .f32) (b : Fin 4) (l : Fin 8192)
    (A : Args) (hA : A = args x0 x1 x2 x3 x4 x5 x6 x7 x8 x9 x10 x11 x12 x13 x14)

include hA

theorem mod1_at (k : Fin 1024) : val_main_v27 (F := Ideal) x0 x1 x2 (ix3 b l k) = modulate (A.h b l) A.gmix (A.mods b 0) (A.mods b 1) k := by
  pointwise [val_main_v0, val_main_v1, val_main_v2, val_main_v7, val_main_v8, val_main_v9, val_main_v10, val_main_v11,
      val_main_v12, val_main_v13, val_main_v14, val_main_v15, val_main_v16, val_main_v17, val_main_v18, val_main_v19, val_main_v20,
      val_main_v21, val_main_v22, val_main_v23, val_main_v24, val_main_v25, val_main_v26, val_main_v27, val_main_cst,
      val_main_cst_0, val_main_cst_1, val_main_cst_2]
  subst hA
  simp only [modulate, rms, mean, eps, args, mul_assoc, Fin.val_zero, Nat.mul_zero, Nat.zero_add]
  rfl

theorem gated_at (n : Fin 1024) : val_main_v48 (F := Ideal) x0 x1 x2 x3 x4 (ix3 b l n) = A.gated b l n := by
  have hu : ∀ k, val_main_v27 (F := Ideal) x0 x1 x2 (ix3 b l k) = _ := mod1_at x0 x1 x2 x3 x4 x5 x6 x7 x8 x9 x10 x11 x12 x13 x14 b l A hA
  pointwise [val_main_v28, val_main_v29, val_main_v36, val_main_v37, val_main_v38, val_main_v39, val_main_v40, val_main_v41,
      val_main_v42, val_main_v43, val_main_v44, val_main_v45, val_main_v46, val_main_v47, val_main_v48, val_main_cst_3,
      val_main_cst_4, hu]
  subst hA
  rfl

theorem padded_at (p : Fin 8222) (n : Fin 1024) : val_main_v49 (F := Ideal) x0 x1 x2 x3 x4 (ix3 b p n) = A.padded b p n := by
  have hu : ∀ l k, val_main_v48 (F := Ideal) x0 x1 x2 x3 x4 (ix3 b l k) = A.gated b l k := fun l => gated_at x0 x1 x2 x3 x4 x5 x6 x7 x8 x9 x10 x11 x12 x13 x14 b l A hA
  pointwise [val_main_v49, val_main_call0_v0, val_main_c, hu]
  unfold Args.padded
  split
  · rfl
  · show ((((0 : BitVec 32).toInt : ℤ) : ℝ) : EReal) = 0
    rw [show (0 : BitVec 32).toInt = 0 from rfl]
    norm_num

theorem conv_at (n : Fin 1024) : val_main_v268 (F := Ideal) x0 x1 x2 x3 x4 x5 x6 (ix3 b l n) = A.conv b l n := by
  have hu : ∀ (p : Fin 8222), val_main_v49 (F := Ideal) x0 x1 x2 x3 x4 (ix3 b p n) = A.padded b p n := fun p => padded_at x0 x1 x2 x3 x4 x5 x6 x7 x8 x9 x10 x11 x12 x13 x14 b A hA p n
  pointwise [val_main_v30, val_main_v31, val_main_v50, val_main_v51, val_main_v52, val_main_v53, val_main_v54, val_main_v55,
      val_main_v56, val_main_v57, val_main_v58, val_main_v59, val_main_v60, val_main_v61, val_main_v62, val_main_v63, val_main_v64,
      val_main_v65, val_main_v66, val_main_v67, val_main_v68, val_main_v69, val_main_v70, val_main_v71, val_main_v72, val_main_v73,
      val_main_v74, val_main_v75, val_main_v76, val_main_v77, val_main_v78, val_main_v79, val_main_v80, val_main_v81, val_main_v82,
      val_main_v83, val_main_v84, val_main_v85, val_main_v86, val_main_v87, val_main_v88, val_main_v89, val_main_v90, val_main_v91,
      val_main_v92, val_main_v93, val_main_v94, val_main_v95, val_main_v96, val_main_v97, val_main_v98, val_main_v99, val_main_v100,
      val_main_v101, val_main_v102, val_main_v103, val_main_v104, val_main_v105, val_main_v106, val_main_v107, val_main_v108,
      val_main_v109, val_main_v110, val_main_v111, val_main_v112, val_main_v113, val_main_v114, val_main_v115, val_main_v116,
      val_main_v117, val_main_v118, val_main_v119, val_main_v120, val_main_v121, val_main_v122, val_main_v123, val_main_v124,
      val_main_v125, val_main_v126, val_main_v127, val_main_v128, val_main_v129, val_main_v130, val_main_v131, val_main_v132,
      val_main_v133, val_main_v134, val_main_v135, val_main_v136, val_main_v137, val_main_v138, val_main_v139, val_main_v140,
      val_main_v141, val_main_v142, val_main_v143, val_main_v144, val_main_v145, val_main_v146, val_main_v147, val_main_v148,
      val_main_v149, val_main_v150, val_main_v151, val_main_v152, val_main_v153, val_main_v154, val_main_v155, val_main_v156,
      val_main_v157, val_main_v158, val_main_v159, val_main_v160, val_main_v161, val_main_v162, val_main_v163, val_main_v164,
      val_main_v165, val_main_v166, val_main_v167, val_main_v168, val_main_v169, val_main_v170, val_main_v171, val_main_v172,
      val_main_v173, val_main_v174, val_main_v175, val_main_v176, val_main_v177, val_main_v178, val_main_v179, val_main_v180,
      val_main_v181, val_main_v182, val_main_v183, val_main_v184, val_main_v185, val_main_v186, val_main_v187, val_main_v188,
      val_main_v189, val_main_v190, val_main_v191, val_main_v192, val_main_v193, val_main_v194, val_main_v195, val_main_v196,
      val_main_v197, val_main_v198, val_main_v199, val_main_v200, val_main_v201, val_main_v202, val_main_v203, val_main_v204,
      val_main_v205, val_main_v206, val_main_v207, val_main_v208, val_main_v209, val_main_v210, val_main_v211, val_main_v212,
      val_main_v213, val_main_v214, val_main_v215, val_main_v216, val_main_v217, val_main_v218, val_main_v219, val_main_v220,
      val_main_v221, val_main_v222, val_main_v223, val_main_v224, val_main_v225, val_main_v226, val_main_v227, val_main_v228,
      val_main_v229, val_main_v230, val_main_v231, val_main_v232, val_main_v233, val_main_v234, val_main_v235, val_main_v236,
      val_main_v237, val_main_v238, val_main_v239, val_main_v240, val_main_v241, val_main_v242, val_main_v243, val_main_v244,
      val_main_v245, val_main_v246, val_main_v247, val_main_v248, val_main_v249, val_main_v250, val_main_v251, val_main_v252,
      val_main_v253, val_main_v254, val_main_v255, val_main_v256, val_main_v257, val_main_v258, val_main_v259, val_main_v260,
      val_main_v261, val_main_v262, val_main_v263, val_main_v264, val_main_v265, val_main_v266, val_main_v267, val_main_v268, hu]
  have e0 : A.padded b l n = A.padded b ((0 : Fin 31).val + l.val) n := by rw [show (0 : Fin 31).val + l.val = l.val from Nat.zero_add _]
  have e : ∀ t : Fin 31, A.wd t n * A.padded b (l.val + t.val) n = A.padded b (t.val + l.val) n * x5 (ix3 0 t n) := fun t => by
    rw [Nat.add_comm l.val, mul_comm]; subst hA; rfl
  have eb : A.bd n = x6 (ix2 0 n) := by subst hA; rfl
  rw [e0]
  unfold Args.conv
  rw [eb, Finset.sum_congr rfl fun t _ => e t, ← sum_31]
  rfl

theorem norm_at (n : Fin 1024) : val_main_v290 (F := Ideal) x0 x1 x2 x3 x4 x5 x6 x7 x8 (ix3 b l n) = layernorm (A.conv b l) A.lng A.lnb n := by
  have hu : ∀ n, val_main_v268 (F := Ideal) x0 x1 x2 x3 x4 x5 x6 (ix3 b l n) = A.conv b l n := conv_at x0 x1 x2 x3 x4 x5 x6 x7 x8 x9 x10 x11 x12 x13 x14 b l A hA
  pointwise [val_main_v32, val_main_v33, val_main_v269, val_main_v270, val_main_v271, val_main_v272, val_main_v273,
      val_main_v274, val_main_v275, val_main_v276, val_main_v277, val_main_v278, val_main_v279, val_main_v280, val_main_v281,
      val_main_v282, val_main_v283, val_main_v284, val_main_v285, val_main_v286, val_main_v287, val_main_v288, val_main_v289,
      val_main_v290, val_main_cst_5, val_main_cst_6, val_main_cst_7, val_main_cst_8, val_main_cst_9, hu]
  subst hA
  rfl

theorem hmid_at (n : Fin 1024) : val_main_v298 (F := Ideal) x0 x1 x2 x3 x4 x5 x6 x7 x8 x9 x10 (ix3 b l n) = A.hmid b l n := by
  have hu : ∀ n, val_main_v290 (F := Ideal) x0 x1 x2 x3 x4 x5 x6 x7 x8 (ix3 b l n) = _ := norm_at x0 x1 x2 x3 x4 x5 x6 x7 x8 x9 x10 x11 x12 x13 x14 b l A hA
  pointwise [val_main_v0, val_main_v3, val_main_v34, val_main_v35, val_main_v291, val_main_v292, val_main_v293, val_main_v294,
      val_main_v295, val_main_v296, val_main_v297, val_main_v298, val_main_call1_v0, val_main_call1_v1, val_main_call1_cst,
      val_main_call1_v2, val_main_call1_v3, val_main_call1_cst_0, val_main_call1_v4, val_main_call1_v5, hu]
  subst hA
  rfl

theorem mod2_at (n : Fin 1024) : val_main_v319 (F := Ideal) x0 x1 x2 x3 x4 x5 x6 x7 x8 x9 x10 x11 (ix3 b l n) = modulate (A.hmid b l) A.gmlp (A.mods b 3) (A.mods b 4) n := by
  have hu : ∀ n, val_main_v298 (F := Ideal) x0 x1 x2 x3 x4 x5 x6 x7 x8 x9 x10 (ix3 b l n) = _ := hmid_at x0 x1 x2 x3 x4 x5 x6 x7 x8 x9 x10 x11 x12 x13 x14 b l A hA
  pointwise [val_main_v0, val_main_v4, val_main_v5, val_main_v299, val_main_v300, val_main_v301, val_main_v302, val_main_v303,
      val_main_v304, val_main_v305, val_main_v306, val_main_v307, val_main_v308, val_main_v309, val_main_v310, val_main_v311,
      val_main_v312, val_main_v313, val_main_v314, val_main_v315, val_main_v316, val_main_v317, val_main_v318, val_main_v319,
      val_main_cst_10, val_main_cst_11, val_main_cst_12, val_main_cst_13, hu]
  simp only [modulate, rms, mean, eps, mul_assoc]
  subst hA
  rfl

theorem sum_at (n : Fin 1024) : val_main_v330 (F := Ideal) x0 x1 x2 x3 x4 x5 x6 x7 x8 x9 x10 x11 x12 x13 (ix3 b l n)
    = A.hmid b l n + A.mods b 5 n * mlp (modulate (A.hmid b l) A.gmlp (A.mods b 3) (A.mods b 4)) A.mw1 A.mw2 n := by
  have hu : ∀ n, val_main_v298 (F := Ideal) x0 x1 x2 x3 x4 x5 x6 x7 x8 x9 x10 (ix3 b l n) = _ := hmid_at x0 x1 x2 x3 x4 x5 x6 x7 x8 x9 x10 x11 x12 x13 x14 b l A hA
  have hm : ∀ n, val_main_v319 (F := Ideal) x0 x1 x2 x3 x4 x5 x6 x7 x8 x9 x10 x11 (ix3 b l n) = _ := mod2_at x0 x1 x2 x3 x4 x5 x6 x7 x8 x9 x10 x11 x12 x13 x14 b l A hA
  pointwise [val_main_v0, val_main_v6, val_main_v320, val_main_v321, val_main_v322, val_main_v323, val_main_v324, val_main_v325,
      val_main_v326, val_main_v327, val_main_v328, val_main_v329, val_main_v330, val_main_call2_cst, val_main_call2_v0, hu, hm]
  subst hA
  rfl

theorem out_at (n : Fin 1024) : val_main_v343 (F := Ideal) x0 x1 x2 x3 x4 x5 x6 x7 x8 x9 x10 x11 x12 x13 x14 (ix3 b l n) = A.out b l n := by
  have hu : ∀ n, val_main_v330 (F := Ideal) x0 x1 x2 x3 x4 x5 x6 x7 x8 x9 x10 x11 x12 x13 (ix3 b l n) = _ := sum_at x0 x1 x2 x3 x4 x5 x6 x7 x8 x9 x10 x11 x12 x13 x14 b l A hA
  pointwise [val_main_v331, val_main_v332, val_main_v333, val_main_v334, val_main_v335, val_main_v336, val_main_v337,
      val_main_v338, val_main_v339, val_main_v340, val_main_v341, val_main_v342, val_main_v343, val_main_cst_14, val_main_cst_15,
      val_main_cst_16, hu]
  subst hA
  rfl

end Cert.ConfRefIdeal.Value

end
-- ==== Proof.ConfClaim.lean ====
/-
  The conformer claim: the kernel and the reference leave the same array.
-/
module

public import proofs.«01_k».proof.Defs
public import proofs.«01_k».proof.Proof.ConfArray
public import proofs.«01_k».proof.Proof.ConfRef

@[expose] public section

set_option maxRecDepth 16384

noncomputable section

namespace Cert.Proof.ConfClaim

open Cert.ConfSpec Idealize.ShloMosaic Idealize.ShloMosaic.TcCoe Idealize.SL.Sem Idealize.ShloMosaic.StableHlo

/-- The reference's array is the layer's output, at operands equal to the kernel's. -/
theorem ref_eq (m : (ℓ : Loc Cert.ConfIdeal.nD Cert.ConfIdeal.τ Cert.ConfIdeal.sig) → Buf (Elt Ideal) ℓ) (c : Dev Cert.ConfIdeal.nD)
    (m' : (ℓ : Loc Cert.ConfRefIdeal.nD Cert.ConfRefIdeal.τ Cert.ConfRefIdeal.sig) → Buf (Elt Ideal) ℓ)
    (h : m' ((c.tc : Thread Cert.ConfRefIdeal.nD Cert.ConfRefIdeal.τ).loc Cert.ConfRefIdeal.main_arg0) = m ((c.tc : Thread Cert.ConfIdeal.nD Cert.ConfIdeal.τ).loc Cert.ConfIdeal.main_arg0)
      ∧ m' ((c.tc : Thread Cert.ConfRefIdeal.nD Cert.ConfRefIdeal.τ).loc Cert.ConfRefIdeal.main_arg1) = m ((c.tc : Thread Cert.ConfIdeal.nD Cert.ConfIdeal.τ).loc Cert.ConfIdeal.main_arg1)
      ∧ m' ((c.tc : Thread Cert.ConfRefIdeal.nD Cert.ConfRefIdeal.τ).loc Cert.ConfRefIdeal.main_arg2) = m ((c.tc : Thread Cert.ConfIdeal.nD Cert.ConfIdeal.τ).loc Cert.ConfIdeal.main_arg2)
      ∧ m' ((c.tc : Thread Cert.ConfRefIdeal.nD Cert.ConfRefIdeal.τ).loc Cert.ConfRefIdeal.main_arg3) = m ((c.tc : Thread Cert.ConfIdeal.nD Cert.ConfIdeal.τ).loc Cert.ConfIdeal.main_arg3)
      ∧ m' ((c.tc : Thread Cert.ConfRefIdeal.nD Cert.ConfRefIdeal.τ).loc Cert.ConfRefIdeal.main_arg4) = m ((c.tc : Thread Cert.ConfIdeal.nD Cert.ConfIdeal.τ).loc Cert.ConfIdeal.main_arg4)
      ∧ m' ((c.tc : Thread Cert.ConfRefIdeal.nD Cert.ConfRefIdeal.τ).loc Cert.ConfRefIdeal.main_arg5) = m ((c.tc : Thread Cert.ConfIdeal.nD Cert.ConfIdeal.τ).loc Cert.ConfIdeal.main_arg5)
      ∧ m' ((c.tc : Thread Cert.ConfRefIdeal.nD Cert.ConfRefIdeal.τ).loc Cert.ConfRefIdeal.main_arg6) = m ((c.tc : Thread Cert.ConfIdeal.nD Cert.ConfIdeal.τ).loc Cert.ConfIdeal.main_arg6)
      ∧ m' ((c.tc : Thread Cert.ConfRefIdeal.nD Cert.ConfRefIdeal.τ).loc Cert.ConfRefIdeal.main_arg7) = m ((c.tc : Thread Cert.ConfIdeal.nD Cert.ConfIdeal.τ).loc Cert.ConfIdeal.main_arg7)
      ∧ m' ((c.tc : Thread Cert.ConfRefIdeal.nD Cert.ConfRefIdeal.τ).loc Cert.ConfRefIdeal.main_arg8) = m ((c.tc : Thread Cert.ConfIdeal.nD Cert.ConfIdeal.τ).loc Cert.ConfIdeal.main_arg8)
      ∧ m' ((c.tc : Thread Cert.ConfRefIdeal.nD Cert.ConfRefIdeal.τ).loc Cert.ConfRefIdeal.main_arg9) = m ((c.tc : Thread Cert.ConfIdeal.nD Cert.ConfIdeal.τ).loc Cert.ConfIdeal.main_arg9)
      ∧ m' ((c.tc : Thread Cert.ConfRefIdeal.nD Cert.ConfRefIdeal.τ).loc Cert.ConfRefIdeal.main_arg10) = m ((c.tc : Thread Cert.ConfIdeal.nD Cert.ConfIdeal.τ).loc Cert.ConfIdeal.main_arg10)
      ∧ m' ((c.tc : Thread Cert.ConfRefIdeal.nD Cert.ConfRefIdeal.τ).loc Cert.ConfRefIdeal.main_arg11) = m ((c.tc : Thread Cert.ConfIdeal.nD Cert.ConfIdeal.τ).loc Cert.ConfIdeal.main_arg11)
      ∧ m' ((c.tc : Thread Cert.ConfRefIdeal.nD Cert.ConfRefIdeal.τ).loc Cert.ConfRefIdeal.main_arg12) = m ((c.tc : Thread Cert.ConfIdeal.nD Cert.ConfIdeal.τ).loc Cert.ConfIdeal.main_arg12)
      ∧ m' ((c.tc : Thread Cert.ConfRefIdeal.nD Cert.ConfRefIdeal.τ).loc Cert.ConfRefIdeal.main_arg13) = m ((c.tc : Thread Cert.ConfIdeal.nD Cert.ConfIdeal.τ).loc Cert.ConfIdeal.main_arg13)
      ∧ m' ((c.tc : Thread Cert.ConfRefIdeal.nD Cert.ConfRefIdeal.τ).loc Cert.ConfRefIdeal.main_arg14) = m ((c.tc : Thread Cert.ConfIdeal.nD Cert.ConfIdeal.τ).loc Cert.ConfIdeal.main_arg14)) (i : Cert.ConfIdeal.S4x8192x1024.Idx) :
    Cert.ConfRefIdeal.Read.val_main_v343 (F := Ideal) (m' ((c.tc : Thread Cert.ConfRefIdeal.nD Cert.ConfRefIdeal.τ).loc Cert.ConfRefIdeal.main_arg0))
      (m' ((c.tc : Thread Cert.ConfRefIdeal.nD Cert.ConfRefIdeal.τ).loc Cert.ConfRefIdeal.main_arg1))
      (m' ((c.tc : Thread Cert.ConfRefIdeal.nD Cert.ConfRefIdeal.τ).loc Cert.ConfRefIdeal.main_arg2))
      (m' ((c.tc : Thread Cert.ConfRefIdeal.nD Cert.ConfRefIdeal.τ).loc Cert.ConfRefIdeal.main_arg3))
      (m' ((c.tc : Thread Cert.ConfRefIdeal.nD Cert.ConfRefIdeal.τ).loc Cert.ConfRefIdeal.main_arg4))
      (m' ((c.tc : Thread Cert.ConfRefIdeal.nD Cert.ConfRefIdeal.τ).loc Cert.ConfRefIdeal.main_arg5))
      (m' ((c.tc : Thread Cert.ConfRefIdeal.nD Cert.ConfRefIdeal.τ).loc Cert.ConfRefIdeal.main_arg6))
      (m' ((c.tc : Thread Cert.ConfRefIdeal.nD Cert.ConfRefIdeal.τ).loc Cert.ConfRefIdeal.main_arg7))
      (m' ((c.tc : Thread Cert.ConfRefIdeal.nD Cert.ConfRefIdeal.τ).loc Cert.ConfRefIdeal.main_arg8))
      (m' ((c.tc : Thread Cert.ConfRefIdeal.nD Cert.ConfRefIdeal.τ).loc Cert.ConfRefIdeal.main_arg9))
      (m' ((c.tc : Thread Cert.ConfRefIdeal.nD Cert.ConfRefIdeal.τ).loc Cert.ConfRefIdeal.main_arg10))
      (m' ((c.tc : Thread Cert.ConfRefIdeal.nD Cert.ConfRefIdeal.τ).loc Cert.ConfRefIdeal.main_arg11))
      (m' ((c.tc : Thread Cert.ConfRefIdeal.nD Cert.ConfRefIdeal.τ).loc Cert.ConfRefIdeal.main_arg12))
      (m' ((c.tc : Thread Cert.ConfRefIdeal.nD Cert.ConfRefIdeal.τ).loc Cert.ConfRefIdeal.main_arg13))
      (m' ((c.tc : Thread Cert.ConfRefIdeal.nD Cert.ConfRefIdeal.τ).loc Cert.ConfRefIdeal.main_arg14)) i
      = (Cert.ConfIdeal.Body.opnds m c).out (i 0) (i 1) (i 2) := by
  obtain ⟨h0, h1, h2, h3, h4, h5, h6, h7, h8, h9, h10, h11, h12, h13, h14⟩ := h
  have hi : (i : Cert.ConfIdeal.S4x8192x1024.Idx) = ix3 (i 0) (i 1) (i 2) := by
    funext a
    match a with
    | ⟨0, _⟩ => rfl
    | ⟨1, _⟩ => rfl
    | ⟨2, _⟩ => rfl
  refine (congrArg (Cert.ConfRefIdeal.Read.val_main_v343 (F := Ideal) (m' ((c.tc : Thread Cert.ConfRefIdeal.nD Cert.ConfRefIdeal.τ).loc Cert.ConfRefIdeal.main_arg0))
      (m' ((c.tc : Thread Cert.ConfRefIdeal.nD Cert.ConfRefIdeal.τ).loc Cert.ConfRefIdeal.main_arg1))
      (m' ((c.tc : Thread Cert.ConfRefIdeal.nD Cert.ConfRefIdeal.τ).loc Cert.ConfRefIdeal.main_arg2))
      (m' ((c.tc : Thread Cert.ConfRefIdeal.nD Cert.ConfRefIdeal.τ).loc Cert.ConfRefIdeal.main_arg3))
      (m' ((c.tc : Thread Cert.ConfRefIdeal.nD Cert.ConfRefIdeal.τ).loc Cert.ConfRefIdeal.main_arg4))
      (m' ((c.tc : Thread Cert.ConfRefIdeal.nD Cert.ConfRefIdeal.τ).loc Cert.ConfRefIdeal.main_arg5))
      (m' ((c.tc : Thread Cert.ConfRefIdeal.nD Cert.ConfRefIdeal.τ).loc Cert.ConfRefIdeal.main_arg6))
      (m' ((c.tc : Thread Cert.ConfRefIdeal.nD Cert.ConfRefIdeal.τ).loc Cert.ConfRefIdeal.main_arg7))
      (m' ((c.tc : Thread Cert.ConfRefIdeal.nD Cert.ConfRefIdeal.τ).loc Cert.ConfRefIdeal.main_arg8))
      (m' ((c.tc : Thread Cert.ConfRefIdeal.nD Cert.ConfRefIdeal.τ).loc Cert.ConfRefIdeal.main_arg9))
      (m' ((c.tc : Thread Cert.ConfRefIdeal.nD Cert.ConfRefIdeal.τ).loc Cert.ConfRefIdeal.main_arg10))
      (m' ((c.tc : Thread Cert.ConfRefIdeal.nD Cert.ConfRefIdeal.τ).loc Cert.ConfRefIdeal.main_arg11))
      (m' ((c.tc : Thread Cert.ConfRefIdeal.nD Cert.ConfRefIdeal.τ).loc Cert.ConfRefIdeal.main_arg12))
      (m' ((c.tc : Thread Cert.ConfRefIdeal.nD Cert.ConfRefIdeal.τ).loc Cert.ConfRefIdeal.main_arg13))
      (m' ((c.tc : Thread Cert.ConfRefIdeal.nD Cert.ConfRefIdeal.τ).loc Cert.ConfRefIdeal.main_arg14))) hi).trans ?_
  refine Cert.ConfRefIdeal.Value.out_at (m' ((c.tc : Thread Cert.ConfRefIdeal.nD Cert.ConfRefIdeal.τ).loc Cert.ConfRefIdeal.main_arg0))
      (m' ((c.tc : Thread Cert.ConfRefIdeal.nD Cert.ConfRefIdeal.τ).loc Cert.ConfRefIdeal.main_arg1))
      (m' ((c.tc : Thread Cert.ConfRefIdeal.nD Cert.ConfRefIdeal.τ).loc Cert.ConfRefIdeal.main_arg2))
      (m' ((c.tc : Thread Cert.ConfRefIdeal.nD Cert.ConfRefIdeal.τ).loc Cert.ConfRefIdeal.main_arg3))
      (m' ((c.tc : Thread Cert.ConfRefIdeal.nD Cert.ConfRefIdeal.τ).loc Cert.ConfRefIdeal.main_arg4))
      (m' ((c.tc : Thread Cert.ConfRefIdeal.nD Cert.ConfRefIdeal.τ).loc Cert.ConfRefIdeal.main_arg5))
      (m' ((c.tc : Thread Cert.ConfRefIdeal.nD Cert.ConfRefIdeal.τ).loc Cert.ConfRefIdeal.main_arg6))
      (m' ((c.tc : Thread Cert.ConfRefIdeal.nD Cert.ConfRefIdeal.τ).loc Cert.ConfRefIdeal.main_arg7))
      (m' ((c.tc : Thread Cert.ConfRefIdeal.nD Cert.ConfRefIdeal.τ).loc Cert.ConfRefIdeal.main_arg8))
      (m' ((c.tc : Thread Cert.ConfRefIdeal.nD Cert.ConfRefIdeal.τ).loc Cert.ConfRefIdeal.main_arg9))
      (m' ((c.tc : Thread Cert.ConfRefIdeal.nD Cert.ConfRefIdeal.τ).loc Cert.ConfRefIdeal.main_arg10))
      (m' ((c.tc : Thread Cert.ConfRefIdeal.nD Cert.ConfRefIdeal.τ).loc Cert.ConfRefIdeal.main_arg11))
      (m' ((c.tc : Thread Cert.ConfRefIdeal.nD Cert.ConfRefIdeal.τ).loc Cert.ConfRefIdeal.main_arg12))
      (m' ((c.tc : Thread Cert.ConfRefIdeal.nD Cert.ConfRefIdeal.τ).loc Cert.ConfRefIdeal.main_arg13))
      (m' ((c.tc : Thread Cert.ConfRefIdeal.nD Cert.ConfRefIdeal.τ).loc Cert.ConfRefIdeal.main_arg14)) (i 0) (i 1) (Cert.ConfIdeal.Body.opnds m c) ?_ (i 2)
  rw [h0, h1, h2, h3, h4, h5, h6, h7, h8, h9, h10, h11, h12, h13, h14]

theorem algebraic [Cert.ConfIdeal.Facts] [Cert.ConfRefIdeal.Facts] : Cert.algebraic_ConfIdeal_ConfRefIdeal := by
  intro m g m' g' _ hagree
  refine ⟨fun c => Cert.ConfIdeal.Body.result m c, Cert.ConfIdeal.Body.run m g, ?_⟩
  refine (θ_run Cert.ConfRefIdeal.defs _ _).mono (fun _ h c => ⟨(h c).1.trans ?_, (h c).2⟩) (Cert.ConfRefIdeal.Value.run (F := Ideal) m' g')
  rw [Cert.ConfRefIdeal.Read.val_main_v343_eq]
  funext i
  exact ref_eq m c m' (hagree c) i

end Cert.Proof.ConfClaim

end
-- ==== Proof.ProjSpec.lean ====
/-
  The first layer's input stage as a function on rows of extended reals: the modulated norm, the projection, the centred
  short convolution, and the activations of its five parts. Both sides of the value claim are read as these functions.
-/
module

public import proofs.«01_k».proof.Proof.ConfSpec

@[expose] public section

noncomputable section

namespace Cert.ProjSpec

open Idealize.ShloMosaic Cert.ConfSpec

/-- The two literals of the tanh form of GELU, √(2/π) and 0.044715, as the numbers their words are. -/
def scale : EReal := Ideal.ofBits FTy.f32 0x3F4C422A#32
def weight : EReal := Ideal.ofBits FTy.f32 0x3D372713#32
def half : EReal := Ideal.ofBits FTy.f32 0x3F000000#32

/-- GELU by its tanh form. -/
def gelu (x : EReal) : EReal := x * (half * (1 + Ideal.tanh (scale * (x + weight * (x * x * x)))))

/-- The logarithm of one plus the exponential, in the form that does not overflow. -/
def softplus (x : EReal) : EReal := max x 0 + Ideal.log1p (Ideal.exp (-max x (-x)))

/-- The stage's operands, as rows. `mods b j` is the `j`-th of the six modulation vectors of sample `b`. -/
structure Args where
  h : Fin 4 → Fin 8192 → Row
  mods : Fin 4 → Fin 6 → Row
  gmix : Row
  w : Fin 1024 → Fin 4640 → EReal
  cw : Fin 5 → Fin 1536 → EReal
  cb : Fin 1536 → EReal
  dtb : Fin 2 → Fin 16 → EReal
  lng : Row
  lnb : Row

namespace Args

variable (A : Args)

/-- Token `l` of sample `b`, normalised and modulated. -/
def u (b : Fin 4) (l : Fin 8192) : Row := modulate (A.h b l) A.gmix (A.mods b 0) (A.mods b 1)

/-- One column of the projection. -/
def proj (b : Fin 4) (l : Fin 8192) (n : Fin 4640) : EReal := ∑ k, A.u b l k * A.w k n

/-- The columns that go through the convolution, with zeros outside the sequence: position `p` holds token `p - 2`. -/
def padded (b : Fin 4) (p : ℕ) (n : Fin 1536) : EReal :=
  if hp : 2 ≤ p ∧ p - 2 < 8192 then A.proj b ⟨p - 2, hp.2⟩ ⟨1024 + n.val, by omega⟩ else 0

def zs (b : Fin 4) (l : Fin 8192) (n : Fin 1024) : EReal := silu (A.proj b l ⟨n.val, by omega⟩)

def xbc (b : Fin 4) (l : Fin 8192) (n : Fin 1536) : EReal :=
  silu ((∑ t : Fin 5, A.cw t n * A.padded b (l.val + t.val) n) + A.cb n)

/-- The step sizes of the 32 heads, in the first lanes of 128. -/
def dt (b : Fin 4) (l : Fin 8192) (q : Fin 128) : EReal :=
  if h : q.val < 32 then softplus (A.proj b l ⟨2560 + q.val, by omega⟩ + A.dtb ⟨q.val / 16, by omega⟩ ⟨q.val % 16, by omega⟩) else 0

def gate (b : Fin 4) (l : Fin 8192) (n : Fin 1024) : EReal := gelu (A.proj b l ⟨2592 + n.val, by omega⟩)

def v (b : Fin 4) (l : Fin 8192) : Row := layernorm (fun n => gelu (A.proj b l ⟨3616 + n.val, by omega⟩)) A.lng A.lnb

end Args

/-- The operands read from the call's arguments. -/
def args (x0 : Vec Ideal ⟨3, ![4, 8192, 1024]⟩ .f32) (x1 : Vec Ideal ⟨3, ![16, 1, 6144]⟩ .f32) (x2 : Vec Ideal ⟨2, ![2, 1024]⟩ .f32)
    (x3 : Vec Ideal ⟨3, ![1, 1024, 4640]⟩ .f32) (x4 : Vec Ideal ⟨3, ![1, 5, 1536]⟩ .f32) (x5 : Vec Ideal ⟨2, ![1, 1536]⟩ .f32)
    (x6 : Vec Ideal ⟨3, ![1, 2, 16]⟩ .f32) (x7 x8 : Vec Ideal ⟨2, ![1, 1024]⟩ .f32) : Args where
  h b l k := x0 (ix3 b l k)
  mods b j k := x1 (ix3 ⟨b.val, by omega⟩ 0 ⟨1024 * j.val + k.val, by omega⟩)
  gmix k := x2 (ix2 0 k)
  w k n := x3 (ix3 0 k n)
  cw t n := x4 (ix3 0 t n)
  cb n := x5 (ix2 0 n)
  dtb d h := x6 (ix3 0 d h)
  lng n := x7 (ix2 0 n)
  lnb n := x8 (ix2 0 n)

/-- A sum over the five taps, written out in order. -/
theorem sum_5 (f : Fin 5 → EReal) : f 0 + f 1 + f 2 + f 3 + f 4 = ∑ t, f t := by
  rw [Fin.sum_univ_five]

/-! ### The literals, and the kernel's form of GELU -/

theorem scale_eq : scale = ((6693141 / 8388608 : ℝ) : EReal) := by
  unfold scale
  simp [Ideal.ofBits, Ideal.ieee, -EReal.coe_mul]; norm_num

theorem weight_eq : weight = ((12003091 / 268435456 : ℝ) : EReal) := by
  unfold weight
  simp [Ideal.ofBits, Ideal.ieee, -EReal.coe_mul]; norm_num

theorem half_eq : half = ((1 / 2 : ℝ) : EReal) := by
  unfold half
  simp [Ideal.ofBits, Ideal.ieee, -EReal.coe_mul]; norm_num

/-- The kernel factors `x` out of the cubic, and folds the two literals' product into one constant. -/
theorem gelu_kernel (x : EReal) :
    x * (half + half * Ideal.tanh (x * (scale + ((80338380498831 / 2251799813685248 : ℝ) : EReal) * (x * x)))) = gelu x := by
  have h : scale * (x + weight * (x * x * x)) = x * (scale + ((80338380498831 / 2251799813685248 : ℝ) : EReal) * (x * x)) := by
    rw [scale_eq, weight_eq]
    induction x with
    | bot =>
      have h1 : (⊥ : EReal) * ⊥ = ⊤ := EReal.bot_mul_bot
      have h2 : (⊤ : EReal) * ⊥ = ⊥ := EReal.top_mul_bot
      rw [h1, h2, EReal.coe_mul_bot_of_pos (by norm_num), EReal.coe_mul_top_of_pos (by norm_num), EReal.bot_add,
        EReal.coe_mul_bot_of_pos (by norm_num), EReal.coe_add_top, EReal.bot_mul_top]
    | top =>
      rw [EReal.top_mul_top, EReal.top_mul_top, EReal.coe_mul_top_of_pos (by norm_num), EReal.coe_mul_top_of_pos (by norm_num),
        EReal.top_add_top, EReal.coe_mul_top_of_pos (by norm_num), EReal.coe_add_top, EReal.top_mul_top]
    | coe r =>
      simp only [← EReal.coe_mul, ← EReal.coe_add]
      exact congrArg _ (by ring)
  have ht : ∀ y : EReal, ∃ t : ℝ, Ideal.tanh y = (t : EReal) := fun y => by
    induction y with
    | bot => exact ⟨-1, rfl⟩
    | top => exact ⟨1, rfl⟩
    | coe r => exact ⟨_, rfl⟩
  unfold gelu
  rw [h, half_eq]
  obtain ⟨t, e⟩ := ht (x * (scale + ((80338380498831 / 2251799813685248 : ℝ) : EReal) * (x * x)))
  rw [e, ← EReal.coe_one]
  simp only [← EReal.coe_mul, ← EReal.coe_add]
  exact congrArg (x * ·) (congrArg _ (by ring))

end Cert.ProjSpec

end
-- ==== Proof.ProjPay.lean ====
/-
  What the input stage's vector expressions are worth at an index, over the extended reals: the modulated rows under their
  mask, the five column blocks of the projection with their activations, and the convolution. Stated over any operands.
-/
module

public import proofs.«01_k».proof.Proof.Gen.ProjIdeal.Skeleton
public import proofs.«01_k».proof.Proof.ProjSpec

@[expose] public section

set_option maxRecDepth 16384

noncomputable section

namespace Cert.ProjIdeal.Body

open Cert.ProjIdeal Cert.ProjIdeal.Gen Idealize.ShloMosaic Idealize.ShloMosaic.TcCoe
open Cert.ConfSpec hiding Args args
open Cert.ProjSpec

/-- The rows of the tile with its two neighbours' edges around it. -/
def extRow (p : Vec Ideal S1x1x16x1024 .f32) (x : Vec Ideal S1x512x1024 .f32) (n : Vec Ideal S1x1x16x1024 .f32)
    (r : Fin 544) : Row := fun k =>
  if h : r.val < 16 then p (ix4 0 0 ⟨r.val, h⟩ k)
  else if h' : r.val - 16 < 512 then x (ix3 0 ⟨r.val - 16, h'⟩ k) else n (ix4 0 0 ⟨r.val - 16 - 512, by omega⟩ k)

theorem um_at (p : Vec Ideal S1x1x16x1024 .f32) (x : Vec Ideal S1x512x1024 .f32) (n : Vec Ideal S1x1x16x1024 .f32)
    (g : Vec Ideal S1x1024 .f32) (sh sc : Vec Ideal S1x1x1024 .f32) (r : Fin 544) (k : Fin 1024) :
    k0_pay2 p x n g sh sc (ix2 r k)
      = modulate (extRow p x n r) (fun j => g (ix2 0 j)) (fun j => sh (ix3 0 0 j)) (fun j => sc (ix3 0 0 j)) k := by
  pointwise [k0_pay2]
  rfl

/-! ### The mask of the rows outside the sequence -/

theorem row_ge : ∀ p : Fin 544, IntOp.cmpi .sge (BitVec.ofNat 32 p.val) 16#32 = if 16 ≤ p.val then 1#1 else 0#1 := by decide +kernel
theorem row_lt : ∀ p : Fin 544, IntOp.cmpi .slt (BitVec.ofNat 32 p.val) 528#32 = if p.val < 528 then 1#1 else 0#1 := by decide +kernel
theorem tile_gt : ∀ s : Fin 16, Scalar.cmpi .sgt (BitVec.ofNat 32 s.val) 0#32 = if 0 < s.val then 1#1 else 0#1 := by decide +kernel
theorem tile_lt : ∀ s : Fin 16, Scalar.cmpi .slt (BitVec.ofNat 32 s.val) 15#32 = if s.val < 15 then 1#1 else 0#1 := by decide +kernel
theorem lane_lt : ∀ q : Fin 128, IntOp.cmpi .slt (BitVec.ofNat 32 q.val) 32#32 = if q.val < 32 then 1#1 else 0#1 := by decide +kernel

theorem masked_at (s : Fin 16) (v : FVec Ideal S544x1024 .f32) (p : Fin 544) (k : Fin 1024) :
    k0_pay4 (BitVec.ofNat 32 s.val) v (iota .tc S544x1 32 [0] iota_S544x1_d0_w32) k0_pay3 0#32 (ix2 p k)
      = if (16 ≤ p.val ∨ 0 < s.val) ∧ (p.val < 528 ∨ s.val < 15) then v (ix2 p k) else 0 := by
  pointwise [k0_pay4, k0_pay3]
  rw [row_ge, row_lt, tile_gt, tile_lt]
  split_ifs <;> first | rfl | omega

theorem inner_at (I : BitVec 32) (v : FVec Ideal S544x1024 .f32) (a : IVec S544x1 32) (d : IVec S544x1 1) (z : BitVec 32) (r : Fin 512) (k : Fin 1024) :
    k0_pay5 I v a d z (ix2 r k) = k0_pay4 I v a d z (ix2 ⟨16 + r.val, by omega⟩ k) := by
  pointwise [k0_pay5]

theorem product_at (I : BitVec 32) (v : FVec Ideal S544x1024 .f32) (a : IVec S544x1 32) (d : IVec S544x1 1) (z : BitVec 32)
    (w : Vec Ideal S1024x1536 .bf16) (p : Fin 544) (n : Fin 1536) :
    k0_pay6 I v a d z w (ix2 p n) = ∑ k, k0_pay4 I v a d z (ix2 p k) * w (ix2 k n) := by
  pointwise [k0_pay6]

/-! ### The column blocks without a convolution -/

section
variable (u : FVec Ideal S512x1024 .bf16) (w : Vec Ideal S1024x1024 .bf16) (r : Fin 512) (n : Fin 1024)

theorem named_eq : Named.named (F := Ideal) κ "gelu_cubed" (φ := .f32) 0x3D122279#32 = ((80338380498831 / 2251799813685248 : ℝ) : EReal) :=
  IdealRules.named_const.ideal_named_scalar _ _ _ _ rfl

theorem silu_at : k0_pay11 u w (ix3 0 r n) = silu (∑ k, u (ix2 r k) * w (ix2 k n)) := by
  pointwise [k0_pay11]
  simp only [zero_sub]
  rfl

theorem gelu_at : k0_pay15 (k0_pay13 u w) (k0_pay14 u w) (ix3 0 r n) = gelu (∑ k, u (ix2 r k) * w (ix2 k n)) := by
  pointwise [k0_pay15, k0_pay14, k0_pay13]
  rw [named_eq]
  exact gelu_kernel _

theorem norm_at (g e : Vec Ideal S1x1024 .f32) : k0_pay1 (k0_pay16 g) (k0_pay17 e) (k0_pay18 u w) (ix3 0 r n)
    = layernorm (fun j => gelu (∑ k, u (ix2 r k) * w (ix2 k j))) (fun j => g (ix2 0 j)) (fun j => e (ix2 0 j)) n := by
  pointwise [k0_pay1, k0_pay16, k0_pay17, k0_pay18]
  rw [named_eq]
  have h := fun x => (gelu_kernel x)
  unfold half scale at h
  simp only [h]
  rfl

theorem step_at (w : Vec Ideal S1024x128 .bf16) (b : Vec Ideal S1x128 .f32) (q : Fin 128) : k0_pay12 u w b (ix3 0 r q)
    = if q.val < 32 then softplus ((∑ k, u (ix2 r k) * w (ix2 k q)) + b (ix2 0 q)) else 0 := by
  pointwise [k0_pay12]
  rw [lane_lt]
  simp only [zero_sub]
  split_ifs <;> rfl
end

/-! ### The convolution -/

/-- Row `p` of a block of 544 rows. -/
def rowAt (a : FVec Ideal S544x1536 .f32) (p : ℕ) (c : Fin 1536) : EReal := if h : p < 544 then a (ix2 ⟨p, h⟩ c) else 0

theorem to_rowAt (a : FVec Ideal S544x1536 .f32) (p : Fin 544) (c : Fin 1536) : a (ix2 p c) = rowAt a p.val c := by
  unfold rowAt
  rw [dif_pos p.isLt]

theorem shifted {w : EReal} {a : FVec Ideal S544x1536 .f32} {p q : ℕ} {c : Fin 1536} (h : p = q) : w * rowAt a p c = w * rowAt a q c := by
  rw [h]

theorem plus {a b c d : EReal} (h : a = b) (k : c = d) : a + c = b + d := by rw [h, k]

/-- A sum over the five taps, in the order in which the kernel adds them. -/
theorem sum_taps (f : Fin 5 → EReal) : f 2 + f 3 + f 4 + f 0 + f 1 = ∑ t, f t := by
  rw [Fin.sum_univ_five]
  ac_rfl

theorem conv_at (I : BitVec 32) (v : FVec Ideal S544x1024 .f32) (a : IVec S544x1 32) (d : IVec S544x1 1) (z : BitVec 32)
    (W : Vec Ideal S1024x1536 .bf16) (w : Fin 5 → Vec Ideal S1x1536 .f32) (b : Vec Ideal S1x1536 .f32) (r : Fin 512) (c : Fin 1536) :
    k0_pay10 (k0_pay6 I v a d z W) (k0_pay7 b) (k0_pay8 I v a d z W (w 2) (w 3) (w 4)) (k0_pay9 I v a d z W) (w 0) (w 1) (ix3 0 r c)
      = silu ((∑ t, w t (ix2 0 c) * rowAt (k0_pay6 I v a d z W) (r.val + 14 + t.val) c) + b (ix2 0 c)) := by
  have h : (w 2 (ix2 0 c) * rowAt (k0_pay6 I v a d z W) (16 + r.val) c
      + w 3 (ix2 0 c) * rowAt (k0_pay6 I v a d z W) ((16 + r.val + 544 - 543 % 544) % 544) c
      + w 4 (ix2 0 c) * rowAt (k0_pay6 I v a d z W) ((16 + r.val + 544 - 542 % 544) % 544) c
      + w 0 (ix2 0 c) * rowAt (k0_pay6 I v a d z W) ((8 + r.val + 544 - 538 % 544) % 544) c
      + w 1 (ix2 0 c) * rowAt (k0_pay6 I v a d z W) ((8 + r.val + 544 - 537 % 544) % 544) c) + b (ix2 0 c)
      = (∑ t, w t (ix2 0 c) * rowAt (k0_pay6 I v a d z W) (r.val + 14 + t.val) c) + b (ix2 0 c) := by
    rw [← sum_taps]
    have hr := r.isLt
    repeat' with_reducible refine plus ?_ ?_
    all_goals with_reducible first | exact shifted (by show _ = r.val + 14 + _; omega) | rfl
  pointwise [k0_pay7, k0_pay8, k0_pay9, k0_pay10]
  simp only [to_rowAt, zero_sub]
  exact congrArg silu h

end Cert.ProjIdeal.Body

end
-- ==== Proof.ProjTile.lean ====
/-
  One tile of the input stage: what the body leaves in its five blocks, at a row and a column, from the operands' blocks.
-/
module

public import proofs.«01_k».proof.Proof.ProjPay
public import proofs.«01_k».proof.Proof.Gen.ProjIdeal.Frame
public import Idealize.ShloMosaic.Lib.Pipeline.Value

@[expose] public section

set_option maxRecDepth 16384

noncomputable section

namespace Cert.ProjIdeal.Body

open Cert.ProjIdeal Cert.ProjIdeal.Gen Idealize.ShloMosaic Idealize.ShloMosaic.TcCoe
open Cert.ConfSpec hiding Args args
open Cert.ProjSpec

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ### Loads of part of a block -/

theorem ld_mods (X : Vec Ideal S1x1x6144 .f32) (o : ℕ) (ho : o ≤ 5120) (h) (k : Fin 1024) :
    View.ld X (Rect.unit ![0, 0, o] ![1, 1, 1024] h) (ix3 0 0 k) = X (ix3 0 0 ⟨o + k.val, by omega⟩) := by
  pointwise

theorem ld_cols (X : Vec Ideal S1024x4736 .bf16) (o : ℕ) (ho : o ≤ 3712) (h) (k : Fin 1024) (n : Fin 1024) :
    View.ld X (Rect.unit ![0, o] ![1024, 1024] h) (ix2 k n) = X (ix2 k ⟨o + n.val, by omega⟩) := by
  pointwise

theorem ld_conv (X : Vec Ideal S1024x4736 .bf16) (h) (k : Fin 1024) (n : Fin 1536) :
    View.ld X (Rect.unit ![0, 1024] ![1024, 1536] h) (ix2 k n) = X (ix2 k ⟨1024 + n.val, by omega⟩) := by
  pointwise

theorem ld_step (X : Vec Ideal S1024x4736 .bf16) (h) (k : Fin 1024) (q : Fin 128) :
    View.ld X (Rect.unit ![0, 4608] ![1024, 128] h) (ix2 k q) = X (ix2 k ⟨4608 + q.val, by omega⟩) := by
  pointwise

theorem tap_inb (t : Fin 5) : ∀ a, (![t.val, 0] : Fin 2 → ℕ) a + (![1, 1536] : Fin 2 → ℕ) a ≤ S5x1536.size a := by
  intro a
  fin_cases a
  · show t.val + 1 ≤ 5
    omega
  · exact Nat.le_refl 1536

/-- The taps of the convolution. -/
abbrev taps (X : Vec Ideal S5x1536 .f32) (t : Fin 5) : Vec Ideal S1x1536 .f32 :=
  View.ld X (Rect.unit ![t.val, 0] ![1, 1536] (tap_inb t))

theorem ld_tap (X : Vec Ideal S5x1536 .f32) (t : Fin 5) (n : Fin 1536) : taps X t (ix2 0 n) = X (ix2 t n) := by
  unfold taps
  pointwise

/-! ### The five blocks -/

section
variable (i : grid0.Coords) (x0 : Vec Ideal S1x1x16x1024 .f32) (x1 : Vec Ideal S1x512x1024 .f32) (x2 : Vec Ideal S1x1x16x1024 .f32)
    (x3 : Vec Ideal S1x1x6144 .f32) (x4 : Vec Ideal S1x1024 .f32) (x5 : Vec Ideal S1024x4736 .bf16) (x6 : Vec Ideal S5x1536 .f32)
    (x7 : Vec Ideal S1x1536 .f32) (x8 : Vec Ideal S1x128 .f32) (x9 x10 : Vec Ideal S1x1024 .f32)

/-- Row `p` of tile `s` with its edges, normalised and modulated, zero outside the sequence. -/
def rowsOf (s : Fin 16) (p : Fin 544) : Row := fun k =>
  if (16 ≤ p.val ∨ 0 < s.val) ∧ (p.val < 528 ∨ s.val < 15) then
    modulate (extRow x0 x1 x2 p) (fun j => x4 (ix2 0 j)) (fun j => x3 (ix3 0 0 ⟨0 + j.val, by omega⟩))
      (fun j => x3 (ix3 0 0 ⟨1024 + j.val, by omega⟩)) k
  else 0

theorem rows_at (s : Fin 16) (h0) (h1) (p : Fin 544) (k : Fin 1024) :
    k0_pay4 (BitVec.ofNat 32 s.val) (k0_pay2 x0 x1 x2 x4 (View.ld x3 (Rect.unit ![0, 0, 0] ![1, 1, 1024] h0))
        (View.ld x3 (Rect.unit ![0, 0, 1024] ![1, 1, 1024] h1))) (iota .tc S544x1 32 [0] iota_S544x1_d0_w32) k0_pay3 0#32 (ix2 p k)
      = rowsOf x0 x1 x2 x3 x4 s p k := by
  rw [masked_at, um_at]
  unfold rowsOf
  simp only [ld_mods x3 0 (by omega), ld_mods x3 1024 (by omega)]

/-- One column of the projection of row `r` of the tile. -/
abbrev colOf (s : Fin 16) (r : Fin 512) (n : Fin 4736) : EReal := ∑ k, rowsOf x0 x1 x2 x3 x4 s ⟨16 + r.val, by omega⟩ k * x5 (ix2 k n)

theorem out11_at (r : Fin 512) (n : Fin 1024) : out0_11 i x0 x1 x2 x3 x4 x5 x6 x7 x8 x9 x10 (ix3 0 r n)
    = silu (colOf x0 x1 x2 x3 x4 x5 (i 1) r ⟨0 + n.val, by omega⟩) := by
  unfold_out out0_11
  rw [View.canon_unit_zero hz3]
  simp only [View.ld_unit_zero (S := S1x1x16x1024) hz4, View.ld_unit_zero (S := S1x512x1024) hz3, View.ld_unit_zero (S := S1x1024) hz2,
    View.ld_unit_zero (S := S1x128) hz2, View.ld_unit_zero (S := S1x1536) hz2]
  refine (silu_at _ _ r n).trans (congrArg silu ?_)
  refine (Finset.sum_congr rfl fun k _ => ?_)
  rw [inner_at, ld_cols x5 0 (by omega)]
  exact congrArg (· * _) (rows_at x0 x1 x2 x3 x4 (i 1) _ _ _ k)

theorem out12_at (r : Fin 512) (n : Fin 1536) : out0_12 i x0 x1 x2 x3 x4 x5 x6 x7 x8 x9 x10 (ix3 0 r n)
    = silu ((∑ t : Fin 5, x6 (ix2 t n) * rowAt (fun y : S544x1536.Idx => ∑ k, rowsOf x0 x1 x2 x3 x4 (i 1) (y 0) k * x5 (ix2 k ⟨1024 + (y 1).val, by
        have : (y 1).val < 1536 := (y 1).isLt
        omega⟩)) (r.val + 14 + t.val) n) + x7 (ix2 0 n)) := by
  unfold_out out0_12
  rw [View.canon_unit_zero hz3]
  simp only [View.ld_unit_zero (S := S1x1x16x1024) hz4, View.ld_unit_zero (S := S1x512x1024) hz3, View.ld_unit_zero (S := S1x1024) hz2,
    View.ld_unit_zero (S := S1x128) hz2, View.ld_unit_zero (S := S1x1536) hz2]
  refine (conv_at _ _ _ _ _ _ (taps x6) _ r n).trans (congrArg silu ?_)
  with_reducible refine congrArg₂ (· + ·) (Finset.sum_congr rfl fun t _ => ?_) rfl
  with_reducible refine congrArg₂ (· * ·) (ld_tap x6 t n) ?_
  unfold rowAt
  split
  · refine (product_at _ _ _ _ _ _ _ n).trans (Finset.sum_congr rfl fun k _ => ?_)
    rw [ld_conv]
    exact congrArg (· * _) (rows_at x0 x1 x2 x3 x4 (i 1) _ _ _ k)
  · rfl

theorem out13_at (r : Fin 512) (n : Fin 128) : out0_13 i x0 x1 x2 x3 x4 x5 x6 x7 x8 x9 x10 (ix3 0 r n)
    = if n.val < 32 then softplus (colOf x0 x1 x2 x3 x4 x5 (i 1) r ⟨4608 + n.val, by omega⟩ + x8 (ix2 0 n)) else 0 := by
  unfold_out out0_13
  rw [View.canon_unit_zero hz3]
  simp only [View.ld_unit_zero (S := S1x1x16x1024) hz4, View.ld_unit_zero (S := S1x512x1024) hz3, View.ld_unit_zero (S := S1x1024) hz2,
    View.ld_unit_zero (S := S1x128) hz2, View.ld_unit_zero (S := S1x1536) hz2]
  refine (step_at _ r _ _ n).trans ?_
  split
  · refine congrArg softplus (congrArg (· + _) ?_)
    refine (Finset.sum_congr rfl fun k _ => ?_)
    rw [inner_at, ld_step]
    exact congrArg (· * _) (rows_at x0 x1 x2 x3 x4 (i 1) _ _ _ k)
  · rfl

theorem out14_at (r : Fin 512) (n : Fin 1024) : out0_14 i x0 x1 x2 x3 x4 x5 x6 x7 x8 x9 x10 (ix3 0 r n)
    = gelu (colOf x0 x1 x2 x3 x4 x5 (i 1) r ⟨2560 + n.val, by omega⟩) := by
  unfold_out out0_14
  rw [View.canon_unit_zero hz3]
  simp only [View.ld_unit_zero (S := S1x1x16x1024) hz4, View.ld_unit_zero (S := S1x512x1024) hz3, View.ld_unit_zero (S := S1x1024) hz2,
    View.ld_unit_zero (S := S1x128) hz2, View.ld_unit_zero (S := S1x1536) hz2]
  refine (gelu_at _ _ r n).trans (congrArg gelu ?_)
  refine (Finset.sum_congr rfl fun k _ => ?_)
  rw [inner_at, ld_cols x5 2560 (by omega)]
  exact congrArg (· * _) (rows_at x0 x1 x2 x3 x4 (i 1) _ _ _ k)

theorem out15_at (r : Fin 512) (n : Fin 1024) : out0_15 i x0 x1 x2 x3 x4 x5 x6 x7 x8 x9 x10 (ix3 0 r n)
    = layernorm (fun n => gelu (colOf x0 x1 x2 x3 x4 x5 (i 1) r ⟨3584 + n.val, by omega⟩)) (fun j => x9 (ix2 0 j)) (fun j => x10 (ix2 0 j)) n := by
  unfold_out out0_15
  rw [View.canon_unit_zero hz3]
  simp only [View.ld_unit_zero (S := S1x1x16x1024) hz4, View.ld_unit_zero (S := S1x512x1024) hz3, View.ld_unit_zero (S := S1x1024) hz2,
    View.ld_unit_zero (S := S1x128) hz2, View.ld_unit_zero (S := S1x1536) hz2]
  refine (norm_at _ _ r n _ _).trans ?_
  refine congrArg (fun q : Row => layernorm q _ _ n) (funext fun n => congrArg gelu ?_)
  refine (Finset.sum_congr rfl fun k _ => ?_)
  rw [inner_at, ld_cols x5 3584 (by omega)]
  exact congrArg (· * _) (rows_at x0 x1 x2 x3 x4 (i 1) _ _ _ k)

end

end Cert.ProjIdeal.Body

end
-- ==== Proof.ProjHost.lean ====
/-
  What the host operations before the input stage leave in the arrays it reads: the arguments' entries, sliced and
  reshaped, the weights' columns in the order the stage reads them. Rounding to bf16 is the identity over the extended reals.
-/
module

public import proofs.«01_k».proof.Proof.Gen.ProjIdeal.Value
public import proofs.«01_k».proof.Proof.ProjSpec
public import Idealize.ShloMosaic.Lib.StableHlo.Run

@[expose] public section

set_option maxRecDepth 16384

noncomputable section

namespace Cert.ProjIdeal.Body

open Cert.ProjIdeal Cert.ProjIdeal.Gen Idealize.ShloMosaic Idealize.ShloMosaic.TcCoe

variable (m : (ℓ : Loc nD τ sig) → Buf (Elt Ideal) ℓ) (c : Dev nD)

theorem V16_at (b : Fin 4) (q : Fin 512) (s : Fin 16) (k : Fin 1024) : V m c main_v16 (ix4 b q s k)
    = (m ((c : Thread nD τ).loc main_arg0) : Vec Ideal S4x8192x1024 .f32) (ix3 b ⟨q.val * 16 + s.val, by omega⟩ k) := by
  unfold_abbrev_sides
  simp only [hostOps0, hostOps0_1, hostOps0_2, List.flatten_cons, List.flatten_nil, List.append_nil, List.cons_append, List.nil_append]
  after_results
  pointwise

theorem V17_at (k : Fin 1024) : V m c main_v17 (ix2 0 k)
    = (m ((c : Thread nD τ).loc main_arg2) : Vec Ideal S2x1024 .f32) (ix2 0 k) := by
  unfold_abbrev_sides
  simp only [hostOps0, hostOps0_1, hostOps0_2, List.flatten_cons, List.flatten_nil, List.append_nil, List.cons_append, List.nil_append]
  after_results
  pointwise

theorem V6_low (k : Fin 1024) (n : Fin 2560) : V m c main_v6 (ix2 k ⟨n.val, by omega⟩)
    = (m ((c : Thread nD τ).loc main_arg3) : Vec Ideal S1x1024x4640 .f32) (ix3 0 k ⟨n.val, by omega⟩) := by
  unfold_abbrev_sides
  simp only [hostOps0, hostOps0_1, hostOps0_2, List.flatten_cons, List.flatten_nil, List.append_nil, List.cons_append, List.nil_append]
  after_results
  pointwise
  after_results_simp
  pointwise

theorem V6_high (k : Fin 1024) (n : Fin 2048) : V m c main_v6 (ix2 k ⟨2560 + n.val, by omega⟩)
    = (m ((c : Thread nD τ).loc main_arg3) : Vec Ideal S1x1024x4640 .f32) (ix3 0 k ⟨2592 + n.val, by omega⟩) := by
  unfold_abbrev_sides
  simp only [hostOps0, hostOps0_1, hostOps0_2, List.flatten_cons, List.flatten_nil, List.append_nil, List.cons_append, List.nil_append]
  after_results
  pointwise
  after_results_simp
  pointwise

theorem V6_step (k : Fin 1024) (n : Fin 32) : V m c main_v6 (ix2 k ⟨4608 + n.val, by omega⟩)
    = (m ((c : Thread nD τ).loc main_arg3) : Vec Ideal S1x1024x4640 .f32) (ix3 0 k ⟨2560 + n.val, by omega⟩) := by
  unfold_abbrev_sides
  simp only [hostOps0, hostOps0_1, hostOps0_2, List.flatten_cons, List.flatten_nil, List.append_nil, List.cons_append, List.nil_append]
  after_results
  pointwise
  rw [dif_neg (by omega), dif_neg (by omega), dif_pos (by omega)]
  after_results_simp
  pointwise
  exact congrArg (fun q => (m ((c : Thread nD τ).loc main_arg3) : Vec Ideal S1x1024x4640 .f32) (ix3 0 k q)) (Fin.ext (by dsimp only; omega))

theorem V9_at (t : Fin 5) (n : Fin 1536) : V m c main_v9 (ix2 t n)
    = (m ((c : Thread nD τ).loc main_arg4) : Vec Ideal S1x5x1536 .f32) (ix3 0 t n) := by
  unfold_abbrev_sides
  simp only [hostOps0, hostOps0_1, hostOps0_2, List.flatten_cons, List.flatten_nil, List.append_nil, List.cons_append, List.nil_append]
  after_results
  pointwise

theorem V18_at (n : Fin 1536) : V m c main_v18 (ix2 0 n)
    = (m ((c : Thread nD τ).loc main_arg5) : Vec Ideal S1x1536 .f32) (ix2 0 n) := by
  unfold_abbrev_sides
  simp only [hostOps0, hostOps0_1, hostOps0_2, List.flatten_cons, List.flatten_nil, List.append_nil, List.cons_append, List.nil_append]
  after_results
  pointwise

theorem V13_at (n : Fin 32) : V m c main_v13 (ix2 0 ⟨n.val, by omega⟩)
    = (m ((c : Thread nD τ).loc main_arg6) : Vec Ideal S1x2x16 .f32) (ix3 0 ⟨n.val / 16, by omega⟩ ⟨n.val % 16, by omega⟩) := by
  unfold_abbrev_sides
  simp only [hostOps0, hostOps0_1, hostOps0_2, List.flatten_cons, List.flatten_nil, List.append_nil, List.cons_append, List.nil_append]
  after_results
  simp only [StableHlo.TRef.toBuf, StableHlo.TRef.ofBuf, cast_eq]
  pointwise

theorem V19_at (k : Fin 1024) : V m c main_v19 (ix2 0 k)
    = (m ((c : Thread nD τ).loc main_arg7) : Vec Ideal S1x1024 .f32) (ix2 0 k) := by
  unfold_abbrev_sides
  simp only [hostOps0, hostOps0_1, hostOps0_2, List.flatten_cons, List.flatten_nil, List.append_nil, List.cons_append, List.nil_append]
  after_results
  pointwise

theorem V20_at (k : Fin 1024) : V m c main_v20 (ix2 0 k)
    = (m ((c : Thread nD τ).loc main_arg8) : Vec Ideal S1x1024 .f32) (ix2 0 k) := by
  unfold_abbrev_sides
  simp only [hostOps0, hostOps0_1, hostOps0_2, List.flatten_cons, List.flatten_nil, List.append_nil, List.cons_append, List.nil_append]
  after_results
  pointwise

/-! ### The blocks the pipeline hands to the body -/

theorem zero_off {n : ℕ} {d f : Fin n → ℕ} (h : ∀ a, d a = 0) : (fun a => d a * f a) = fun _ => 0 :=
  funext fun a => by rw [h a, Nat.zero_mul]

variable (t : Fin cfg0.N)

theorem coord0 : ((grid0.coords t) 0).val = t.val / 16 := by
  have h : ∀ t : Fin cfg0.N, ((grid0.coords t) 0).val = t.val / 16 := by decide +kernel
  exact h t

theorem coord1 : ((grid0.coords t) 1).val = t.val % 16 := by
  have h : ∀ t : Fin cfg0.N, ((grid0.coords t) 1).val = t.val % 16 := by decide +kernel
  exact h t

theorem lt64 : t.val < 64 := lt_of_lt_of_eq t.isLt (show cfg0.N = 64 from N_0)

/-- The sample of point `t`, and the token of row `r` of its tile. -/
abbrev smp : Fin 4 := ⟨t.val / 16, by have := lt64 t; omega⟩
abbrev tok (r : Fin 512) : Fin 8192 := ⟨t.val % 16 * 512 + r.val, by omega⟩

theorem block4 : (iblk m c 4 t : Vec Ideal S1x1024 .f32) = V m c main_v17 :=
  Memref.read_access_unit_zero (Elt Ideal) main_v17 (zero_off fun a => by fin_cases a <;> rfl) _ _

theorem block5 : (iblk m c 5 t : Vec Ideal S1024x4736 .bf16) = V m c main_v6 :=
  Memref.read_access_unit_zero (Elt Ideal) main_v6 (zero_off fun a => by fin_cases a <;> rfl) _ _

theorem block6 : (iblk m c 6 t : Vec Ideal S5x1536 .f32) = V m c main_v9 :=
  Memref.read_access_unit_zero (Elt Ideal) main_v9 (zero_off fun a => by fin_cases a <;> rfl) _ _

theorem block7 : (iblk m c 7 t : Vec Ideal S1x1536 .f32) = V m c main_v18 :=
  Memref.read_access_unit_zero (Elt Ideal) main_v18 (zero_off fun a => by fin_cases a <;> rfl) _ _

theorem block8 : (iblk m c 8 t : Vec Ideal S1x128 .f32) = V m c main_v13 :=
  Memref.read_access_unit_zero (Elt Ideal) main_v13 (zero_off fun a => by fin_cases a <;> rfl) _ _

theorem block9 : (iblk m c 9 t : Vec Ideal S1x1024 .f32) = V m c main_v19 :=
  Memref.read_access_unit_zero (Elt Ideal) main_v19 (zero_off fun a => by fin_cases a <;> rfl) _ _

theorem block10 : (iblk m c 10 t : Vec Ideal S1x1024 .f32) = V m c main_v20 :=
  Memref.read_access_unit_zero (Elt Ideal) main_v20 (zero_off fun a => by fin_cases a <;> rfl) _ _

theorem index0 : win0_0.index t 0 = t.val / 16 ∧ win0_0.index t 1 = t.val % 16 * 32 - 1 ∧ win0_0.index t 2 = 0 ∧ win0_0.index t 3 = 0 := by
  have h : ∀ t : Fin cfg0.N, win0_0.index t 0 = t.val / 16 ∧ win0_0.index t 1 = t.val % 16 * 32 - 1 ∧ win0_0.index t 2 = 0 ∧ win0_0.index t 3 = 0 := by
    decide +kernel
  exact h t

theorem index1 : win0_1.index t 0 = t.val / 16 ∧ win0_1.index t 1 = t.val % 16 ∧ win0_1.index t 2 = 0 := by
  have h : ∀ t : Fin cfg0.N, win0_1.index t 0 = t.val / 16 ∧ win0_1.index t 1 = t.val % 16 ∧ win0_1.index t 2 = 0 := by
    decide +kernel
  exact h t

theorem index2 : win0_2.index t 0 = t.val / 16 ∧ win0_2.index t 1 = min (t.val % 16 * 32 + 32) 511 ∧ win0_2.index t 2 = 0 ∧ win0_2.index t 3 = 0 := by
  have h : ∀ t : Fin cfg0.N, win0_2.index t 0 = t.val / 16 ∧ win0_2.index t 1 = min (t.val % 16 * 32 + 32) 511 ∧ win0_2.index t 2 = 0 ∧ win0_2.index t 3 = 0 := by
    decide +kernel
  exact h t

theorem index3 : win0_3.index t 0 = t.val / 16 ∧ win0_3.index t 1 = 0 ∧ win0_3.index t 2 = 0 := by
  have h : ∀ t : Fin cfg0.N, win0_3.index t 0 = t.val / 16 ∧ win0_3.index t 1 = 0 ∧ win0_3.index t 2 = 0 := by
    decide +kernel
  exact h t

theorem index11 : win0_11.index t 0 = t.val / 16 ∧ win0_11.index t 1 = t.val % 16 ∧ win0_11.index t 2 = 0 := by
  have h : ∀ t : Fin cfg0.N, win0_11.index t 0 = t.val / 16 ∧ win0_11.index t 1 = t.val % 16 ∧ win0_11.index t 2 = 0 := by
    decide +kernel
  exact h t

theorem index12 : win0_12.index t 0 = t.val / 16 ∧ win0_12.index t 1 = t.val % 16 ∧ win0_12.index t 2 = 0 := by
  have h : ∀ t : Fin cfg0.N, win0_12.index t 0 = t.val / 16 ∧ win0_12.index t 1 = t.val % 16 ∧ win0_12.index t 2 = 0 := by
    decide +kernel
  exact h t

theorem index13 : win0_13.index t 0 = t.val / 16 ∧ win0_13.index t 1 = t.val % 16 ∧ win0_13.index t 2 = 0 := by
  have h : ∀ t : Fin cfg0.N, win0_13.index t 0 = t.val / 16 ∧ win0_13.index t 1 = t.val % 16 ∧ win0_13.index t 2 = 0 := by
    decide +kernel
  exact h t

theorem index14 : win0_14.index t 0 = t.val / 16 ∧ win0_14.index t 1 = t.val % 16 ∧ win0_14.index t 2 = 0 := by
  have h : ∀ t : Fin cfg0.N, win0_14.index t 0 = t.val / 16 ∧ win0_14.index t 1 = t.val % 16 ∧ win0_14.index t 2 = 0 := by
    decide +kernel
  exact h t

theorem index15 : win0_15.index t 0 = t.val / 16 ∧ win0_15.index t 1 = t.val % 16 ∧ win0_15.index t 2 = 0 := by
  have h : ∀ t : Fin cfg0.N, win0_15.index t 0 = t.val / 16 ∧ win0_15.index t 1 = t.val % 16 ∧ win0_15.index t 2 = 0 := by
    decide +kernel
  exact h t

theorem block0_at (s : Fin 16) (k : Fin 1024) : (iblk m c 0 t : Vec Ideal S1x1x16x1024 .f32) (ix4 0 0 s k)
    = (m ((c : Thread nD τ).loc main_arg0) : Vec Ideal S4x8192x1024 .f32) (ix3 (smp t) ⟨(t.val % 16 * 32 - 1) * 16 + s.val, by omega⟩ k) := by
  rw [← V16_at m c (smp t) ⟨t.val % 16 * 32 - 1, by omega⟩ s k]
  obtain ⟨h0, h1, h2, h3⟩ := index0 t
  unfold iblk
  rw [View.read_apply]
  show V m c main_v16 _ = V m c main_v16 _
  congr 1
  funext a
  apply Fin.ext
  match a with
  | ⟨0, _⟩ => show win0_0.index t 0 * 1 + 1 * 0 = t.val / 16; rw [h0]; omega
  | ⟨1, _⟩ => show win0_0.index t 1 * 1 + 1 * 0 = t.val % 16 * 32 - 1; rw [h1]; omega
  | ⟨2, _⟩ => show win0_0.index t 2 * 16 + 1 * s.val = s.val; rw [h2]; omega
  | ⟨3, _⟩ => show win0_0.index t 3 * 1024 + 1 * k.val = k.val; rw [h3]; omega

theorem block2_at (s : Fin 16) (k : Fin 1024) : (iblk m c 2 t : Vec Ideal S1x1x16x1024 .f32) (ix4 0 0 s k)
    = (m ((c : Thread nD τ).loc main_arg0) : Vec Ideal S4x8192x1024 .f32) (ix3 (smp t) ⟨min (t.val % 16 * 32 + 32) 511 * 16 + s.val, by omega⟩ k) := by
  rw [← V16_at m c (smp t) ⟨min (t.val % 16 * 32 + 32) 511, by omega⟩ s k]
  obtain ⟨h0, h1, h2, h3⟩ := index2 t
  unfold iblk
  rw [View.read_apply]
  show V m c main_v16 _ = V m c main_v16 _
  congr 1
  funext a
  apply Fin.ext
  match a with
  | ⟨0, _⟩ => show win0_2.index t 0 * 1 + 1 * 0 = t.val / 16; rw [h0]; omega
  | ⟨1, _⟩ => show win0_2.index t 1 * 1 + 1 * 0 = min (t.val % 16 * 32 + 32) 511; rw [h1]; omega
  | ⟨2, _⟩ => show win0_2.index t 2 * 16 + 1 * s.val = s.val; rw [h2]; omega
  | ⟨3, _⟩ => show win0_2.index t 3 * 1024 + 1 * k.val = k.val; rw [h3]; omega

theorem block1_at (r : Fin 512) (k : Fin 1024) : (iblk m c 1 t : Vec Ideal S1x512x1024 .f32) (ix3 0 r k)
    = (m ((c : Thread nD τ).loc main_arg0) : Vec Ideal S4x8192x1024 .f32) (ix3 (smp t) (tok t r) k) := by
  rw [← V_main_arg0 m c]
  obtain ⟨h0, h1, h2⟩ := index1 t
  unfold iblk
  rw [View.read_apply]
  show V m c main_arg0 _ = V m c main_arg0 _
  congr 1
  funext a
  apply Fin.ext
  match a with
  | ⟨0, _⟩ => show win0_1.index t 0 * 1 + 1 * 0 = t.val / 16; rw [h0]; omega
  | ⟨1, _⟩ => show win0_1.index t 1 * 512 + 1 * r.val = t.val % 16 * 512 + r.val; rw [h1]; omega
  | ⟨2, _⟩ => show win0_1.index t 2 * 1024 + 1 * k.val = k.val; rw [h2]; omega

theorem block3_at (k : Fin 6144) : (iblk m c 3 t : Vec Ideal S1x1x6144 .f32) (ix3 0 0 k)
    = (m ((c : Thread nD τ).loc main_arg1) : Vec Ideal S16x1x6144 .f32) (ix3 ⟨t.val / 16, by have := lt64 t; omega⟩ 0 k) := by
  rw [← V_main_arg1 m c]
  obtain ⟨h0, h1, h2⟩ := index3 t
  unfold iblk
  rw [View.read_apply]
  show V m c main_arg1 _ = V m c main_arg1 _
  congr 1
  funext a
  apply Fin.ext
  match a with
  | ⟨0, _⟩ => show win0_3.index t 0 * 1 + 1 * 0 = t.val / 16; rw [h0]; omega
  | ⟨1, _⟩ => show win0_3.index t 1 * 1 + 1 * 0 = 0; rw [h1]
  | ⟨2, _⟩ => show win0_3.index t 2 * 6144 + 1 * k.val = k.val; rw [h2]; omega

end Cert.ProjIdeal.Body

end
-- ==== Proof.ProjArray.lean ====
/-
  The input stage's five arrays: at every token the activations of the projection's parts.
-/
module

public import proofs.«01_k».proof.Proof.ProjTile
public import proofs.«01_k».proof.Proof.ProjHost
public import Idealize.ShloMosaic.Lib.Pipeline.ValueKit

@[expose] public section

set_option maxRecDepth 16384

noncomputable section

namespace Cert.ProjIdeal.Body

open Cert.ProjIdeal Cert.ProjIdeal.Gen Idealize.ShloMosaic Idealize.ShloMosaic.TcCoe Idealize.SL.Sem
open Cert.ConfSpec hiding Args args
open Cert.ProjSpec
open Idealize.ShloMosaic.Pipeline (Dat)

variable (m : (ℓ : Loc nD τ sig) → Buf (Elt Ideal) ℓ) (ρ : Dev nD → PrngReg) (c : Dev nD)

/-- The stage's operands, read from the memory the kernel is launched on. -/
abbrev opnds : ProjSpec.Args :=
  ProjSpec.args (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8))

variable (t : Fin cfg0.N)

theorem mods_at (j : Fin 6) (k : Fin 1024) :
    (iblk m c 3 t : Vec Ideal S1x1x6144 .f32) (ix3 0 0 ⟨1024 * j.val + k.val, by omega⟩) = (opnds m c).mods (smp t) j k :=
  block3_at m c t _

theorem ext_eq (p : Fin 544) (h : (16 ≤ p.val ∨ 0 < t.val % 16) ∧ (p.val < 528 ∨ t.val % 16 < 15)) :
    extRow (iblk m c 0 t) (iblk m c 1 t) (iblk m c 2 t) p = (opnds m c).h (smp t) ⟨t.val % 16 * 512 + p.val - 16, by omega⟩ := by
  funext k
  unfold extRow
  split
  · rename_i h0
    refine (block0_at m c t ⟨p.val, h0⟩ k).trans ?_
    exact congrArg (fun q => (m ((c : Thread nD τ).loc main_arg0) : Vec Ideal S4x8192x1024 .f32) (ix3 (smp t) q k))
      (Fin.ext (by dsimp only; omega))
  · split
    · rename_i h0 h1
      refine (block1_at m c t ⟨p.val - 16, h1⟩ k).trans ?_
      exact congrArg (fun q => (m ((c : Thread nD τ).loc main_arg0) : Vec Ideal S4x8192x1024 .f32) (ix3 (smp t) q k))
        (Fin.ext (by dsimp only; omega))
    · rename_i h0 h1
      refine (block2_at m c t ⟨p.val - 16 - 512, by omega⟩ k).trans ?_
      exact congrArg (fun q => (m ((c : Thread nD τ).loc main_arg0) : Vec Ideal S4x8192x1024 .f32) (ix3 (smp t) q k))
        (Fin.ext (by dsimp only; omega))

theorem rows_eq (p : Fin 544) (k : Fin 1024) (h : (16 ≤ p.val ∨ 0 < t.val % 16) ∧ (p.val < 528 ∨ t.val % 16 < 15)) :
    rowsOf (iblk m c 0 t) (iblk m c 1 t) (iblk m c 2 t) (iblk m c 3 t) (iblk m c 4 t) (grid0.coords t 1) p k
      = (opnds m c).u (smp t) ⟨t.val % 16 * 512 + p.val - 16, by omega⟩ k := by
  unfold rowsOf
  rw [coord1 t, if_pos h, ext_eq m c t p h]
  have hg : (fun j => (iblk m c 4 t : Vec Ideal S1x1024 .f32) (ix2 0 j)) = (opnds m c).gmix := funext fun j => by
    rw [block4]
    exact V17_at m c j
  rw [hg]
  exact congrArg₂ (fun a b => modulate _ _ a b k) (funext fun j => mods_at m c t 0 j) (funext fun j => mods_at m c t 1 j)

theorem rows_zero (p : Fin 544) (k : Fin 1024) (h : ¬((16 ≤ p.val ∨ 0 < t.val % 16) ∧ (p.val < 528 ∨ t.val % 16 < 15))) :
    rowsOf (iblk m c 0 t) (iblk m c 1 t) (iblk m c 2 t) (iblk m c 3 t) (iblk m c 4 t) (grid0.coords t 1) p k = 0 := by
  unfold rowsOf
  rw [coord1 t, if_neg h]

/-- A column of the weights as the stage reads them, and the argument's column it is. -/
theorem col_eq (r : Fin 512) (n : Fin 4736) (q : Fin 4640) (h : ∀ k, V m c main_v6 (ix2 k n) = (opnds m c).w k q) :
    colOf (iblk m c 0 t) (iblk m c 1 t) (iblk m c 2 t) (iblk m c 3 t) (iblk m c 4 t) (iblk m c 5 t) (grid0.coords t 1) r n = (opnds m c).proj (smp t) (tok t r) q := by
  refine Finset.sum_congr rfl fun k _ => ?_
  rw [rows_eq m c t ⟨16 + r.val, by omega⟩ k ⟨.inl (by dsimp only; omega), .inl (by dsimp only; omega)⟩, block5, h k]
  have e : (⟨t.val % 16 * 512 + (16 + r.val) - 16, by omega⟩ : Fin 8192) = tok t r := Fin.ext (by dsimp only; omega)
  exact congrArg (fun l => (opnds m c).u (smp t) l k * _) e

theorem low_eq (k : Fin 1024) (n : ℕ) (h : n < 2560) : V m c main_v6 (ix2 k ⟨n, by omega⟩) = (opnds m c).w k ⟨n, by omega⟩ :=
  V6_low m c k ⟨n, h⟩

theorem high_eq (k : Fin 1024) (n : ℕ) (h : n < 2048) : V m c main_v6 (ix2 k ⟨2560 + n, by omega⟩) = (opnds m c).w k ⟨2592 + n, by omega⟩ :=
  V6_high m c k ⟨n, h⟩

/-! ### The five blocks of a point -/

theorem val11_eq (r : Fin 512) (n : Fin 1024) :
    out0_11 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 0 r n)
      = (opnds m c).zs (smp t) (tok t r) n := by
  refine (out11_at _ _ _ _ _ _ _ _ _ _ _ _ r n).trans (congrArg silu ?_)
  refine (col_eq m c t r _ ⟨0 + n.val, by omega⟩ fun k => low_eq m c k (0 + n.val) (by omega)).trans ?_
  exact congrArg ((opnds m c).proj (smp t) (tok t r)) (Fin.ext (Nat.zero_add _))

theorem padded_eq (p : ℕ) (hp : p < 544) (hlo : 14 ≤ p) (n : Fin 1536) :
    rowAt (fun y : S544x1536.Idx => ∑ k, rowsOf (iblk m c 0 t) (iblk m c 1 t) (iblk m c 2 t) (iblk m c 3 t) (iblk m c 4 t) (grid0.coords t 1) (y 0) k
        * (iblk m c 5 t : Vec Ideal S1024x4736 .bf16) (ix2 k ⟨1024 + (y 1).val, by
          have : (y 1).val < 1536 := (y 1).isLt
          omega⟩)) p n
      = (opnds m c).padded (smp t) (t.val % 16 * 512 + p - 14) n := by
  unfold rowAt
  rw [dif_pos hp]
  have h64 := lt64 t
  unfold ProjSpec.Args.padded
  by_cases hv : (16 ≤ p ∨ 0 < t.val % 16) ∧ (p < 528 ∨ t.val % 16 < 15)
  · rw [dif_pos (by omega)]
    refine Finset.sum_congr rfl fun k _ => ?_
    have e : (⟨t.val % 16 * 512 + p - 16, by omega⟩ : Fin 8192) = ⟨t.val % 16 * 512 + p - 14 - 2, by omega⟩ := Fin.ext (by dsimp only; omega)
    refine congrArg₂ (· * ·) ((rows_eq m c t ⟨p, hp⟩ k hv).trans (congrArg (fun l => (opnds m c).u (smp t) l k) e)) ?_
    rw [block5]
    exact low_eq m c k (1024 + n.val) (by omega)
  · rw [dif_neg (by omega)]
    refine Finset.sum_eq_zero fun k _ => ?_
    refine (congrArg (· * _) (rows_zero m c t ⟨p, hp⟩ k hv)).trans ?_
    exact zero_mul _

theorem val12_eq (r : Fin 512) (n : Fin 1536) :
    out0_12 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 0 r n)
      = (opnds m c).xbc (smp t) (tok t r) n := by
  refine (out12_at _ _ _ _ _ _ _ _ _ _ _ _ r n).trans (congrArg silu ?_)
  have hb : (iblk m c 7 t : Vec Ideal S1x1536 .f32) (ix2 0 n) = (opnds m c).cb n := by rw [block7]; exact V18_at m c n
  have hw : ∀ k : Fin 5, (iblk m c 6 t : Vec Ideal S5x1536 .f32) (ix2 k n) = (opnds m c).cw k n := fun k => by
    rw [block6]; exact V9_at m c k n
  rw [hb]
  with_reducible refine congrArg₂ (· + ·) (Finset.sum_congr rfl fun k _ => ?_) rfl
  with_reducible refine congrArg₂ (· * ·) (hw k) ?_
  refine (padded_eq m c t _ (by omega) (by omega) n).trans ?_
  exact congrArg (fun q => (opnds m c).padded (smp t) q n) (by dsimp only; omega)

theorem val13_eq (r : Fin 512) (n : Fin 128) :
    out0_13 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 0 r n)
      = (opnds m c).dt (smp t) (tok t r) n := by
  refine (out13_at _ _ _ _ _ _ _ _ _ _ _ _ r n).trans ?_
  unfold ProjSpec.Args.dt
  by_cases h : n.val < 32
  · rw [if_pos h, dif_pos h]
    refine congrArg softplus (congrArg₂ (· + ·) (col_eq m c t r _ ⟨2560 + n.val, by omega⟩ fun k => V6_step m c k ⟨n.val, h⟩) ?_)
    rw [block8]
    exact V13_at m c ⟨n.val, h⟩
  · rw [if_neg h, dif_neg h]

theorem val14_eq (r : Fin 512) (n : Fin 1024) :
    out0_14 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 0 r n)
      = (opnds m c).gate (smp t) (tok t r) n := by
  refine (out14_at _ _ _ _ _ _ _ _ _ _ _ _ r n).trans (congrArg gelu ?_)
  exact col_eq m c t r _ ⟨2592 + n.val, by omega⟩ fun k => high_eq m c k n.val (by omega)

theorem val15_eq (r : Fin 512) (n : Fin 1024) :
    out0_15 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 0 r n)
      = (opnds m c).v (smp t) (tok t r) n := by
  refine (out15_at _ _ _ _ _ _ _ _ _ _ _ _ r n).trans ?_
  have e1 : (fun j => (iblk m c 9 t : Vec Ideal S1x1024 .f32) (ix2 0 j)) = (opnds m c).lng := funext fun k => by
    rw [block9]; exact V19_at m c k
  have e2 : (fun j => (iblk m c 10 t : Vec Ideal S1x1024 .f32) (ix2 0 j)) = (opnds m c).lnb := funext fun k => by
    rw [block10]; exact V20_at m c k
  rw [e1, e2]
  refine congrArg (fun q : Row => layernorm q _ _ n) (funext fun j => congrArg gelu ?_)
  refine (col_eq m c t r _ ⟨2592 + (1024 + j.val), by omega⟩ fun k => ?_).trans ?_
  · have e : (⟨3584 + j.val, by omega⟩ : Fin 4736) = ⟨2560 + (1024 + j.val), by omega⟩ := Fin.ext (by dsimp only; omega)
    rw [e]
    exact high_eq m c k (1024 + j.val) (by omega)
  · exact congrArg ((opnds m c).proj (smp t) (tok t r)) (Fin.ext (by dsimp only; omega))

/-! ### The five arrays -/

/-- An index of a block of one sample from its row and column. -/
theorem eta {a n : ℕ} (y : (⟨3, ![1, a, n]⟩ : Shape).Idx) : y = ix3 0 (y 1) (y 2) := by
  funext k
  match k with
  | ⟨0, _⟩ => exact Subsingleton.elim (α := Fin 1) _ _
  | ⟨1, _⟩ => rfl
  | ⟨2, _⟩ => rfl

def result0 : Buf (Elt Ideal) ((c : Thread nD τ).loc main_v21_0) :=
  fun i : S4x8192x1024.Idx => (opnds m c).zs (i 0) (i 1) (i 2)

def result1 : Buf (Elt Ideal) ((c : Thread nD τ).loc main_v21_1) :=
  fun i : S4x8192x1536.Idx => (opnds m c).xbc (i 0) (i 1) (i 2)

def result2 : Buf (Elt Ideal) ((c : Thread nD τ).loc main_v21_2) :=
  fun i : S4x8192x128.Idx => (opnds m c).dt (i 0) (i 1) (i 2)

def result3 : Buf (Elt Ideal) ((c : Thread nD τ).loc main_v21_3) :=
  fun i : S4x8192x1024.Idx => (opnds m c).gate (i 0) (i 1) (i 2)

def result4 : Buf (Elt Ideal) ((c : Thread nD τ).loc main_v21_4) :=
  fun i : S4x8192x1024.Idx => (opnds m c).v (i 0) (i 1) (i 2)

theorem final0 : (dats m 0 c).arrAt 11 cfg0.N = result0 m c := by
  refine (dats m 0 c).arrAt_eq_of_covers 11 (result0 m c) (by decide +kernel) fun t hf y => ?_
  blk_simp
  obtain ⟨h0, h1, h2⟩ := index11 t
  have hl : (dats m 0 c).after 11 t y = (opnds m c).zs (smp t) (tok t (y 1)) (y 2) := by
    exact ((congrFun (after0_11 m c t) y).trans (congrArg (out0_11 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)) (eta y))).trans (val11_eq m c t (y 1) (y 2))
  have e0 : (((win0_11.blk t).view.emb y : S4x8192x1024.Idx) 0) = smp t := Fin.ext (by
    show win0_11.index t 0 * 1 + 1 * (y 0).val = t.val / 16
    have : (y 0).val < 1 := (y 0).isLt
    omega)
  have e1 : (((win0_11.blk t).view.emb y : S4x8192x1024.Idx) 1) = tok t (y 1) := Fin.ext (by
    show win0_11.index t 1 * 512 + 1 * (y 1).val = t.val % 16 * 512 + (y 1).val
    omega)
  have e2 : (((win0_11.blk t).view.emb y : S4x8192x1024.Idx) 2) = (y 2 : Fin 1024) := Fin.ext (by
    show win0_11.index t 2 * 1024 + 1 * (y 2).val = (y 2).val
    omega)
  unfold result0
  rw [hl, e0, e1, e2]

theorem final1 : (dats m 0 c).arrAt 12 cfg0.N = result1 m c := by
  refine (dats m 0 c).arrAt_eq_of_covers 12 (result1 m c) (by decide +kernel) fun t hf y => ?_
  blk_simp
  obtain ⟨h0, h1, h2⟩ := index12 t
  have hl : (dats m 0 c).after 12 t y = (opnds m c).xbc (smp t) (tok t (y 1)) (y 2) := by
    exact ((congrFun (after0_12 m c t) y).trans (congrArg (out0_12 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)) (eta y))).trans (val12_eq m c t (y 1) (y 2))
  have e0 : (((win0_12.blk t).view.emb y : S4x8192x1536.Idx) 0) = smp t := Fin.ext (by
    show win0_12.index t 0 * 1 + 1 * (y 0).val = t.val / 16
    have : (y 0).val < 1 := (y 0).isLt
    omega)
  have e1 : (((win0_12.blk t).view.emb y : S4x8192x1536.Idx) 1) = tok t (y 1) := Fin.ext (by
    show win0_12.index t 1 * 512 + 1 * (y 1).val = t.val % 16 * 512 + (y 1).val
    omega)
  have e2 : (((win0_12.blk t).view.emb y : S4x8192x1536.Idx) 2) = (y 2 : Fin 1536) := Fin.ext (by
    show win0_12.index t 2 * 1536 + 1 * (y 2).val = (y 2).val
    omega)
  unfold result1
  rw [hl, e0, e1, e2]

theorem final2 : (dats m 0 c).arrAt 13 cfg0.N = result2 m c := by
  refine (dats m 0 c).arrAt_eq_of_covers 13 (result2 m c) (by decide +kernel) fun t hf y => ?_
  blk_simp
  obtain ⟨h0, h1, h2⟩ := index13 t
  have hl : (dats m 0 c).after 13 t y = (opnds m c).dt (smp t) (tok t (y 1)) (y 2) := by
    exact ((congrFun (after0_13 m c t) y).trans (congrArg (out0_13 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)) (eta y))).trans (val13_eq m c t (y 1) (y 2))
  have e0 : (((win0_13.blk t).view.emb y : S4x8192x128.Idx) 0) = smp t := Fin.ext (by
    show win0_13.index t 0 * 1 + 1 * (y 0).val = t.val / 16
    have : (y 0).val < 1 := (y 0).isLt
    omega)
  have e1 : (((win0_13.blk t).view.emb y : S4x8192x128.Idx) 1) = tok t (y 1) := Fin.ext (by
    show win0_13.index t 1 * 512 + 1 * (y 1).val = t.val % 16 * 512 + (y 1).val
    omega)
  have e2 : (((win0_13.blk t).view.emb y : S4x8192x128.Idx) 2) = (y 2 : Fin 128) := Fin.ext (by
    show win0_13.index t 2 * 128 + 1 * (y 2).val = (y 2).val
    omega)
  unfold result2
  rw [hl, e0, e1, e2]

theorem final3 : (dats m 0 c).arrAt 14 cfg0.N = result3 m c := by
  refine (dats m 0 c).arrAt_eq_of_covers 14 (result3 m c) (by decide +kernel) fun t hf y => ?_
  blk_simp
  obtain ⟨h0, h1, h2⟩ := index14 t
  have hl : (dats m 0 c).after 14 t y = (opnds m c).gate (smp t) (tok t (y 1)) (y 2) := by
    exact ((congrFun (after0_14 m c t) y).trans (congrArg (out0_14 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)) (eta y))).trans (val14_eq m c t (y 1) (y 2))
  have e0 : (((win0_14.blk t).view.emb y : S4x8192x1024.Idx) 0) = smp t := Fin.ext (by
    show win0_14.index t 0 * 1 + 1 * (y 0).val = t.val / 16
    have : (y 0).val < 1 := (y 0).isLt
    omega)
  have e1 : (((win0_14.blk t).view.emb y : S4x8192x1024.Idx) 1) = tok t (y 1) := Fin.ext (by
    show win0_14.index t 1 * 512 + 1 * (y 1).val = t.val % 16 * 512 + (y 1).val
    omega)
  have e2 : (((win0_14.blk t).view.emb y : S4x8192x1024.Idx) 2) = (y 2 : Fin 1024) := Fin.ext (by
    show win0_14.index t 2 * 1024 + 1 * (y 2).val = (y 2).val
    omega)
  unfold result3
  rw [hl, e0, e1, e2]

theorem final4 : (dats m 0 c).arrAt 15 cfg0.N = result4 m c := by
  refine (dats m 0 c).arrAt_eq_of_covers 15 (result4 m c) (by decide +kernel) fun t hf y => ?_
  blk_simp
  obtain ⟨h0, h1, h2⟩ := index15 t
  have hl : (dats m 0 c).after 15 t y = (opnds m c).v (smp t) (tok t (y 1)) (y 2) := by
    exact ((congrFun (after0_15 m c t) y).trans (congrArg (out0_15 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)) (eta y))).trans (val15_eq m c t (y 1) (y 2))
  have e0 : (((win0_15.blk t).view.emb y : S4x8192x1024.Idx) 0) = smp t := Fin.ext (by
    show win0_15.index t 0 * 1 + 1 * (y 0).val = t.val / 16
    have : (y 0).val < 1 := (y 0).isLt
    omega)
  have e1 : (((win0_15.blk t).view.emb y : S4x8192x1024.Idx) 1) = tok t (y 1) := Fin.ext (by
    show win0_15.index t 1 * 512 + 1 * (y 1).val = t.val % 16 * 512 + (y 1).val
    omega)
  have e2 : (((win0_15.blk t).view.emb y : S4x8192x1024.Idx) 2) = (y 2 : Fin 1024) := Fin.ext (by
    show win0_15.index t 2 * 1024 + 1 * (y 2).val = (y 2).val
    omega)
  unfold result4
  rw [hl, e0, e1, e2]

/-- The stage's run: its results are the five arrays, and it leaves its operands as they were. -/
theorem run : θ_run defs (onTc (τ := τ) (main (F := Ideal))) ⟨m, fun _ => 0, ρ⟩ fun r => ∀ c : Dev nD,
    r.2.mem ((c : Thread nD τ).loc main_v21_0) = result0 m c
    ∧ r.2.mem ((c : Thread nD τ).loc main_v21_1) = result1 m c
    ∧ r.2.mem ((c : Thread nD τ).loc main_v21_2) = result2 m c
    ∧ r.2.mem ((c : Thread nD τ).loc main_v21_3) = result3 m c
    ∧ r.2.mem ((c : Thread nD τ).loc main_v21_4) = result4 m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8) :=
  (θ_run defs _ _).mono (fun _ h c => ⟨(h c).1.trans (final0 m c), (h c).2.1.trans (final1 m c), (h c).2.2.1.trans (final2 m c),
    (h c).2.2.2.1.trans (final3 m c), (h c).2.2.2.2.1.trans (final4 m c), (h c).2.2.2.2.2⟩) (Value.run_blocks m ρ)

end Cert.ProjIdeal.Body

end
-- ==== Proof.ProjRef.lean ====
/-
  The reference's arrays at an index, stage by stage, as the row functions of ProjSpec.
-/
module

public import proofs.«01_k».proof.Proof.Gen.ProjRefIdeal.Read
public import proofs.«01_k».proof.Proof.ProjSpec
import Idealize.ShloMosaic.Lib.Pointwise

@[expose] public section

set_option maxRecDepth 16384

noncomputable section

namespace Cert.ProjRefIdeal.Value

open Cert.ProjRefIdeal Cert.ProjRefIdeal.Gen Cert.ProjRefIdeal.Read
open Cert.ConfSpec hiding Args args
open Cert.ProjSpec Idealize.ShloMosaic Idealize.ShloMosaic.TcCoe

variable (x0 : Vec Ideal S4x8192x1024 .f32) (x1 : Vec Ideal S16x1x6144 .f32) (x2 : Vec Ideal S2x1024 .f32)
    (x3 : Vec Ideal S1x1024x4640 .f32) (x4 : Vec Ideal S1x5x1536 .f32) (x5 : Vec Ideal S1x1536 .f32)
    (x6 : Vec Ideal S1x2x16 .f32) (x7 x8 : Vec Ideal S1x1024 .f32) (b : Fin 4) (l : Fin 8192)
    (A : Args) (hA : A = args x0 x1 x2 x3 x4 x5 x6 x7 x8)

include hA

theorem u_at (k : Fin 1024) : val_main_v27 (F := Ideal) x0 x1 x2 (ix3 b l k) = A.u b l k := by
  pointwise [val_main_v0, val_main_v1, val_main_v2, val_main_v3, val_main_v4, val_main_v5, val_main_v6, val_main_v7,
      val_main_v8, val_main_v9, val_main_cst, val_main_v10, val_main_v11, val_main_cst_0, val_main_v12, val_main_v13,
      val_main_cst_1, val_main_v14, val_main_v15, val_main_v16, val_main_v17, val_main_v18, val_main_v19, val_main_v20,
      val_main_v21, val_main_cst_2, val_main_v22, val_main_v23, val_main_v24, val_main_v25, val_main_v26, val_main_v27]
  subst hA
  simp only [ProjSpec.Args.u, modulate, rms, mean, eps, args, mul_assoc, Fin.val_zero, Nat.mul_zero, Nat.zero_add]
  rfl

theorem proj_at (n : Fin 4640) : val_main_v29 (F := Ideal) x0 x1 x2 x3 (ix3 b l n) = A.proj b l n := by
  have hu : ∀ k, val_main_v27 (F := Ideal) x0 x1 x2 (ix3 b l k) = _ := u_at x0 x1 x2 x3 x4 x5 x6 x7 x8 b l A hA
  pointwise [val_main_v28, val_main_v29, hu]
  subst hA
  rfl

theorem padded_at (p : Fin 8196) (n : Fin 1536) : val_main_v36 (F := Ideal) x0 x1 x2 x3 (ix3 b p n) = A.padded b p n := by
  have hu : ∀ l k, val_main_v29 (F := Ideal) x0 x1 x2 x3 (ix3 b l k) = A.proj b l k := fun l => proj_at x0 x1 x2 x3 x4 x5 x6 x7 x8 b l A hA
  pointwise [val_main_v31, val_main_c, val_main_call0_v0, val_main_v36, hu]
  unfold ProjSpec.Args.padded
  split
  · rfl
  · show ((((0 : BitVec 32).toInt : ℤ) : ℝ) : EReal) = 0
    rw [show (0 : BitVec 32).toInt = 0 from rfl]
    norm_num

theorem conv_at (n : Fin 1536) : val_main_v73 (F := Ideal) x0 x1 x2 x3 x4 x5 (ix3 b l n) = (∑ t : Fin 5, A.cw t n * A.padded b (l.val + t.val) n) + A.cb n := by
  have hu : ∀ p : Fin 8196, val_main_v36 (F := Ideal) x0 x1 x2 x3 (ix3 b p n) = A.padded b p n := fun p => padded_at x0 x1 x2 x3 x4 x5 x6 x7 x8 b A hA p n
  pointwise [val_main_v34, val_main_v35, val_main_v37, val_main_v38, val_main_v39, val_main_v40, val_main_v41, val_main_v42,
      val_main_v43, val_main_v44, val_main_v45, val_main_v46, val_main_v47, val_main_v48, val_main_v49, val_main_v50,
      val_main_v51, val_main_v52, val_main_v53, val_main_v54, val_main_v55, val_main_v56, val_main_v57, val_main_v58,
      val_main_v59, val_main_v60, val_main_v61, val_main_v62, val_main_v63, val_main_v64, val_main_v65, val_main_v66,
      val_main_v67, val_main_v68, val_main_v69, val_main_v70, val_main_v71, val_main_v72, val_main_v73, hu]
  have e0 : A.padded b l n = A.padded b ((0 : Fin 5).val + l.val) n := by rw [show (0 : Fin 5).val + l.val = l.val from Nat.zero_add _]
  have e : ∀ t : Fin 5, A.cw t n * A.padded b (l.val + t.val) n = A.padded b (t.val + l.val) n * x4 (ix3 0 t n) := fun t => by
    rw [Nat.add_comm l.val, mul_comm]; subst hA; rfl
  have eb : A.cb n = x5 (ix2 0 n) := by subst hA; rfl
  rw [e0, eb, Finset.sum_congr rfl fun t _ => e t, ← sum_5]
  rfl

theorem xbc_at (n : Fin 1536) : val_main_v124 (F := Ideal) x0 x1 x2 x3 x4 x5 (ix3 b l n) = A.xbc b l n := by
  have hu : val_main_v73 (F := Ideal) x0 x1 x2 x3 x4 x5 (ix3 b l n) = _ := conv_at x0 x1 x2 x3 x4 x5 x6 x7 x8 b l A hA n
  pointwise [val_main_call1_v0, val_main_call1_v1, val_main_call1_cst, val_main_call1_v2, val_main_call1_v3,
      val_main_call1_cst_0, val_main_call1_v4, val_main_call1_v5, val_main_v74, val_main_v124, hu]
  rfl

theorem zs_at (n : Fin 1024) : val_main_v123 (F := Ideal) x0 x1 x2 x3 (ix3 b l n) = A.zs b l n := by
  have hu : ∀ n, val_main_v29 (F := Ideal) x0 x1 x2 x3 (ix3 b l n) = _ := proj_at x0 x1 x2 x3 x4 x5 x6 x7 x8 b l A hA
  pointwise [val_main_v30, val_main_call4_v0, val_main_call4_v1, val_main_call4_cst, val_main_call4_v2, val_main_call4_v3,
      val_main_call4_cst_0, val_main_call4_v4, val_main_call4_v5, val_main_v122, val_main_v123, hu]
  rfl

theorem gate_at (n : Fin 1024) : val_main_v138 (F := Ideal) x0 x1 x2 x3 (ix3 b l n) = A.gate b l n := by
  have hu : ∀ n, val_main_v29 (F := Ideal) x0 x1 x2 x3 (ix3 b l n) = _ := proj_at x0 x1 x2 x3 x4 x5 x6 x7 x8 b l A hA
  pointwise [val_main_v33, val_main_v81, val_main_v125, val_main_v126, val_main_cst_13, val_main_v127, val_main_v128,
      val_main_v129, val_main_cst_14, val_main_v130, val_main_v131, val_main_v132, val_main_cst_15, val_main_v133,
      val_main_v134, val_main_cst_16, val_main_v135, val_main_v136, val_main_v137, val_main_v138, hu]
  rfl

theorem gelu_at (n : Fin 1024) : val_main_v95 (F := Ideal) x0 x1 x2 x3 (ix3 b l n) = gelu (A.proj b l ⟨3616 + n.val, by omega⟩) := by
  have hu : ∀ n, val_main_v29 (F := Ideal) x0 x1 x2 x3 (ix3 b l n) = _ := proj_at x0 x1 x2 x3 x4 x5 x6 x7 x8 b l A hA
  pointwise [val_main_v33, val_main_v82, val_main_v83, val_main_v84, val_main_cst_3, val_main_v85, val_main_v86, val_main_v87,
      val_main_cst_4, val_main_v88, val_main_v89, val_main_v90, val_main_cst_5, val_main_v91, val_main_v92, val_main_cst_6,
      val_main_v93, val_main_v94, val_main_v95, hu]
  show gelu (A.proj b l ⟨2592 + (1024 + n.val), by omega⟩) = _
  exact congrArg (fun q => gelu (A.proj b l q)) (Fin.ext (by dsimp only; omega))

theorem v_at (n : Fin 1024) : val_main_v139 (F := Ideal) x0 x1 x2 x3 x7 x8 (ix3 b l n) = A.v b l n := by
  have hu : ∀ n, val_main_v95 (F := Ideal) x0 x1 x2 x3 (ix3 b l n) = _ := gelu_at x0 x1 x2 x3 x4 x5 x6 x7 x8 b l A hA
  pointwise [val_main_v96, val_main_v97, val_main_cst_7, val_main_v98, val_main_v99, val_main_cst_8, val_main_v100,
      val_main_v101, val_main_v102, val_main_v103, val_main_v104, val_main_cst_9, val_main_v105, val_main_v106,
      val_main_cst_10, val_main_v107, val_main_v108, val_main_cst_11, val_main_v109, val_main_v110, val_main_v111,
      val_main_v112, val_main_v113, val_main_v114, val_main_v115, val_main_v116, val_main_v117, val_main_v118, val_main_v119,
      val_main_v139, hu]
  subst hA
  rfl

theorem dt_at (q : Fin 128) : val_main_v121 (F := Ideal) x0 x1 x2 x3 x6 (ix3 b l q) = A.dt b l q := by
  have hu : ∀ n, val_main_v29 (F := Ideal) x0 x1 x2 x3 (ix3 b l n) = _ := proj_at x0 x1 x2 x3 x4 x5 x6 x7 x8 b l A hA
  pointwise [val_main_v32, val_main_v75, val_main_v76, val_main_v77, val_main_v78, val_main_v79, val_main_call2_cst,
      val_main_call2_v0, val_main_call2_v1, val_main_call2_v2, val_main_call2_v3, val_main_call2_v4, val_main_call2_v5,
      val_main_call2_v6, val_main_call2_v7, val_main_call2_v8, val_main_call2_v9, val_main_call2_v10, val_main_call2_v11,
      val_main_v80, val_main_v120, val_main_c_12, val_main_call3_v0, val_main_v121, hu]
  unfold ProjSpec.Args.dt
  split
  · have e : (⟨2560 + (q.val / 16 * 16 + q.val % 16), by omega⟩ : Fin 4640) = ⟨2560 + q.val, by omega⟩ := Fin.ext (by dsimp only; omega)
    have eb : A.dtb ⟨q.val / 16, by omega⟩ ⟨q.val % 16, by omega⟩ = x6 (ix3 0 ⟨q.val / 16, by omega⟩ ⟨q.val % 16, by omega⟩) := by subst hA; rfl
    rw [if_neg (fun h => h rfl), e, eb]
    rfl
  · show ((((0 : BitVec 32).toInt : ℤ) : ℝ) : EReal) = 0
    rw [show (0 : BitVec 32).toInt = 0 from rfl]
    norm_num

end Cert.ProjRefIdeal.Value

end
-- ==== Proof.ProjClaim.lean ====
/-
  The input stage's claim: the kernel and the reference leave the same five arrays.
-/
module

public import proofs.«01_k».proof.Defs
public import proofs.«01_k».proof.Proof.ProjArray
public import proofs.«01_k».proof.Proof.ProjRef

@[expose] public section

set_option maxRecDepth 16384

noncomputable section

namespace Cert.Proof.ProjClaim

open Cert.ProjSpec Cert.ProjRefIdeal.Read Cert.ProjRefIdeal.Value Idealize.ShloMosaic Idealize.ShloMosaic.TcCoe Idealize.SL.Sem
open Idealize.ShloMosaic.StableHlo

/-- An index of three axes from its coordinates. -/
theorem eta {a b n : ℕ} (i : (⟨3, ![a, b, n]⟩ : Shape).Idx) : i = ix3 (i 0) (i 1) (i 2) := by
  funext k
  match k with
  | ⟨0, _⟩ => rfl
  | ⟨1, _⟩ => rfl
  | ⟨2, _⟩ => rfl

/-- The reference's operand `a` on device `c`. -/
abbrev loc (c : Dev Cert.ProjRefIdeal.nD) (a : Ref Cert.ProjRefIdeal.sig .tc) := (c.tc : Thread Cert.ProjRefIdeal.nD Cert.ProjRefIdeal.τ).loc a

theorem algebraic [Cert.ProjIdeal.Facts] [Cert.ProjRefIdeal.Facts] : Cert.algebraic_ProjIdeal_ProjRefIdeal := by
  intro m g m' g' _ hagree
  refine ⟨fun c => Cert.ProjIdeal.Body.result0 m c, fun c => Cert.ProjIdeal.Body.result1 m c, fun c => Cert.ProjIdeal.Body.result2 m c,
    fun c => Cert.ProjIdeal.Body.result3 m c, fun c => Cert.ProjIdeal.Body.result4 m c, Cert.ProjIdeal.Body.run m g, ?_⟩
  have hA : ∀ c : Dev Cert.ProjIdeal.nD, Cert.ProjIdeal.Body.opnds m c = ProjSpec.args (m' (loc c Cert.ProjRefIdeal.main_arg0)) (m' (loc c Cert.ProjRefIdeal.main_arg1)) (m' (loc c Cert.ProjRefIdeal.main_arg2)) (m' (loc c Cert.ProjRefIdeal.main_arg3)) (m' (loc c Cert.ProjRefIdeal.main_arg4))
      (m' (loc c Cert.ProjRefIdeal.main_arg5)) (m' (loc c Cert.ProjRefIdeal.main_arg6)) (m' (loc c Cert.ProjRefIdeal.main_arg7)) (m' (loc c Cert.ProjRefIdeal.main_arg8)) := fun c => by
    obtain ⟨h0, h1, h2, h3, h4, h5, h6, h7, h8⟩ := hagree c
    rw [h0, h1, h2, h3, h4, h5, h6, h7, h8]
  refine (θ_run Cert.ProjRefIdeal.defs _ _).mono (fun _ h c => ⟨(h c).1.trans ?_, (h c).2.1.trans ?_, (h c).2.2.1.trans ?_,
    (h c).2.2.2.1.trans ?_, (h c).2.2.2.2.1.trans ?_, (h c).2.2.2.2.2⟩) (Cert.ProjRefIdeal.Value.run (F := Ideal) m' g')
  · refine (val_main_v123_eq (launchContents m' c)).trans (funext fun i => ?_)
    exact (congrArg _ (eta i)).trans (zs_at _ _ _ _ _ _ _ _ _ (i 0) (i 1) _ (hA c) (i 2))
  · refine (val_main_v124_eq (launchContents m' c)).trans (funext fun i => ?_)
    exact (congrArg _ (eta i)).trans (xbc_at _ _ _ _ _ _ _ _ _ (i 0) (i 1) _ (hA c) (i 2))
  · refine (val_main_v121_eq (launchContents m' c)).trans (funext fun i => ?_)
    exact (congrArg _ (eta i)).trans (dt_at _ _ _ _ _ _ _ _ _ (i 0) (i 1) _ (hA c) (i 2))
  · refine (val_main_v138_eq (launchContents m' c)).trans (funext fun i => ?_)
    exact (congrArg _ (eta i)).trans (gate_at _ _ _ _ _ _ _ _ _ (i 0) (i 1) _ (hA c) (i 2))
  · refine (val_main_v139_eq (launchContents m' c)).trans (funext fun i => ?_)
    exact (congrArg _ (eta i)).trans (v_at _ _ _ _ _ _ _ _ _ (i 0) (i 1) _ (hA c) (i 2))

end Cert.Proof.ProjClaim

end
-- ==== Proof.AdaArray.lean ====
/-
  The modulation vectors: for each layer, the silu of the conditioning rows times the layer's matrix, plus its bias. The
  function on extended reals, and that the kernel's array is it.
-/
module

public import proofs.«01_k».proof.Proof.ConfSpec
public import proofs.«01_k».proof.Proof.Gen.AdaIdeal.Value
public import Idealize.ShloMosaic.Lib.StableHlo.Run
public import Idealize.ShloMosaic.Lib.Pipeline.ValueKit
public import Idealize.ShloMosaic.Lib.Pipeline.Value

@[expose] public section

set_option maxRecDepth 16384

noncomputable section

namespace Cert.AdaSpec

open Idealize.ShloMosaic Cert.ConfSpec

/-- The conditioning rows: one for each of the four samples, one for the context, and three of zeros. -/
def conds (x0 : Vec Ideal ⟨2, ![4, 1024]⟩ .f32) (x1 : Vec Ideal ⟨1, ![1024]⟩ .f32) (r : Fin 8) : Row := fun k =>
  if h : r.val < 4 then x0 (ix2 ⟨r.val, h⟩ k) else if _h : r.val - 4 < 1 then x1 (ix1 k) else 0

/-- Row `r` of the modulation of layer `l`. -/
def modulation (x0 : Vec Ideal ⟨2, ![4, 1024]⟩ .f32) (x1 : Vec Ideal ⟨1, ![1024]⟩ .f32) (x2 : Vec Ideal ⟨3, ![2, 1024, 6144]⟩ .f32)
    (x3 : Vec Ideal ⟨2, ![2, 6144]⟩ .f32) (l : Fin 2) (r : Fin 8) (n : Fin 6144) : EReal :=
  (∑ k, silu (conds x0 x1 r k) * x2 (ix3 l k n)) + x3 (ix2 l n)

end Cert.AdaSpec

namespace Cert.AdaIdeal.Body

open Cert.AdaIdeal Cert.AdaIdeal.Gen Cert.ConfSpec Cert.AdaSpec Idealize.ShloMosaic Idealize.ShloMosaic.TcCoe Idealize.SL.Sem
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

/-! ### One tile -/

theorem pay_at (x0 : Vec Ideal S8x1024 .f32) (x1 : Vec Ideal S1x1024x1536 .f32) (x2 : Vec Ideal S1x1x1536 .f32) (r : Fin 8) (n : Fin 1536) :
    k0_pay1 x0 x1 x2 (ix3 0 r n) = (∑ k, silu (x0 (ix2 r k)) * x1 (ix3 0 k n)) + x2 (ix3 0 0 n) := by
  pointwise [k0_pay1]
  simp only [zero_sub]
  rfl

theorem out_at (x0 : Vec Ideal S8x1024 .f32) (x1 : Vec Ideal S1x1024x1536 .f32) (x2 : Vec Ideal S1x1x1536 .f32) (r : Fin 8) (n : Fin 1536) :
    out0_3 x0 x1 x2 (ix3 0 r n) = (∑ k, silu (x0 (ix2 r k)) * x1 (ix3 0 k n)) + x2 (ix3 0 0 n) := by
  unfold out0_3
  rw [View.canon_unit_zero hz3]
  simp only [View.ld_unit_zero (S := S8x1024) hz2, View.ld_unit_zero (S := S1x1024x1536) hz3, View.ld_unit_zero (S := S1x1x1536) hz3]
  exact pay_at x0 x1 x2 r n

/-! ### The operands -/

variable (m : (ℓ : Loc nD τ sig) → Buf (Elt Ideal) ℓ) (ρ : Dev nD → PrngReg) (c : Dev nD) (t : Fin cfg0.N)

theorem V2_at (r : Fin 8) (k : Fin 1024) : V m c main_v2 (ix2 r k)
    = conds (m ((c : Thread nD τ).loc main_arg0)) (m ((c : Thread nD τ).loc main_arg1)) r k := by
  unfold conds
  unfold_abbrev_sides
  simp only [hostOps0]
  after_results
  pointwise
  after_results_simp
  pointwise

theorem V3_at (l : Fin 2) (n : Fin 6144) : V m c main_v3 (ix3 l 0 n)
    = (m ((c : Thread nD τ).loc main_arg3) : Vec Ideal S2x6144 .f32) (ix2 l n) := by
  unfold_abbrev_sides
  simp only [hostOps0]
  after_results
  pointwise

theorem lt8 : t.val < 8 := t.isLt

/-- The layer of grid point `t`, and the column of the layer's matrix that column `n` of its block is. -/
abbrev lay : Fin 2 := ⟨t.val / 4, by have := lt8 t; omega⟩
abbrev col (n : Fin 1536) : Fin 6144 := ⟨t.val % 4 * 1536 + n.val, by omega⟩

theorem zero_off {r : ℕ} {f : Fin r → ℕ} (h : ∀ a, f a = 0) : f = fun _ => 0 := funext h

theorem block0 : (iblk m c 0 t : Vec Ideal S8x1024 .f32) = V m c main_v2 :=
  Memref.read_access_unit_zero (Elt Ideal) main_v2 (zero_off fun a => by fin_cases a <;> rfl) _ _

theorem index1 : win0_1.index t 0 = t.val / 4 ∧ win0_1.index t 1 = 0 ∧ win0_1.index t 2 = t.val % 4 := by
  have h : ∀ t : Fin cfg0.N, win0_1.index t 0 = t.val / 4 ∧ win0_1.index t 1 = 0 ∧ win0_1.index t 2 = t.val % 4 := by
    decide +kernel
  exact h t

theorem index2 : win0_2.index t 0 = t.val / 4 ∧ win0_2.index t 1 = 0 ∧ win0_2.index t 2 = t.val % 4 := by
  have h : ∀ t : Fin cfg0.N, win0_2.index t 0 = t.val / 4 ∧ win0_2.index t 1 = 0 ∧ win0_2.index t 2 = t.val % 4 := by
    decide +kernel
  exact h t

theorem index3 : win0_3.index t 0 = t.val / 4 ∧ win0_3.index t 1 = 0 ∧ win0_3.index t 2 = t.val % 4 := by
  have h : ∀ t : Fin cfg0.N, win0_3.index t 0 = t.val / 4 ∧ win0_3.index t 1 = 0 ∧ win0_3.index t 2 = t.val % 4 := by
    decide +kernel
  exact h t

theorem block1_at (k : Fin 1024) (n : Fin 1536) : (iblk m c 1 t : Vec Ideal S1x1024x1536 .f32) (ix3 0 k n)
    = (m ((c : Thread nD τ).loc main_arg2) : Vec Ideal S2x1024x6144 .f32) (ix3 (lay t) k (col t n)) := by
  rw [← V_main_arg2 m c]
  obtain ⟨h0, h1, h2⟩ := index1 t
  unfold iblk
  rw [View.read_apply]
  show V m c main_arg2 _ = V m c main_arg2 _
  congr 1
  funext a
  apply Fin.ext
  match a with
  | ⟨0, _⟩ => show win0_1.index t 0 * 1 + 1 * 0 = t.val / 4; rw [h0]; omega
  | ⟨1, _⟩ => show win0_1.index t 1 * 1024 + 1 * k.val = k.val; rw [h1]; omega
  | ⟨2, _⟩ => show win0_1.index t 2 * 1536 + 1 * n.val = t.val % 4 * 1536 + n.val; rw [h2]; omega

theorem block2_at (n : Fin 1536) : (iblk m c 2 t : Vec Ideal S1x1x1536 .f32) (ix3 0 0 n)
    = (m ((c : Thread nD τ).loc main_arg3) : Vec Ideal S2x6144 .f32) (ix2 (lay t) (col t n)) := by
  rw [← V3_at m c (lay t) (col t n)]
  obtain ⟨h0, h1, h2⟩ := index2 t
  unfold iblk
  rw [View.read_apply]
  show V m c main_v3 _ = V m c main_v3 _
  congr 1
  funext a
  apply Fin.ext
  match a with
  | ⟨0, _⟩ => show win0_2.index t 0 * 1 + 1 * 0 = t.val / 4; rw [h0]; omega
  | ⟨1, _⟩ => show win0_2.index t 1 * 1 + 1 * 0 = 0; rw [h1]
  | ⟨2, _⟩ => show win0_2.index t 2 * 1536 + 1 * n.val = t.val % 4 * 1536 + n.val; rw [h2]; omega

/-! ### The array -/

/-- The modulation of the memory the kernel is launched on. -/
abbrev here (l : Fin 2) (r : Fin 8) (n : Fin 6144) : EReal :=
  modulation (m ((c : Thread nD τ).loc main_arg0)) (m ((c : Thread nD τ).loc main_arg1)) (m ((c : Thread nD τ).loc main_arg2)) (m ((c : Thread nD τ).loc main_arg3)) l r n

theorem val_eq (r : Fin 8) (n : Fin 1536) : out0_3 (iblk m c 0 t) (iblk m c 1 t) (iblk m c 2 t) (ix3 0 r n) = here m c (lay t) r (col t n) := by
  refine (out_at _ _ _ r n).trans ?_
  unfold here modulation
  refine congrArg₂ (· + ·) (Finset.sum_congr rfl fun k _ => ?_) (block2_at m c t n)
  refine congrArg₂ (fun a b => silu a * b) ?_ (block1_at m c t k n)
  rw [block0]
  exact V2_at m c r k

/-- An index of a block of one layer from its row and column. -/
theorem eta {a n : ℕ} (y : (⟨3, ![1, a, n]⟩ : Shape).Idx) : y = ix3 0 (y 1) (y 2) := by
  funext k
  match k with
  | ⟨0, _⟩ => exact Subsingleton.elim (α := Fin 1) _ _
  | ⟨1, _⟩ => rfl
  | ⟨2, _⟩ => rfl

def result : Buf (Elt Ideal) ((c : Thread nD τ).loc main_v4) := fun i : S2x8x6144.Idx => here m c (i 0) (i 1) (i 2)

theorem final : (dats m 0 c).arrAt 3 cfg0.N = result m c := by
  refine (dats m 0 c).arrAt_eq_of_covers 3 (result m c) (by decide +kernel) fun t hf y => ?_
  blk_simp
  obtain ⟨h0, h1, h2⟩ := index3 t
  have hl : (dats m 0 c).after 3 t y = here m c (lay t) (y 1) (col t (y 2)) :=
    ((congrFun (after0_3 m c t) y).trans (congrArg (out0_3 (iblk m c 0 t) (iblk m c 1 t) (iblk m c 2 t)) (eta y))).trans (val_eq m c t (y 1) (y 2))
  have e0 : (((win0_3.blk t).view.emb y : S2x8x6144.Idx) 0) = lay t := Fin.ext (by
    show win0_3.index t 0 * 1 + 1 * (y 0).val = t.val / 4
    have : (y 0).val < 1 := (y 0).isLt
    omega)
  have e1 : (((win0_3.blk t).view.emb y : S2x8x6144.Idx) 1) = (y 1 : Fin 8) := Fin.ext (by
    show win0_3.index t 1 * 8 + 1 * (y 1).val = (y 1).val
    omega)
  have e2 : (((win0_3.blk t).view.emb y : S2x8x6144.Idx) 2) = col t (y 2) := Fin.ext (by
    show win0_3.index t 2 * 1536 + 1 * (y 2).val = t.val % 4 * 1536 + (y 2).val
    omega)
  unfold result
  rw [hl, e0, e1, e2]

theorem run : θ_run defs (onTc (τ := τ) (main (F := Ideal))) ⟨m, fun _ => 0, ρ⟩ fun r => ∀ c : Dev nD,
    r.2.mem ((c : Thread nD τ).loc main_v4) = result m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  (θ_run defs _ _).mono (fun _ h c => ⟨(h c).1.trans (final m c), (h c).2⟩) (Value.run_blocks m ρ)

end Cert.AdaIdeal.Body

end
-- ==== Proof.AdaClaim.lean ====
/-
  The modulation's claim: the kernel and the reference leave the same array.
-/
module

public import proofs.«01_k».proof.Defs
public import proofs.«01_k».proof.Proof.AdaArray
public import proofs.«01_k».proof.Proof.Gen.AdaRefIdeal.Read
import Idealize.ShloMosaic.Lib.Pointwise

@[expose] public section

set_option maxRecDepth 16384

noncomputable section

namespace Cert.AdaRefIdeal.Value

open Cert.AdaRefIdeal Cert.AdaRefIdeal.Gen Cert.AdaRefIdeal.Read Cert.ConfSpec Cert.AdaSpec Idealize.ShloMosaic Idealize.ShloMosaic.TcCoe

variable (x0 : Vec Ideal S4x1024 .f32) (x1 : Vec Ideal S1024 .f32) (x2 : Vec Ideal S2x1024x6144 .f32) (x3 : Vec Ideal S2x6144 .f32)

theorem cond_at (r : Fin 8) (k : Fin 1024) : val_main_v2 (F := Ideal) x0 x1 (ix2 r k) = conds x0 x1 r k := by
  unfold conds
  pointwise [val_main_v0, val_main_cst, val_main_v1, val_main_v2]

theorem layer0_at (r : Fin 8) (n : Fin 6144) : val_main_v21 (F := Ideal) x0 x1 x2 x3 (ix3 0 r n) = modulation x0 x1 x2 x3 0 r n := by
  have hu : ∀ k, val_main_v2 (F := Ideal) x0 x1 (ix2 r k) = _ := cond_at x0 x1 r
  pointwise [val_main_call0_v0, val_main_call0_v1, val_main_call0_cst, val_main_call0_v2, val_main_call0_v3, val_main_call0_cst_0,
    val_main_call0_v4, val_main_call0_v5, val_main_v3, val_main_v4, val_main_v5, val_main_v6, val_main_v7, val_main_v8, val_main_v9,
    val_main_v10, val_main_v11, val_main_v21, hu]
  rfl

theorem layer1_at (r : Fin 8) (n : Fin 6144) : val_main_v22 (F := Ideal) x0 x1 x2 x3 (ix3 0 r n) = modulation x0 x1 x2 x3 1 r n := by
  have hu : ∀ k, val_main_v2 (F := Ideal) x0 x1 (ix2 r k) = _ := cond_at x0 x1 r
  pointwise [val_main_call1_v0, val_main_call1_v1, val_main_call1_cst, val_main_call1_v2, val_main_call1_v3, val_main_call1_cst_0,
    val_main_call1_v4, val_main_call1_v5, val_main_v12, val_main_v13, val_main_v14, val_main_v15, val_main_v16, val_main_v17,
    val_main_v18, val_main_v19, val_main_v20, val_main_v22, hu]
  rfl

theorem result_at (l : Fin 2) (r : Fin 8) (n : Fin 6144) : val_main_v23 (F := Ideal) x0 x1 x2 x3 (ix3 l r n) = modulation x0 x1 x2 x3 l r n := by
  have h0 := layer0_at x0 x1 x2 x3 r n
  have h1 := layer1_at x0 x1 x2 x3 r n
  fin_cases l
  · exact Eq.trans (by pointwise [val_main_v23]) h0
  · exact Eq.trans (by pointwise [val_main_v23]) h1

end Cert.AdaRefIdeal.Value

namespace Cert.Proof.AdaClaim

open Cert.AdaRefIdeal.Read Cert.AdaRefIdeal.Value Idealize.ShloMosaic Idealize.ShloMosaic.TcCoe Idealize.SL.Sem
open Idealize.ShloMosaic.StableHlo

/-- An index of three axes from its coordinates. -/
theorem eta {a b n : ℕ} (i : (⟨3, ![a, b, n]⟩ : Shape).Idx) : i = ix3 (i 0) (i 1) (i 2) := by
  funext k
  match k with
  | ⟨0, _⟩ => rfl
  | ⟨1, _⟩ => rfl
  | ⟨2, _⟩ => rfl

theorem algebraic [Cert.AdaIdeal.Facts] [Cert.AdaRefIdeal.Facts] : Cert.algebraic_AdaIdeal_AdaRefIdeal := by
  intro m g m' g' _ hagree
  refine ⟨fun c => Cert.AdaIdeal.Body.result m c, Cert.AdaIdeal.Body.run m g, ?_⟩
  refine (θ_run Cert.AdaRefIdeal.defs _ _).mono (fun _ h c => ⟨(h c).1.trans ?_, (h c).2⟩) (Cert.AdaRefIdeal.Value.run (F := Ideal) m' g')
  obtain ⟨h0, h1, h2, h3⟩ := hagree c
  rw [h0, h1, h2, h3]
  refine (val_main_v23_eq _ _ _ _).trans (funext fun i => ?_)
  exact (congrArg _ (eta i)).trans (result_at _ _ _ _ (i 0) (i 1) (i 2))

end Cert.Proof.AdaClaim

end
-- ==== Proof.MlpBody.lean ====
/-
  What one grid point of the MLP kernel leaves: its tile's rows, plus the gate times the squared-ReLU MLP of the modulated
  rows. The MLP's inner rows pass through a scratch buffer, written in four column blocks and read whole.
-/
module

public import proofs.«01_k».proof.Proof.ConfSpec
public import proofs.«01_k».proof.Proof.Gen.MlpIdeal.Value
public import Idealize.ShloMosaic.Lib.WritesUnit
public import Idealize.ShloMosaic.Lib.Pipeline.Value

@[expose] public section

set_option maxRecDepth 16384
set_option maxHeartbeats 1000000

noncomputable section

namespace Cert.MlpSpec

open Cert.ConfSpec Idealize.ShloMosaic

/-- A row of the context stream after the layer's MLP. -/
def after (h g sh sc gate : Row) (w1 : Fin 1024 → Fin 4096 → EReal) (w2 : Fin 4096 → Row) : Row := fun n =>
  h n + gate n * mlp (modulate h g sh sc) w1 w2 n

end Cert.MlpSpec

namespace Cert.MlpIdeal.Body

open Cert.MlpIdeal Cert.MlpIdeal.Gen Cert.ConfSpec Cert.MlpSpec Idealize.ShloMosaic Idealize.ShloMosaic.TcCoe

theorem hz2 : (![0, 0] : Fin 2 → Nat) = fun _ => 0 := funext fun a => by fin_cases a <;> rfl
theorem hz3 : (![0, 0, 0] : Fin 3 → Nat) = fun _ => 0 := funext fun a => by fin_cases a <;> rfl

theorem ld_mods (X : Vec Ideal S1x1x6144 .f32) (o : ℕ) (ho : o ≤ 5120) (h) (k : Fin 1024) :
    View.ld X (Rect.unit ![0, 0, o] ![1, 1, 1024] h) (ix3 0 0 k) = X (ix3 0 0 ⟨o + k.val, by omega⟩) := by
  pointwise

theorem ld_up (X : Vec Ideal S1024x4096 .bf16) (o : ℕ) (ho : o ≤ 3072) (h) (k j : Fin 1024) :
    View.ld X (Rect.unit ![0, o] ![1024, 1024] h) (ix2 k j) = X (ix2 k ⟨o + j.val, by omega⟩) := by
  pointwise

/-! ### The body's vectors at an index -/

/-- The squared ReLU of one inner column. -/
def inner (u : Row) (w : Fin 1024 → EReal) : EReal := max (∑ k, u k * w k) 0 * max (∑ k, u k * w k) 0

theorem um_at (h : Vec Ideal S1x256x1024 .f32) (g : Vec Ideal S1x1024 .f32) (sh sc : Vec Ideal S1x1x1024 .f32) (r : Fin 256) (k : Fin 1024) :
    k0_pay3 h g sh sc (ix2 r k)
      = modulate (fun j => h (ix3 0 r j)) (fun j => g (ix2 0 j)) (fun j => sh (ix3 0 0 j)) (fun j => sc (ix3 0 0 j)) k := by
  pointwise [k0_pay3, k0_pay2]
  rfl

theorem inner0_at (h : Vec Ideal S1x256x1024 .f32) (g : Vec Ideal S1x1024 .f32) (sh sc : Vec Ideal S1x1x1024 .f32) (w : Vec Ideal S1024x1024 .bf16)
    (r : Fin 256) (j : Fin 1024) :
    k0_pay4 h g sh sc w (ix2 r j) = inner (fun k => k0_pay3 h g sh sc (ix2 r k)) (fun k => w (ix2 k j)) := by
  generalize hu : k0_pay3 h g sh sc = u
  pointwise [k0_pay4, hu]
  rfl

theorem inner1_at (u : FVec Ideal S256x1024 .bf16) (w : Vec Ideal S1024x1024 .bf16) (r : Fin 256) (j : Fin 1024) :
    k0_pay5 u w (ix2 r j) = inner (fun k => u (ix2 r k)) (fun k => w (ix2 k j)) := by
  pointwise [k0_pay5]
  rfl

theorem inner2_at (u : FVec Ideal S256x1024 .bf16) (w : Vec Ideal S1024x1024 .bf16) (r : Fin 256) (j : Fin 1024) :
    k0_pay6 u w (ix2 r j) = inner (fun k => u (ix2 r k)) (fun k => w (ix2 k j)) := by
  pointwise [k0_pay6]
  rfl

theorem inner3_at (u : FVec Ideal S256x1024 .bf16) (w : Vec Ideal S1024x1024 .bf16) (r : Fin 256) (j : Fin 1024) :
    k0_pay7 u w (ix2 r j) = inner (fun k => u (ix2 r k)) (fun k => w (ix2 k j)) := by
  pointwise [k0_pay7]
  rfl

theorem down_at (h : Vec Ideal S1x256x1024 .f32) (gate : Vec Ideal S1x1x1024 .f32) (a : Vec Ideal S256x4096 .bf16) (w : Vec Ideal S4096x1024 .bf16)
    (r : Fin 256) (n : Fin 1024) :
    k0_pay1 (k0_pay2 h) (k0_pay8 gate) a w (ix3 0 r n) = h (ix3 0 r n) + gate (ix3 0 0 n) * ∑ j, a (ix2 r j) * w (ix2 j n) := by
  pointwise [k0_pay1, k0_pay2, k0_pay8]

/-! ### The scratch buffer -/

/-- Four column blocks written side by side, then read whole: row `r` is `g` where the blocks' rows are the quarters of `g`. -/
theorem scratch_at (v : View sig .tc .vmem S256x4096 .bf16) (w0 w1 w2 w3 : Vec Ideal S256x1024 .bf16) (i0) (i1) (i2) (i3) (iw) (r : Fin 256)
    (g : Fin 4096 → EReal) (h0 : ∀ j : Fin 1024, w0 (ix2 r j) = g ⟨0 + j.val, by omega⟩) (h1 : ∀ j : Fin 1024, w1 (ix2 r j) = g ⟨1024 + j.val, by omega⟩)
    (h2 : ∀ j : Fin 1024, w2 (ix2 r j) = g ⟨2048 + j.val, by omega⟩) (h3 : ∀ j : Fin 1024, w3 (ix2 r j) = g ⟨3072 + j.val, by omega⟩)
    (j : Fin 4096) :
    v.readCov (Val := Elt Ideal) [⟨Rect.unit ![0, 3072] ![256, 1024] i3, w3⟩, ⟨Rect.unit ![0, 2048] ![256, 1024] i2, w2⟩,
        ⟨Rect.unit ![0, 1024] ![256, 1024] i1, w1⟩, ⟨Rect.unit ![0, 0] ![256, 1024] i0, w0⟩]
      (Rect.unit (s := S256x4096) ![0, 0] ![256, 4096] iw).toLoadRect (ix2 r j) = g j := by
  have hy : (Rect.unit (s := S256x4096) ![0, 0] ![256, 4096] iw).toLoadRect.idx (ix2 r j) = (ix2 r j : S256x4096.Idx) := funext fun a => Fin.ext (by
    match a with
    | ⟨0, _⟩ => show 0 + 1 * r.val = r.val; omega
    | ⟨1, _⟩ => show 0 + 1 * j.val = j.val; omega)
  have hin : ∀ (o : ℕ) (w : Vec Ideal S256x1024 .bf16) (i) (L) (_ : ∀ j' : Fin 1024, ∀ h, w (ix2 r j') = g ⟨o + j'.val, h⟩) (_ : o ≤ j.val)
      (_ : j.val < o + 1024), v.read (Elt Ideal) (v.writes (Elt Ideal) v.junk (⟨Rect.unit ![0, o] ![256, 1024] i, w⟩ :: L)) (ix2 r j) = g j := by
    intro o w i L hw ho hj
    refine (View.read_writes_cons_unit_of_mem v v.junk i w L (ix2 r j) (ix2 r ⟨j.val - o, by omega⟩) rfl (Fin.forall_fin_two.mpr ⟨?_, ?_⟩)).trans ?_
    · exact (Nat.zero_add _).symm
    · show j.val = o + (j.val - o)
      omega
    · exact (hw _ (by show o + (j.val - o) < 4096; omega)).trans (congrArg g (Fin.ext (by show o + (j.val - o) = j.val; omega)))
  have hout : ∀ (o : ℕ) (w : Vec Ideal S256x1024 .bf16) (i) (L) (_ : j.val < o),
      v.read (Elt Ideal) (v.writes (Elt Ideal) v.junk (⟨Rect.unit ![0, o] ![256, 1024] i, w⟩ :: L)) (ix2 r j)
        = v.read (Elt Ideal) (v.writes (Elt Ideal) v.junk L) (ix2 r j) :=
    fun o w i L hj => View.read_writes_cons_unit_of_not_mem v v.junk i w L (ix2 r j) rfl (1 : Fin 2) (Or.inl hj)
  refine (congrArg (v.read (Elt Ideal) (v.writes (Elt Ideal) v.junk _)) hy).trans ?_
  by_cases c3 : j.val < 3072
  · refine (hout 3072 w3 i3 _ c3).trans ?_
    by_cases c2 : j.val < 2048
    · refine (hout 2048 w2 i2 _ c2).trans ?_
      by_cases c1 : j.val < 1024
      · exact (hout 1024 w1 i1 _ c1).trans (hin 0 w0 i0 _ (fun j' _ => h0 j') (by omega) (by omega))
      · exact hin 1024 w1 i1 _ (fun j' _ => h1 j') (by omega) (by omega)
    · exact hin 2048 w2 i2 _ (fun j' _ => h2 j') (by omega) (by omega)
  · exact hin 3072 w3 i3 _ (fun j' _ => h3 j') (by omega) (by omega)

/-! ### The body -/

section
variable (c : Dev nD) (i : grid0.Coords) (arg2 : Memref sig .tc .vmem S1x256x1024 .f32) (harg2 : arg2.IsWhole) (arg3 : Memref
    sig .tc .vmem S1x1x6144 .f32) (harg3 : arg3.IsWhole) (arg4 : Memref sig .tc .vmem S1x1024 .f32) (harg4 : arg4.IsWhole) (arg5
    : Memref sig .tc .vmem S1024x4096 .bf16) (harg5 : arg5.IsWhole) (arg6 : Memref sig .tc .vmem S4096x1024 .bf16) (harg6 :
    arg6.IsWhole) (arg7 : Memref sig .tc .vmem S1x1024 .f32) (harg7 : arg7.IsWhole) (arg8 : Memref sig .tc .vmem S1x256x1024
    .f32) (harg8 : arg8.IsWhole) (arg9 : Memref sig .tc .vmem S256x4096 .bf16) (harg9 : arg9.IsWhole)
    (x0 : Vec Ideal S1x256x1024 .f32) (x1 : Vec Ideal S1x1x6144 .f32) (x2 : Vec Ideal S1x1024 .f32) (x3 : Vec Ideal S1024x4096 .bf16)
    (x4 : Vec Ideal S4096x1024 .bf16) (x5 : Vec Ideal S1x1024 .f32)

theorem out_at (r : Fin 256) (n : Fin 1024) :
    out0_A_6 (F := Ideal) c i arg2 harg2 arg3 harg3 arg4 harg4 arg5 harg5 arg6 harg6 arg7 harg7 arg8 harg8 arg9 harg9
      x0 x1 x2 x3 x4 x5 (ix3 0 r n)
      = after (fun k => x0 (ix3 0 r k)) (fun k => x2 (ix2 0 k)) (fun k => x1 (ix3 0 0 ⟨3072 + k.val, by omega⟩))
          (fun k => x1 (ix3 0 0 ⟨4096 + k.val, by omega⟩)) (fun k => x1 (ix3 0 0 ⟨5120 + k.val, by omega⟩))
          (fun k j => x3 (ix2 k j)) (fun j k => x4 (ix2 j k)) n := by
  unfold out0_A_6
  rw [View.read_writes_eq_canon _ _ _ (cover0_A_6 c i arg2 harg2 arg3 harg3 arg4 harg4 arg5 harg5 arg6 harg6 arg7 harg7 arg8 harg8 arg9 harg9 x0 x1 x2 x3 x4 x5)]
  unfold kernelRun0_A
  dsimp only
  rw [View.canon_unit_zero hz3]
  sl_unfold_words
  simp only [View.readAt_eq_ld, harg2.read_unread, harg3.read_unread, harg4.read_unread, harg5.read_unread, harg6.read_unread, harg7.read_unread]
  simp only [View.ld_unit_zero (S := S1x256x1024) hz3, View.ld_unit_zero (S := S1x1024) hz2, View.ld_unit_zero (S := S4096x1024) hz2,
    View.ld_unit_zero (S := S256x4096) hz2]
  refine (down_at _ _ _ _ r n).trans ?_
  unfold after mlp
  refine congrArg₂ (fun a b => x0 (ix3 0 r n) + a * b) (ld_mods x1 5120 (by omega) _ n) (Finset.sum_congr rfl fun j _ => ?_)
  refine congrArg (· * x4 (ix2 j n)) (scratch_at arg9.view _ _ _ _ _ _ _ _ _ r (fun j => inner (modulate (fun k => x0 (ix3 0 r k)) (fun k => x2 (ix2 0 k))
    (fun k => x1 (ix3 0 0 ⟨3072 + k.val, by omega⟩)) (fun k => x1 (ix3 0 0 ⟨4096 + k.val, by omega⟩))) (fun k => x3 (ix2 k j))) ?_ ?_ ?_ ?_ j)
  · intro q
    simp only [inner0_at, um_at, ld_mods x1 3072 (by omega), ld_mods x1 4096 (by omega), ld_up x3 0 (by omega)]
  · intro q
    simp only [inner1_at, um_at, ld_mods x1 3072 (by omega), ld_mods x1 4096 (by omega), ld_up x3 1024 (by omega)]
  · intro q
    simp only [inner2_at, um_at, ld_mods x1 3072 (by omega), ld_mods x1 4096 (by omega), ld_up x3 2048 (by omega)]
  · intro q
    simp only [inner3_at, um_at, ld_mods x1 3072 (by omega), ld_mods x1 4096 (by omega), ld_up x3 3072 (by omega)]

end

end Cert.MlpIdeal.Body

end
-- ==== Proof.MlpHost.lean ====
/-
  The MLP kernel's operands: what each window's block holds, from the call's arguments.
-/
module

public import proofs.«01_k».proof.Proof.Gen.MlpIdeal.Value
public import proofs.«01_k».proof.Proof.ConfSpec
public import Idealize.ShloMosaic.Lib.StableHlo.Run

@[expose] public section

set_option maxRecDepth 16384

noncomputable section

namespace Cert.MlpIdeal.Body

open Cert.MlpIdeal Cert.MlpIdeal.Gen Idealize.ShloMosaic Idealize.ShloMosaic.TcCoe

variable (m : (ℓ : Loc nD τ sig) → Buf (Elt Ideal) ℓ) (c : Dev nD) (t : Fin cfg0.N)

theorem V8_at (k : Fin 1024) : V m c main_v8 (ix2 0 k)
    = (m ((c : Thread nD τ).loc main_arg2) : Vec Ideal S2x1024 .f32) (ix2 0 k) := by
  unfold_abbrev_sides
  simp only [hostOps0, List.flatten_cons, List.flatten_nil, List.append_nil, List.cons_append, List.nil_append]
  after_results
  pointwise

theorem V4_at (k : Fin 1024) (j : Fin 4096) : V m c main_v4 (ix2 k j)
    = (m ((c : Thread nD τ).loc main_arg3) : Vec Ideal S2x1024x4096 .f32) (ix3 0 k j) := by
  unfold_abbrev_sides
  simp only [hostOps0, List.flatten_cons, List.flatten_nil, List.append_nil, List.cons_append, List.nil_append]
  after_results
  pointwise

theorem V7_at (j : Fin 4096) (n : Fin 1024) : V m c main_v7 (ix2 j n)
    = (m ((c : Thread nD τ).loc main_arg4) : Vec Ideal S2x4096x1024 .f32) (ix3 0 j n) := by
  unfold_abbrev_sides
  simp only [hostOps0, List.flatten_cons, List.flatten_nil, List.append_nil, List.cons_append, List.nil_append]
  after_results
  pointwise

theorem lt4 : t.val < 4 := t.isLt

/-- The sample of grid point `t`. -/
abbrev smp : Fin 4 := ⟨t.val, lt4 t⟩

theorem zero_off {r : ℕ} {f : Fin r → ℕ} (h : ∀ a, f a = 0) : f = fun _ => 0 := funext h

theorem block2 : (iblk m c 2 t : Vec Ideal S1x1024 .f32) = V m c main_v8 :=
  Memref.read_access_unit_zero (Elt Ideal) main_v8 (zero_off fun a => by fin_cases a <;> rfl) _ _

theorem block3 : (iblk m c 3 t : Vec Ideal S1024x4096 .bf16) = V m c main_v4 :=
  Memref.read_access_unit_zero (Elt Ideal) main_v4 (zero_off fun a => by fin_cases a <;> rfl) _ _

theorem block4 : (iblk m c 4 t : Vec Ideal S4096x1024 .bf16) = V m c main_v7 :=
  Memref.read_access_unit_zero (Elt Ideal) main_v7 (zero_off fun a => by fin_cases a <;> rfl) _ _

theorem index0 : win0_0.index t 0 = t.val ∧ win0_0.index t 1 = 0 ∧ win0_0.index t 2 = 0 := by
  have h : ∀ t : Fin cfg0.N, win0_0.index t 0 = t.val ∧ win0_0.index t 1 = 0 ∧ win0_0.index t 2 = 0 := by decide +kernel
  exact h t

theorem index1 : win0_1.index t 0 = 4 ∧ win0_1.index t 1 = 0 ∧ win0_1.index t 2 = 0 := by
  have h : ∀ t : Fin cfg0.N, win0_1.index t 0 = 4 ∧ win0_1.index t 1 = 0 ∧ win0_1.index t 2 = 0 := by decide +kernel
  exact h t

theorem index6 : win0_6.index t 0 = t.val ∧ win0_6.index t 1 = 0 ∧ win0_6.index t 2 = 0 := by
  have h : ∀ t : Fin cfg0.N, win0_6.index t 0 = t.val ∧ win0_6.index t 1 = 0 ∧ win0_6.index t 2 = 0 := by decide +kernel
  exact h t

theorem block0_at (r : Fin 256) (k : Fin 1024) : (iblk m c 0 t : Vec Ideal S1x256x1024 .f32) (ix3 0 r k)
    = (m ((c : Thread nD τ).loc main_arg0) : Vec Ideal S4x256x1024 .f32) (ix3 (smp t) r k) := by
  rw [← V_main_arg0 m c]
  obtain ⟨h0, h1, h2⟩ := index0 t
  unfold iblk
  rw [View.read_apply]
  show V m c main_arg0 _ = V m c main_arg0 _
  congr 1
  funext a
  apply Fin.ext
  match a with
  | ⟨0, _⟩ => show win0_0.index t 0 * 1 + 1 * 0 = t.val; rw [h0]; omega
  | ⟨1, _⟩ => show win0_0.index t 1 * 256 + 1 * r.val = r.val; rw [h1]; omega
  | ⟨2, _⟩ => show win0_0.index t 2 * 1024 + 1 * k.val = k.val; rw [h2]; omega

theorem block1_at (k : Fin 6144) : (iblk m c 1 t : Vec Ideal S1x1x6144 .f32) (ix3 0 0 k)
    = (m ((c : Thread nD τ).loc main_arg1) : Vec Ideal S16x1x6144 .f32) (ix3 4 0 k) := by
  rw [← V_main_arg1 m c]
  obtain ⟨h0, h1, h2⟩ := index1 t
  unfold iblk
  rw [View.read_apply]
  show V m c main_arg1 _ = V m c main_arg1 _
  congr 1
  funext a
  apply Fin.ext
  match a with
  | ⟨0, _⟩ => show win0_1.index t 0 * 1 + 1 * 0 = 4; rw [h0]
  | ⟨1, _⟩ => show win0_1.index t 1 * 1 + 1 * 0 = 0; rw [h1]
  | ⟨2, _⟩ => show win0_1.index t 2 * 6144 + 1 * k.val = k.val; rw [h2]; omega

end Cert.MlpIdeal.Body

end
-- ==== Proof.MlpArray.lean ====
/-
  The MLP kernel's array: at every sample, row and column, the context stream's row after the layer's MLP.
-/
module

public import proofs.«01_k».proof.Proof.MlpBody
public import proofs.«01_k».proof.Proof.MlpHost
public import Idealize.ShloMosaic.Lib.Pipeline.ValueKit

@[expose] public section

set_option maxRecDepth 16384

noncomputable section

namespace Cert.MlpSpec

open Cert.ConfSpec Idealize.ShloMosaic

/-- Row `r` of sample `b` after the MLP, from the call's arguments: row 4 of the modulation vectors, the first layer's weights. -/
def row (x0 : Vec Ideal ⟨3, ![4, 256, 1024]⟩ .f32) (x1 : Vec Ideal ⟨3, ![16, 1, 6144]⟩ .f32) (x2 : Vec Ideal ⟨2, ![2, 1024]⟩ .f32)
    (x3 : Vec Ideal ⟨3, ![2, 1024, 4096]⟩ .f32) (x4 : Vec Ideal ⟨3, ![2, 4096, 1024]⟩ .f32) (b : Fin 4) (r : Fin 256) : Row :=
  after (fun k => x0 (ix3 b r k)) (fun k => x2 (ix2 0 k)) (fun k => x1 (ix3 4 0 ⟨3072 + k.val, by omega⟩))
    (fun k => x1 (ix3 4 0 ⟨4096 + k.val, by omega⟩)) (fun k => x1 (ix3 4 0 ⟨5120 + k.val, by omega⟩))
    (fun k j => x3 (ix3 0 k j)) (fun j k => x4 (ix3 0 j k))

end Cert.MlpSpec

namespace Cert.MlpIdeal.Body

open Cert.MlpIdeal Cert.MlpIdeal.Gen Cert.ConfSpec Cert.MlpSpec Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD) (t : Fin cfg0.N)

/-- The rows from the memory the kernel is launched on. -/
abbrev here (b : Fin 4) (r : Fin 256) (n : Fin 1024) : EReal :=
  row (m ((c : Thread nD τ).loc main_arg0)) (m ((c : Thread nD τ).loc main_arg1)) (m ((c : Thread nD τ).loc main_arg2)) (m ((c : Thread nD τ).loc main_arg3)) (m ((c : Thread nD τ).loc main_arg4)) b r n

theorem val_eq (r : Fin 256) (n : Fin 1024) : outsAt0 m c t (ix3 0 r n) = here m c (smp t) r n := by
  unfold outsAt0
  refine (out_at c (grid0.coords t) _ _ _ _ _ _ _ _ _ _ _ _ _ _ _ _ _ _ _ _ _ _ r n).trans ?_
  unfold here row
  simp only [block0_at, block1_at, block2, block3, block4]
  have e2 := funext fun k => V8_at m c k
  have e3 := funext fun k => funext fun j => V4_at m c k j
  have e4 := funext fun j => funext fun k => V7_at m c j k
  exact congr (congr (congrArg₂ (fun g w => after _ g _ _ _ w) e2 e3) e4) rfl

/-- An index of a block of one sample from its row and column. -/
theorem eta {a n : ℕ} (y : (⟨3, ![1, a, n]⟩ : Shape).Idx) : y = ix3 0 (y 1) (y 2) := by
  funext k
  match k with
  | ⟨0, _⟩ => exact Subsingleton.elim (α := Fin 1) _ _
  | ⟨1, _⟩ => rfl
  | ⟨2, _⟩ => rfl

def result : Buf (Elt Ideal) ((c : Thread nD τ).loc main_v10) := fun i : S4x256x1024.Idx => here m c (i 0) (i 1) (i 2)

theorem final : (dats m 0 c).arrAt 6 cfg0.N = result m c := by
  refine (dats m 0 c).arrAt_eq_of_covers 6 (result m c) (by decide +kernel) fun t hf y => ?_
  blk_simp
  obtain ⟨h0, h1, h2⟩ := index6 t
  have hl : (dats m 0 c).after 6 t y = here m c (smp t) (y 1) (y 2) :=
    ((congrFun (after0_6 m c t) y).trans (congrArg (outsAt0 m c t) (eta y))).trans (val_eq m c t (y 1) (y 2))
  have e0 : (((win0_6.blk t).view.emb y : S4x256x1024.Idx) 0) = smp t := Fin.ext (by
    show win0_6.index t 0 * 1 + 1 * (y 0).val = t.val
    have : (y 0).val < 1 := (y 0).isLt
    omega)
  have e1 : (((win0_6.blk t).view.emb y : S4x256x1024.Idx) 1) = (y 1 : Fin 256) := Fin.ext (by
    show win0_6.index t 1 * 256 + 1 * (y 1).val = (y 1).val
    omega)
  have e2 : (((win0_6.blk t).view.emb y : S4x256x1024.Idx) 2) = (y 2 : Fin 1024) := Fin.ext (by
    show win0_6.index t 2 * 1024 + 1 * (y 2).val = (y 2).val
    omega)
  unfold result
  rw [hl, e0, e1, e2]

theorem run : θ_run defs (onTc (τ := τ) (main (F := Ideal))) ⟨m, fun _ => 0, ρ⟩ fun r => ∀ c : Dev nD,
    r.2.mem ((c : Thread nD τ).loc main_v10) = result m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5) :=
  (θ_run defs _ _).mono (fun _ h c => ⟨(h c).1.trans (final m c), (h c).2⟩) (Value.run_blocks m ρ)

end Cert.MlpIdeal.Body

end
-- ==== Proof.MlpClaim.lean ====
/-
  The context stream's MLP: the reference leaves the rows of the specification, and so the kernel and the reference leave
  the same array.
-/
module

public import proofs.«01_k».proof.Defs
public import proofs.«01_k».proof.Proof.MlpArray
public import proofs.«01_k».proof.Proof.Gen.MlpRefIdeal.Read
import Idealize.ShloMosaic.Lib.Pointwise

@[expose] public section

set_option maxRecDepth 16384

noncomputable section

namespace Cert.MlpRefIdeal.Value

open Cert.MlpRefIdeal Cert.MlpRefIdeal.Gen Cert.MlpRefIdeal.Read Cert.ConfSpec Cert.MlpSpec Idealize.ShloMosaic Idealize.ShloMosaic.TcCoe

variable (x0 : Vec Ideal S4x256x1024 .f32) (x1 : Vec Ideal S16x1x6144 .f32) (x2 : Vec Ideal S2x1024 .f32)
    (x3 : Vec Ideal S2x1024x4096 .f32) (x4 : Vec Ideal S2x4096x1024 .f32) (b : Fin 4) (r : Fin 256)

theorem mod_at (k : Fin 1024) : val_main_v30 (F := Ideal) x0 x1 x2 (ix3 b r k)
    = modulate (fun k => x0 (ix3 b r k)) (fun k => x2 (ix2 0 k)) (fun k => x1 (ix3 4 0 ⟨3072 + k.val, by omega⟩))
        (fun k => x1 (ix3 4 0 ⟨4096 + k.val, by omega⟩)) k := by
  pointwise [val_main_v0, val_main_v1, val_main_v5, val_main_v6, val_main_v8, val_main_v9, val_main_v10, val_main_v11, val_main_v12,
    val_main_v13, val_main_v14, val_main_v15, val_main_v16, val_main_v17, val_main_v18, val_main_v19, val_main_v20, val_main_v21,
    val_main_v22, val_main_v23, val_main_v24, val_main_v25, val_main_v26, val_main_v27, val_main_v28, val_main_v29, val_main_v30,
    val_main_cst, val_main_cst_0, val_main_cst_1, val_main_cst_2]
  simp only [modulate, rms, mean, eps, mul_assoc]

theorem result_at (n : Fin 1024) : val_main_v42 (F := Ideal) x0 x1 x2 x3 x4 (ix3 b r n) = row x0 x1 x2 x3 x4 b r n := by
  have hu : ∀ k, val_main_v30 (F := Ideal) x0 x1 x2 (ix3 b r k) = _ := mod_at x0 x1 x2 b r
  pointwise [val_main_v0, val_main_v1, val_main_v7, val_main_v31, val_main_v32, val_main_v33, val_main_v34, val_main_v35, val_main_v36,
    val_main_v37, val_main_v38, val_main_v39, val_main_v40, val_main_v41, val_main_v42, val_main_call0_cst, val_main_call0_v0, hu]
  rfl

end Cert.MlpRefIdeal.Value

namespace Cert.Proof.MlpClaim

open Cert.MlpRefIdeal.Read Cert.MlpRefIdeal.Value Idealize.ShloMosaic Idealize.ShloMosaic.TcCoe Idealize.SL.Sem
open Idealize.ShloMosaic.StableHlo

/-- An index of three axes from its coordinates. -/
theorem eta {a b n : ℕ} (i : (⟨3, ![a, b, n]⟩ : Shape).Idx) : i = ix3 (i 0) (i 1) (i 2) := by
  funext k
  match k with
  | ⟨0, _⟩ => rfl
  | ⟨1, _⟩ => rfl
  | ⟨2, _⟩ => rfl

theorem algebraic [Cert.MlpIdeal.Facts] [Cert.MlpRefIdeal.Facts] : Cert.algebraic_MlpIdeal_MlpRefIdeal := by
  intro m g m' g' _ hagree
  refine ⟨fun c => Cert.MlpIdeal.Body.result m c, Cert.MlpIdeal.Body.run m g, ?_⟩
  refine (θ_run Cert.MlpRefIdeal.defs _ _).mono (fun _ h c => ⟨(h c).1.trans ?_, (h c).2⟩) (Cert.MlpRefIdeal.Value.run (F := Ideal) m' g')
  obtain ⟨h0, h1, h2, h3, h4, h5⟩ := hagree c
  refine (val_main_v42_eq m' c).trans ?_
  rw [h0, h1, h2, h3, h4]
  refine funext fun i => ?_
  exact (congrArg _ (eta i)).trans (result_at _ _ _ _ _ (i 0) (i 1) (i 2))

end Cert.Proof.MlpClaim

end
-- ==== Proof.lean ====
module

public import proofs.«01_k».proof.Defs
public import proofs.«01_k».proof.Proof.Gen.Conf
public import proofs.«01_k».proof.Proof.Gen.Conf.Skeleton
public import proofs.«01_k».proof.Proof.Gen.Conf.Launch
public import proofs.«01_k».proof.Proof.Gen.Conf.Points
public import proofs.«01_k».proof.Proof.Gen.Conf.Frame
public import proofs.«01_k».proof.Proof.Gen.ConfIdeal
public import proofs.«01_k».proof.Proof.Gen.ConfIdeal.Skeleton
public import proofs.«01_k».proof.Proof.Gen.ConfIdeal.Launch
public import proofs.«01_k».proof.Proof.Gen.ConfIdeal.Points
public import proofs.«01_k».proof.Proof.Gen.ConfIdeal.Frame
public import proofs.«01_k».proof.Proof.Gen.ConfRefIdeal
public import proofs.«01_k».proof.Proof.Gen.Scan
public import proofs.«01_k».proof.Proof.Gen.Scan.Skeleton
public import proofs.«01_k».proof.Proof.Gen.Scan.Launch
public import proofs.«01_k».proof.Proof.Gen.Scan.Points
public import proofs.«01_k».proof.Proof.Gen.Scan.Frame
public import proofs.«01_k».proof.Proof.Gen.ScanIdeal
public import proofs.«01_k».proof.Proof.Gen.ScanIdeal.Skeleton
public import proofs.«01_k».proof.Proof.Gen.ScanIdeal.Launch
public import proofs.«01_k».proof.Proof.Gen.ScanIdeal.Points
public import proofs.«01_k».proof.Proof.Gen.ScanIdeal.Frame
public import proofs.«01_k».proof.Proof.Gen.ScanRefIdeal
public import proofs.«01_k».proof.Proof.Gen.ConfIdeal.Value
public import proofs.«01_k».proof.Proof.Gen.ConfRefIdeal.Run
public import proofs.«01_k».proof.Proof.Gen.ConfRefIdeal.Read
public import proofs.«01_k».proof.Proof.Gen.ScanIdeal.Value
public import proofs.«01_k».proof.Proof.Gen.ScanRefIdeal.Run
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Run
public import proofs.«01_k».proof.Proof.Gen.ProjRefIdeal.Read
public import proofs.«01_k».proof.Proof.Gen.Ada
public import proofs.«01_k».proof.Proof.Gen.Ada.Frame
public import proofs.«01_k».proof.Proof.Gen.AdaIdeal
public import proofs.«01_k».proof.Proof.Gen.AdaIdeal.Frame
public import proofs.«01_k».proof.Proof.Gen.AdaIdeal.Value
public import proofs.«01_k».proof.Proof.Gen.AdaRefIdeal
public import proofs.«01_k».proof.Proof.Gen.AdaRefIdeal.Run
public import proofs.«01_k».proof.Proof.Gen.AdaRefIdeal.Read
public import proofs.«01_k».proof.Proof.Gen.Mlp
public import proofs.«01_k».proof.Proof.Gen.Mlp.Frame
public import proofs.«01_k».proof.Proof.Gen.MlpIdeal
public import proofs.«01_k».proof.Proof.Gen.MlpIdeal.Frame
public import proofs.«01_k».proof.Proof.Gen.MlpIdeal.Value
public import proofs.«01_k».proof.Proof.Gen.MlpRefIdeal
public import proofs.«01_k».proof.Proof.Gen.MlpRefIdeal.Run
public import proofs.«01_k».proof.Proof.Gen.MlpRefIdeal.Read
public import proofs.«01_k».proof.Proof.ConfClaim
public import proofs.«01_k».proof.Proof.ProjClaim
public import proofs.«01_k».proof.Proof.AdaClaim
public import proofs.«01_k».proof.Proof.MlpClaim
public import Idealize.ShloMosaic.Adequacy
public import Idealize.ShloMosaic.Init

@[expose] public section

noncomputable section

namespace Cert.Proof

open Idealize.ShloMosaic Idealize.SL.Sem

theorem frame_ConfRefIdeal [Cert.ConfRefIdeal.Facts] : Cert.quiescent_ConfRefIdeal := fun m ρ _ =>
  (θ_run Cert.ConfRefIdeal.defs _ _).mono
    (fun r h => ⟨fun c => (h c).2, Idealize.ShloMosaic.sem_eq_zero_of_no_sems (by decide) r.2⟩)
    (Cert.ConfRefIdeal.Value.run (F := Ideal) m ρ)

theorem frame_ScanRefIdeal [Cert.ScanRefIdeal.Facts] : Cert.quiescent_ScanRefIdeal := fun m ρ _ =>
  (θ_run Cert.ScanRefIdeal.defs _ _).mono
    (fun r h => ⟨fun c => (h c).2.2.2.2, Idealize.ShloMosaic.sem_eq_zero_of_no_sems (by decide) r.2⟩)
    (Cert.ScanRefIdeal.Value.run (F := Ideal) m ρ)

theorem frame_ProjRefIdeal [Cert.ProjRefIdeal.Facts] : Cert.quiescent_ProjRefIdeal := fun m ρ _ =>
  (θ_run Cert.ProjRefIdeal.defs _ _).mono
    (fun r h => ⟨fun c => (h c).2.2.2.2.2, Idealize.ShloMosaic.sem_eq_zero_of_no_sems (by decide) r.2⟩)
    (Cert.ProjRefIdeal.Value.run (F := Ideal) m ρ)

theorem frame_AdaRefIdeal [Cert.AdaRefIdeal.Facts] : Cert.quiescent_AdaRefIdeal := fun m ρ _ =>
  (θ_run Cert.AdaRefIdeal.defs _ _).mono
    (fun r h => ⟨fun c => (h c).2, Idealize.ShloMosaic.sem_eq_zero_of_no_sems (by decide) r.2⟩)
    (Cert.AdaRefIdeal.Value.run (F := Ideal) m ρ)

theorem frame_MlpRefIdeal [Cert.MlpRefIdeal.Facts] : Cert.quiescent_MlpRefIdeal := fun m ρ _ =>
  (θ_run Cert.MlpRefIdeal.defs _ _).mono
    (fun r h => ⟨fun c => (h c).2, Idealize.ShloMosaic.sem_eq_zero_of_no_sems (by decide) r.2⟩)
    (Cert.MlpRefIdeal.Value.run (F := Ideal) m ρ)

/-- The kernel's literal and the number the ideal reading gives it: the product of the reference's two literals. -/
theorem preserves_Proj : Cert.preserves_Proj_ProjIdeal :=
  IdealRules.named_const.statement Cert.ProjIdeal.κ "gelu_cubed" .f32 0x3D122279#32
    ((80338380498831 / 2251799813685248 : ℝ) : EReal) rfl

theorem claim : Cert.Claim :=
  ⟨Cert.Conf.Gen.facts, Cert.ConfIdeal.Gen.facts, Cert.ConfRefIdeal.Gen.facts, Cert.Scan.Gen.facts, Cert.ScanIdeal.Gen.facts,
    Cert.ScanRefIdeal.Gen.facts,
    Cert.Proj.Gen.facts, Cert.ProjIdeal.Gen.facts, Cert.ProjRefIdeal.Gen.facts,
    Cert.Ada.Gen.facts, Cert.AdaIdeal.Gen.facts, Cert.AdaRefIdeal.Gen.facts,
    Cert.Mlp.Gen.facts, Cert.MlpIdeal.Gen.facts, Cert.MlpRefIdeal.Gen.facts,
    fun m ρ _ => Cert.Conf.Gen.frame m ρ, fun m ρ _ => Cert.ConfIdeal.Gen.frame m ρ, frame_ConfRefIdeal,
    fun m ρ _ => Cert.Scan.Gen.frame m ρ, fun m ρ _ => Cert.ScanIdeal.Gen.frame m ρ, frame_ScanRefIdeal,
    fun m ρ _ => Cert.Proj.Gen.frame m ρ, fun m ρ _ => Cert.ProjIdeal.Gen.frame m ρ, frame_ProjRefIdeal,
    fun m ρ _ => Cert.Ada.Gen.frame m ρ, fun m ρ _ => Cert.AdaIdeal.Gen.frame m ρ, frame_AdaRefIdeal,
    fun m ρ _ => Cert.Mlp.Gen.frame m ρ, fun m ρ _ => Cert.MlpIdeal.Gen.frame m ρ, frame_MlpRefIdeal,
    trivial, Cert.Proof.ConfClaim.algebraic, trivial, preserves_Proj, Cert.Proof.ProjClaim.algebraic,
    trivial, Cert.Proof.AdaClaim.algebraic, trivial, Cert.Proof.MlpClaim.algebraic⟩

end Cert.Proof

end
